-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_routing_sample [hPre_finite_routing_sample : Cert.Pre_finite_routing_sample.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_routing_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_routing_sample [hPre_finite_routing_sample : Cert.Pre_finite_routing_sample.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_routing_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_routing_sample [hKernel6Ideal : Cert.Kernel6Ideal.Facts] [hPre_finite_routing_sample : Cert.Pre_finite_routing_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_routing_sample m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_routing_sample [hReference6Ideal : Cert.Reference6Ideal.Facts] [hPre_finite_routing_sample : Cert.Pre_finite_routing_sample.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_routing_sample m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v17_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v17_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_v29) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)) (v6 : (c : Dev Cert.Kernel3Ideal.nD) → Buf (Elt Ideal) ((c.tc : Thread Cert.Kernel3Ideal.nD Cert.Kernel3Ideal.τ).loc Cert.Kernel3Ideal.main_v17_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_v17_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_v26) = v5 c
          ∧ r.2.mem ((c.tc : Thread Cert.Reference3Ideal.nD Cert.Reference3Ideal.τ).loc Cert.Reference3Ideal.main_v27) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_routing_sample [hKernel6Ideal : Cert.Kernel6Ideal.Facts] [hReference6Ideal : Cert.Reference6Ideal.Facts] [hPre_finite_routing_sample : Cert.Pre_finite_routing_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_routing_sample m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v168) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_routing : Cert.Pre_finite_routing.Facts) (hPre_finite_routing_sample : Cert.Pre_finite_routing_sample.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_routing_sample (hKernel6Ideal := hKernel6Ideal) (hPre_finite_routing_sample := hPre_finite_routing_sample)
    ∧ quiescent_Reference6Ideal (hReference6Ideal := hReference6Ideal)
    ∧ quiescent_Reference6Ideal_pre_finite_routing_sample (hReference6Ideal := hReference6Ideal) (hPre_finite_routing_sample := hPre_finite_routing_sample)
    ∧ preserves_Kernel_KernelIdeal
    ∧ algebraic_KernelIdeal_ReferenceIdeal_pre_finite_routing (hKernelIdeal := hKernelIdeal) (hReferenceIdeal := hReferenceIdeal) (hPre_finite_routing := hPre_finite_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_routing_sample (hKernel6Ideal := hKernel6Ideal) (hReference6Ideal := hReference6Ideal) (hPre_finite_routing_sample := hPre_finite_routing_sample)
-- ==== Pre_finite_routing.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x8 : Shape := ⟨3, ![2, 8192, 8]⟩
abbrev S1x1x8 : Shape := ⟨3, ![1, 1, 8]⟩

class Facts : Prop where
  reducesTo_S2x8192x1024_S2x8192_d2 : S2x8192x1024.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x1024_0_1_2 : S2x8192x1.BroadcastsInDim S2x8192x1024 (![0, 1, 2] : Fin 3 → Fin S2x8192x1024.rank)
  bcast_S1024_S1x1x1024_2 : S1024.BroadcastsInDim S1x1x1024 (![2] : Fin 1 → Fin S1x1x1024.rank)
  bcast_S1x1x1024_S2x8192x1024_0_1_2 : S1x1x1024.BroadcastsInDim S2x8192x1024 (![0, 1, 2] : Fin 3 → Fin S2x8192x1024.rank)
  bcast_S2x1024_S2x1x1024_0_2 : S2x1024.BroadcastsInDim S2x1x1024 (![0, 2] : Fin 2 → Fin S2x1x1024.rank)
  bcast_S_S2x1x1024 : S_.BroadcastsInDim S2x1x1024 (![] : Fin 0 → Fin S2x1x1024.rank)
  bcast_S2x1x1024_S2x8192x1024_0_1_2 : S2x1x1024.BroadcastsInDim S2x8192x1024 (![0, 1, 2] : Fin 3 → Fin S2x8192x1024.rank)
  bcast_S8_S1x1x8_2 : S8.BroadcastsInDim S1x1x8 (![2] : Fin 1 → Fin S1x1x8.rank)
  bcast_S1x1x8_S2x8192x8_0_1_2 : S1x1x8.BroadcastsInDim S2x8192x8 (![0, 1, 2] : Fin 3 → Fin S2x8192x8.rank)
  reducesTo_S2x8192x8_S2x8192_d2 : S2x8192x8.ReducesTo [2] S2x8192
  bcast_S_S2x8192 : S_.BroadcastsInDim S2x8192 (![] : Fin 0 → Fin S2x8192.rank)
  reducesTo_S2x8192_S_d0_1 : S2x8192.ReducesTo [0, 1] S_
  dot_S2x8192x1024_S1024x8_S2x8192x8_2_0_01_1_n_n_wf : DotDims.WF S2x8192x1024 S1024x8 S2x8192x8 [2] [0] [0, 1] [1] [] []

variable [Facts]

def dot_S2x8192x1024_S1024x8_S2x8192x8_2_0_01_1_n_n : DotDims S2x8192x1024 S1024x8 S2x8192x8 where
  lhsContracting := [2]
  rhsContracting := [0]
  lhsNonContracting := [0, 1]
  rhsNonContracting := [1]
  lhsBatch := []
  rhsBatch := []
  wf := dot_S2x8192x1024_S1024x8_S2x8192x8_2_0_01_1_n_n_wf
def fn_part1 {F : FTy → Type} [FloatOps F] (main_arg5 : FVec F S1024x8 .f32) (main_arg6 : FVec F S8 .f32) (main_v17 : FVec F S2x8192x1024 .f32) (main_v19 : FVec F S2x8192x1024 .f32) : IVec S_ 1 :=
  let main_v20 : FVec F S2x8192x1024 .f32 := addf main_v17 main_v19
  let main_v21 : FVec F S2x8192x8 .f32 := (fun l r => Host.dotGeneral dot_S2x8192x1024_S1024x8_S2x8192x8_2_0_01_1_n_n none l r) main_v20 main_arg5
  let main_v22 : FVec F S1x1x8 .f32 := broadcastInDim S1x1x8 ![2] bcast_S8_S1x1x8_2 main_arg6
  let main_v23 : FVec F S2x8192x8 .f32 := broadcastInDim S2x8192x8 ![0, 1, 2] bcast_S1x1x8_S2x8192x8_0_1_2 main_v22
  let main_v24 : FVec F S2x8192x8 .f32 := addf main_v21 main_v23
  let main_cst_3 : FVec F S_ .f32 := constant S_ .f32 0xFF800000#32
  let main_v25 : FVec F S2x8192 .f32 := (fun x v => Host.reduce FloatOps.maximumf x v reducesTo_S2x8192x8_S2x8192_d2 h_S_) main_v24 main_cst_3
  let main_v26 : FVec F S2x8192 .f32 := Host.absf main_v25
  let main_cst_4 : FVec F S_ .f32 := constant S_ .f32 0x7F800000#32
  let main_v27 : FVec F S2x8192 .f32 := broadcastInDim S2x8192 ![] bcast_S_S2x8192 main_cst_4
  let main_v28 : IVec S2x8192 1 := cmpf .olt main_v26 main_v27
  let main_c : IVec S_ 1 := constantI S_ 1 1#1
  let main_v29 : IVec S_ 1 := (fun x v => Host.reduce IntOp.andi x v reducesTo_S2x8192_S_d0_1 h_S_) main_v28 main_c
  main_v29

def fn {F : FTy → Type} [FloatOps F] (main_arg0 : FVec F S2x8192x1024 .f32) (main_arg1 : FVec F S1024 .f32) (main_arg2 : FVec F S2x1024 .f32) (main_arg3 : FVec F S2x1024 .f32) (main_arg4 : FVec F S2x1024 .f32) (main_arg5 : FVec F S1024x8 .f32) (main_arg6 : FVec F S8 .f32) (main_arg7 : FVec F S8x1024x7168 .f32) (main_arg8 : FVec F S8x3584x1024 .f32) (main_arg9 : FVec F S1024 .f32) : IVec S_ 1 :=
  let main_v0 : FVec F S2x8192x1024 .f32 := mulf main_arg0 main_arg0
  let main_cst : FVec F S_ .f32 := constant S_ .f32 0x00000000#32
  let main_v1 : FVec F S2x8192 .f32 := (fun x v => Host.reduceAdd x v reducesTo_S2x8192x1024_S2x8192_d2 h_S_) main_v0 main_cst
  let main_v2 : FVec F S2x8192x1 .f32 := broadcastInDim S2x8192x1 ![0, 1] bcast_S2x8192_S2x8192x1_0_1 main_v1
  let main_cst_0 : FVec F S_ .f32 := constant S_ .f32 0x44800000#32
  let main_v3 : FVec F S2x8192x1 .f32 := broadcastInDim S2x8192x1 ![] bcast_S_S2x8192x1 main_cst_0
  let main_v4 : FVec F S2x8192x1 .f32 := Host.divf main_v2 main_v3
  let main_cst_1 : FVec F S_ .f32 := constant S_ .f32 0x358637BD#32
  let main_v5 : FVec F S2x8192x1 .f32 := broadcastInDim S2x8192x1 ![] bcast_S_S2x8192x1 main_cst_1
  let main_v6 : FVec F S2x8192x1 .f32 := addf main_v4 main_v5
  let main_v7 : FVec F S2x8192x1 .f32 := Host.rsqrt main_v6
  let main_v8 : FVec F S2x8192x1024 .f32 := broadcastInDim S2x8192x1024 ![0, 1, 2] bcast_S2x8192x1_S2x8192x1024_0_1_2 main_v7
  let main_v9 : FVec F S2x8192x1024 .f32 := mulf main_arg0 main_v8
  let main_v10 : FVec F S1x1x1024 .f32 := broadcastInDim S1x1x1024 ![2] bcast_S1024_S1x1x1024_2 main_arg1
  let main_v11 : FVec F S2x8192x1024 .f32 := broadcastInDim S2x8192x1024 ![0, 1, 2] bcast_S1x1x1024_S2x8192x1024_0_1_2 main_v10
  let main_v12 : FVec F S2x8192x1024 .f32 := mulf main_v9 main_v11
  let main_v13 : FVec F S2x1x1024 .f32 := broadcastInDim S2x1x1024 ![0, 2] bcast_S2x1024_S2x1x1024_0_2 main_arg3
  let main_cst_2 : FVec F S_ .f32 := constant S_ .f32 0x3F800000#32
  let main_v14 : FVec F S2x1x1024 .f32 := broadcastInDim S2x1x1024 ![] bcast_S_S2x1x1024 main_cst_2
  let main_v15 : FVec F S2x1x1024 .f32 := addf main_v14 main_v13
  let main_v16 : FVec F S2x8192x1024 .f32 := broadcastInDim S2x8192x1024 ![0, 1, 2] bcast_S2x1x1024_S2x8192x1024_0_1_2 main_v15
  let main_v17 : FVec F S2x8192x1024 .f32 := mulf main_v12 main_v16
  let main_v18 : FVec F S2x1x1024 .f32 := broadcastInDim S2x1x1024 ![0, 2] bcast_S2x1024_S2x1x1024_0_2 main_arg2
  let main_v19 : FVec F S2x8192x1024 .f32 := broadcastInDim S2x8192x1024 ![0, 1, 2] bcast_S2x1x1024_S2x8192x1024_0_1_2 main_v18
  fn_part1 (F := F) main_arg5 main_arg6 main_v17 main_v19
-- ==== Pre_finite_routing_sample.lean ====
abbrev S128x1x1024 : Shape := ⟨3, ![128, 1, 1024]⟩
abbrev S1024 : Shape := ⟨1, ![1024]⟩
abbrev S128x1024 : Shape := ⟨2, ![128, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x8 : Shape := ⟨3, ![128, 1, 8]⟩
abbrev S1x1x8 : Shape := ⟨3, ![1, 1, 8]⟩

class Facts : Prop where
  reducesTo_S128x1x1024_S128x1_d2 : S128x1x1024.ReducesTo [2] S128x1
  h_S_ : 0 < S_.numel
  bcast_S128x1_S128x1x1_0_1 : S128x1.BroadcastsInDim S128x1x1 (![0, 1] : Fin 2 → Fin S128x1x1.rank)
  bcast_S_S128x1x1 : S_.BroadcastsInDim S128x1x1 (![] : Fin 0 → Fin S128x1x1.rank)
  bcast_S128x1x1_S128x1x1024_0_1_2 : S128x1x1.BroadcastsInDim S128x1x1024 (![0, 1, 2] : Fin 3 → Fin S128x1x1024.rank)
  bcast_S1024_S1x1x1024_2 : S1024.BroadcastsInDim S1x1x1024 (![2] : Fin 1 → Fin S1x1x1024.rank)
  bcast_S1x1x1024_S128x1x1024_0_1_2 : S1x1x1024.BroadcastsInDim S128x1x1024 (![0, 1, 2] : Fin 3 → Fin S128x1x1024.rank)
  bcast_S128x1024_S128x1x1024_0_2 : S128x1024.BroadcastsInDim S128x1x1024 (![0, 2] : Fin 2 → Fin S128x1x1024.rank)
  bcast_S_S128x1x1024 : S_.BroadcastsInDim S128x1x1024 (![] : Fin 0 → Fin S128x1x1024.rank)
  bcast_S8_S1x1x8_2 : S8.BroadcastsInDim S1x1x8 (![2] : Fin 1 → Fin S1x1x8.rank)
  bcast_S1x1x8_S128x1x8_0_1_2 : S1x1x8.BroadcastsInDim S128x1x8 (![0, 1, 2] : Fin 3 → Fin S128x1x8.rank)
  reducesTo_S128x1x8_S128x1_d2 : S128x1x8.ReducesTo [2] S128x1
  bcast_S_S128x1 : S_.BroadcastsInDim S128x1 (![] : Fin 0 → Fin S128x1.rank)
  reducesTo_S128x1_S_d0_1 : S128x1.ReducesTo [0, 1] S_
  dot_S128x1x1024_S1024x8_S128x1x8_2_0_01_1_n_n_wf : DotDims.WF S128x1x1024 S1024x8 S128x1x8 [2] [0] [0, 1] [1] [] []

variable [Facts]

def dot_S128x1x1024_S1024x8_S128x1x8_2_0_01_1_n_n : DotDims S128x1x1024 S1024x8 S128x1x8 where
  lhsContracting := [2]
  rhsContracting := [0]
  lhsNonContracting := [0, 1]
  rhsNonContracting := [1]
  lhsBatch := []
  rhsBatch := []
  wf := dot_S128x1x1024_S1024x8_S128x1x8_2_0_01_1_n_n_wf
def fn_part1 {F : FTy → Type} [FloatOps F] (main_arg6 : FVec F S8 .f32) (main_v19 : FVec F S128x1x8 .f32) : IVec S_ 1 :=
  let main_v20 : FVec F S1x1x8 .f32 := broadcastInDim S1x1x8 ![2] bcast_S8_S1x1x8_2 main_arg6
  let main_v21 : FVec F S128x1x8 .f32 := broadcastInDim S128x1x8 ![0, 1, 2] bcast_S1x1x8_S128x1x8_0_1_2 main_v20
  let main_v22 : FVec F S128x1x8 .f32 := addf main_v19 main_v21
  let main_cst_3 : FVec F S_ .f32 := constant S_ .f32 0xFF800000#32
  let main_v23 : FVec F S128x1 .f32 := (fun x v => Host.reduce FloatOps.maximumf x v reducesTo_S128x1x8_S128x1_d2 h_S_) main_v22 main_cst_3
  let main_v24 : FVec F S128x1 .f32 := Host.absf main_v23
  let main_cst_4 : FVec F S_ .f32 := constant S_ .f32 0x7F800000#32
  let main_v25 : FVec F S128x1 .f32 := broadcastInDim S128x1 ![] bcast_S_S128x1 main_cst_4
  let main_v26 : IVec S128x1 1 := cmpf .olt main_v24 main_v25
  let main_c : IVec S_ 1 := constantI S_ 1 1#1
  let main_v27 : IVec S_ 1 := (fun x v => Host.reduce IntOp.andi x v reducesTo_S128x1_S_d0_1 h_S_) main_v26 main_c
  main_v27

def fn {F : FTy → Type} [FloatOps F] (main_arg0 : FVec F S128x1x1024 .f32) (main_arg1 : FVec F S1024 .f32) (main_arg2 : FVec F S128x1024 .f32) (main_arg3 : FVec F S128x1024 .f32) (main_arg4 : FVec F S128x1024 .f32) (main_arg5 : FVec F S1024x8 .f32) (main_arg6 : FVec F S8 .f32) (main_arg7 : FVec F S8x1024x7168 .f32) (main_arg8 : FVec F S8x3584x1024 .f32) (main_arg9 : FVec F S1024 .f32) : IVec S_ 1 :=
  let main_v0 : FVec F S128x1x1024 .f32 := mulf main_arg0 main_arg0
  let main_cst : FVec F S_ .f32 := constant S_ .f32 0x00000000#32
  let main_v1 : FVec F S128x1 .f32 := (fun x v => Host.reduceAdd x v reducesTo_S128x1x1024_S128x1_d2 h_S_) main_v0 main_cst
  let main_v2 : FVec F S128x1x1 .f32 := broadcastInDim S128x1x1 ![0, 1] bcast_S128x1_S128x1x1_0_1 main_v1
  let main_cst_0 : FVec F S_ .f32 := constant S_ .f32 0x44800000#32
  let main_v3 : FVec F S128x1x1 .f32 := broadcastInDim S128x1x1 ![] bcast_S_S128x1x1 main_cst_0
  let main_v4 : FVec F S128x1x1 .f32 := Host.divf main_v2 main_v3
  let main_cst_1 : FVec F S_ .f32 := constant S_ .f32 0x358637BD#32
  let main_v5 : FVec F S128x1x1 .f32 := broadcastInDim S128x1x1 ![] bcast_S_S128x1x1 main_cst_1
  let main_v6 : FVec F S128x1x1 .f32 := addf main_v4 main_v5
  let main_v7 : FVec F S128x1x1 .f32 := Host.rsqrt main_v6
  let main_v8 : FVec F S128x1x1024 .f32 := broadcastInDim S128x1x1024 ![0, 1, 2] bcast_S128x1x1_S128x1x1024_0_1_2 main_v7
  let main_v9 : FVec F S128x1x1024 .f32 := mulf main_arg0 main_v8
  let main_v10 : FVec F S1x1x1024 .f32 := broadcastInDim S1x1x1024 ![2] bcast_S1024_S1x1x1024_2 main_arg1
  let main_v11 : FVec F S128x1x1024 .f32 := broadcastInDim S128x1x1024 ![0, 1, 2] bcast_S1x1x1024_S128x1x1024_0_1_2 main_v10
  let main_v12 : FVec F S128x1x1024 .f32 := mulf main_v9 main_v11
  let main_v13 : FVec F S128x1x1024 .f32 := broadcastInDim S128x1x1024 ![0, 2] bcast_S128x1024_S128x1x1024_0_2 main_arg3
  let main_cst_2 : FVec F S_ .f32 := constant S_ .f32 0x3F800000#32
  let main_v14 : FVec F S128x1x1024 .f32 := broadcastInDim S128x1x1024 ![] bcast_S_S128x1x1024 main_cst_2
  let main_v15 : FVec F S128x1x1024 .f32 := addf main_v14 main_v13
  let main_v16 : FVec F S128x1x1024 .f32 := mulf main_v12 main_v15
  let main_v17 : FVec F S128x1x1024 .f32 := broadcastInDim S128x1x1024 ![0, 2] bcast_S128x1024_S128x1x1024_0_2 main_arg2
  let main_v18 : FVec F S128x1x1024 .f32 := addf main_v16 main_v17
  let main_v19 : FVec F S128x1x8 .f32 := (fun l r => Host.dotGeneral dot_S128x1x1024_S1024x8_S128x1x8_2_0_01_1_n_n none l r) main_v18 main_arg5
  fn_part1 (F := F) main_arg6 main_v19
-- ==== Kernel.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S16384x1024 : Shape := ⟨2, ![16384, 1024]⟩
abbrev S2x1x1024 : Shape := ⟨3, ![2, 1, 1024]⟩
abbrev S1x1024 : Shape := ⟨2, ![1, 1024]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S1024x1024 : Shape := ⟨2, ![1024, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 27
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x8, .f32⟩
  | .hbm, ⟨6, _⟩ => ⟨S8, .f32⟩
  | .hbm, ⟨7, _⟩ => ⟨S8x1024x7168, .f32⟩
  | .hbm, ⟨8, _⟩ => ⟨S8x3584x1024, .f32⟩
  | .hbm, ⟨9, _⟩ => ⟨S1024, .f32⟩
  | .hbm, ⟨10, _⟩ => ⟨S16384x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S1x1024, .f32⟩
  | .hbm, ⟨15, _⟩ => ⟨S8x1024x7168, .bf16⟩
  | .hbm, ⟨16, _⟩ => ⟨S8x3584x1024, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1x8, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1x1024, .f32⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .bf16⟩
  | .local _ .vmem, ⟨10, _⟩ => ⟨S1x128, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .f32⟩
  | .local _ .vmem, ⟨22, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![16, 8, 7], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c6_i32 : BitVec 32 := 6#32
  let v4 : BitVec 1 := Scalar.cmpi .eq arg2 c6_i32
  let v5 : BitVec 1 := Scalar.andi v3 v4
  let v37 : BitVec 32 := Scalar.extui v5
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg2 c7_i32
  let c0_i32 : BitVec 32 := 0#32
  let c0_i32_0 : BitVec 32 := 0#32
  ![arg1.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== ReferenceIdeal.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x8 : Shape := ⟨3, ![2, 8192, 8]⟩
abbrev S1x1x8 : Shape := ⟨3, ![1, 1, 8]⟩
abbrev S2x8192x2 : Shape := ⟨3, ![2, 8192, 2]⟩
abbrev S2x8192x2x1 : Shape := ⟨4, ![2, 8192, 2, 1]⟩
abbrev S1x1x1x8 : Shape := ⟨4, ![1, 1, 1, 8]⟩
abbrev S2x8192x2x8 : Shape := ⟨4, ![2, 8192, 2, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S2x8192x7168 : Shape := ⟨3, ![2, 8192, 7168]⟩
abbrev S2x8192x3584 : Shape := ⟨3, ![2, 8192, 3584]⟩
abbrev S16384x1024 : Shape := ⟨2, ![16384, 1024]⟩

abbrev nBuf : Space → Nat
  | .hbm => 265
  | .vmem => 0
  | .smem => 0
  | _ => 0

abbrev hbmTy0_0 (i : Nat) : BufTy := match i % 128 with
  | 0 => ⟨S2x8192x1024, .f32⟩
  | 1 => ⟨S1024, .f32⟩
  | 2 => ⟨S2x1024, .f32⟩
  | 3 => ⟨S2x1024, .f32⟩
  | 4 => ⟨S2x1024, .f32⟩
  | 5 => ⟨S1024x8, .f32⟩
  | 6 => ⟨S8, .f32⟩
  | 7 => ⟨S8x1024x7168, .f32⟩
  | 8 => ⟨S8x3584x1024, .f32⟩
  | 9 => ⟨S1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x1x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x1x1024, .f32⟩
  | 33 => ⟨S2x8192x1024, .f32⟩
  | 34 => ⟨S2x8192x1024, .f32⟩
  | 35 => ⟨S2x1x1024, .f32⟩
  | 36 => ⟨S2x8192x8, .f32⟩
  | 37 => ⟨S1x1x8, .f32⟩
  | 38 => ⟨S2x8192x8, .f32⟩
  | 39 => ⟨S2x8192x8, .f32⟩
  | 40 => ⟨S2x8192x2, .f32⟩
  | 41 => ⟨S2x8192x2, .i32⟩
  | 42 => ⟨S_, .f32⟩
  | 43 => ⟨S2x8192, .f32⟩
  | 44 => ⟨S_, .f32⟩
  | 45 => ⟨S2x8192, .f32⟩
  | 46 => ⟨S2x8192, .f32⟩
  | 47 => ⟨S2x8192x1, .f32⟩
  | 48 => ⟨S2x8192x2, .f32⟩
  | 49 => ⟨S2x8192x2, .f32⟩
  | 50 => ⟨S2x8192x2, .f32⟩
  | 51 => ⟨S_, .f32⟩
  | 52 => ⟨S2x8192, .f32⟩
  | 53 => ⟨S2x8192x1, .f32⟩
  | 54 => ⟨S2x8192x2, .f32⟩
  | 55 => ⟨S2x8192x2, .f32⟩
  | 56 => ⟨S2x8192x2x1, .i32⟩
  | 57 => ⟨S1x1x1x8, .i32⟩
  | 58 => ⟨S2x8192x2x8, .i32⟩
  | 59 => ⟨S2x8192x2x8, .i32⟩
  | 60 => ⟨S2x8192x2x8, .i1⟩
  | 61 => ⟨S2x8192x2x8, .f32⟩
  | 62 => ⟨S2x8192x2x1, .f32⟩
  | 63 => ⟨S2x8192x2x8, .f32⟩
  | 64 => ⟨S2x8192x2x8, .f32⟩
  | 65 => ⟨S_, .f32⟩
  | 66 => ⟨S2x8192x8, .f32⟩
  | 67 => ⟨S_, .f32⟩
  | 68 => ⟨S2x8192x1024, .f32⟩
  | 69 => ⟨S2x8192x1, .f32⟩
  | 70 => ⟨S1x1024x7168, .f32⟩
  | 71 => ⟨S1024x7168, .f32⟩
  | 72 => ⟨S1x3584x1024, .f32⟩
  | 73 => ⟨S3584x1024, .f32⟩
  | 74 => ⟨S2x8192x7168, .f32⟩
  | 75 => ⟨S2x8192x3584, .f32⟩
  | 76 => ⟨S2x8192x3584, .f32⟩
  | 77 => ⟨S2x8192x3584, .f32⟩
  | 78 => ⟨S2x8192x3584, .f32⟩
  | 79 => ⟨S_, .f32⟩
  | 80 => ⟨S2x8192x3584, .f32⟩
  | 81 => ⟨S2x8192x3584, .f32⟩
  | 82 => ⟨S_, .f32⟩
  | 83 => ⟨S2x8192x3584, .f32⟩
  | 84 => ⟨S2x8192x3584, .f32⟩
  | 85 => ⟨S2x8192x3584, .f32⟩
  | 86 => ⟨S2x8192x3584, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1, .f32⟩
  | 92 => ⟨S1x1024x7168, .f32⟩
  | 93 => ⟨S1024x7168, .f32⟩
  | 94 => ⟨S1x3584x1024, .f32⟩
  | 95 => ⟨S3584x1024, .f32⟩
  | 96 => ⟨S2x8192x7168, .f32⟩
  | 97 => ⟨S2x8192x3584, .f32⟩
  | 98 => ⟨S2x8192x3584, .f32⟩
  | 99 => ⟨S2x8192x3584, .f32⟩
  | 100 => ⟨S2x8192x3584, .f32⟩
  | 101 => ⟨S_, .f32⟩
  | 102 => ⟨S2x8192x3584, .f32⟩
  | 103 => ⟨S2x8192x3584, .f32⟩
  | 104 => ⟨S_, .f32⟩
  | 105 => ⟨S2x8192x3584, .f32⟩
  | 106 => ⟨S2x8192x3584, .f32⟩
  | 107 => ⟨S2x8192x3584, .f32⟩
  | 108 => ⟨S2x8192x3584, .f32⟩
  | 109 => ⟨S2x8192x1024, .f32⟩
  | 110 => ⟨S2x8192x1024, .f32⟩
  | 111 => ⟨S2x8192x1024, .f32⟩
  | 112 => ⟨S2x8192x1024, .f32⟩
  | 113 => ⟨S2x8192x1, .f32⟩
  | 114 => ⟨S1x1024x7168, .f32⟩
  | 115 => ⟨S1024x7168, .f32⟩
  | 116 => ⟨S1x3584x1024, .f32⟩
  | 117 => ⟨S3584x1024, .f32⟩
  | 118 => ⟨S2x8192x7168, .f32⟩
  | 119 => ⟨S2x8192x3584, .f32⟩
  | 120 => ⟨S2x8192x3584, .f32⟩
  | 121 => ⟨S2x8192x3584, .f32⟩
  | 122 => ⟨S2x8192x3584, .f32⟩
  | 123 => ⟨S_, .f32⟩
  | 124 => ⟨S2x8192x3584, .f32⟩
  | 125 => ⟨S2x8192x3584, .f32⟩
  | 126 => ⟨S_, .f32⟩
  | 127 => ⟨S2x8192x3584, .f32⟩
  | _ => ⟨S2x8192x1024, .f32⟩

abbrev hbmTy0_1 (i : Nat) : BufTy := match i % 128 with
  | 0 => ⟨S2x8192x3584, .f32⟩
  | 1 => ⟨S2x8192x3584, .f32⟩
  | 2 => ⟨S2x8192x3584, .f32⟩
  | 3 => ⟨S2x8192x1024, .f32⟩
  | 4 => ⟨S2x8192x1024, .f32⟩
  | 5 => ⟨S2x8192x1024, .f32⟩
  | 6 => ⟨S2x8192x1024, .f32⟩
  | 7 => ⟨S2x8192x1, .f32⟩
  | 8 => ⟨S1x1024x7168, .f32⟩
  | 9 => ⟨S1024x7168, .f32⟩
  | 10 => ⟨S1x3584x1024, .f32⟩
  | 11 => ⟨S3584x1024, .f32⟩
  | 12 => ⟨S2x8192x7168, .f32⟩
  | 13 => ⟨S2x8192x3584, .f32⟩
  | 14 => ⟨S2x8192x3584, .f32⟩
  | 15 => ⟨S2x8192x3584, .f32⟩
  | 16 => ⟨S2x8192x3584, .f32⟩
  | 17 => ⟨S_, .f32⟩
  | 18 => ⟨S2x8192x3584, .f32⟩
  | 19 => ⟨S2x8192x3584, .f32⟩
  | 20 => ⟨S_, .f32⟩
  | 21 => ⟨S2x8192x3584, .f32⟩
  | 22 => ⟨S2x8192x3584, .f32⟩
  | 23 => ⟨S2x8192x3584, .f32⟩
  | 24 => ⟨S2x8192x3584, .f32⟩
  | 25 => ⟨S2x8192x1024, .f32⟩
  | 26 => ⟨S2x8192x1024, .f32⟩
  | 27 => ⟨S2x8192x1024, .f32⟩
  | 28 => ⟨S2x8192x1024, .f32⟩
  | 29 => ⟨S2x8192x1, .f32⟩
  | 30 => ⟨S1x1024x7168, .f32⟩
  | 31 => ⟨S1024x7168, .f32⟩
  | 32 => ⟨S1x3584x1024, .f32⟩
  | 33 => ⟨S3584x1024, .f32⟩
  | 34 => ⟨S2x8192x7168, .f32⟩
  | 35 => ⟨S2x8192x3584, .f32⟩
  | 36 => ⟨S2x8192x3584, .f32⟩
  | 37 => ⟨S2x8192x3584, .f32⟩
  | 38 => ⟨S2x8192x3584, .f32⟩
  | 39 => ⟨S_, .f32⟩
  | 40 => ⟨S2x8192x3584, .f32⟩
  | 41 => ⟨S2x8192x3584, .f32⟩
  | 42 => ⟨S_, .f32⟩
  | 43 => ⟨S2x8192x3584, .f32⟩
  | 44 => ⟨S2x8192x3584, .f32⟩
  | 45 => ⟨S2x8192x3584, .f32⟩
  | 46 => ⟨S2x8192x3584, .f32⟩
  | 47 => ⟨S2x8192x1024, .f32⟩
  | 48 => ⟨S2x8192x1024, .f32⟩
  | 49 => ⟨S2x8192x1024, .f32⟩
  | 50 => ⟨S2x8192x1024, .f32⟩
  | 51 => ⟨S2x8192x1, .f32⟩
  | 52 => ⟨S1x1024x7168, .f32⟩
  | 53 => ⟨S1024x7168, .f32⟩
  | 54 => ⟨S1x3584x1024, .f32⟩
  | 55 => ⟨S3584x1024, .f32⟩
  | 56 => ⟨S2x8192x7168, .f32⟩
  | 57 => ⟨S2x8192x3584, .f32⟩
  | 58 => ⟨S2x8192x3584, .f32⟩
  | 59 => ⟨S2x8192x3584, .f32⟩
  | 60 => ⟨S2x8192x3584, .f32⟩
  | 61 => ⟨S_, .f32⟩
  | 62 => ⟨S2x8192x3584, .f32⟩
  | 63 => ⟨S2x8192x3584, .f32⟩
  | 64 => ⟨S_, .f32⟩
  | 65 => ⟨S2x8192x3584, .f32⟩
  | 66 => ⟨S2x8192x3584, .f32⟩
  | 67 => ⟨S2x8192x3584, .f32⟩
  | 68 => ⟨S2x8192x3584, .f32⟩
  | 69 => ⟨S2x8192x1024, .f32⟩
  | 70 => ⟨S2x8192x1024, .f32⟩
  | 71 => ⟨S2x8192x1024, .f32⟩
  | 72 => ⟨S2x8192x1024, .f32⟩
  | 73 => ⟨S2x8192x1, .f32⟩
  | 74 => ⟨S1x1024x7168, .f32⟩
  | 75 => ⟨S1024x7168, .f32⟩
  | 76 => ⟨S1x3584x1024, .f32⟩
  | 77 => ⟨S3584x1024, .f32⟩
  | 78 => ⟨S2x8192x7168, .f32⟩
  | 79 => ⟨S2x8192x3584, .f32⟩
  | 80 => ⟨S2x8192x3584, .f32⟩
  | 81 => ⟨S2x8192x3584, .f32⟩
  | 82 => ⟨S2x8192x3584, .f32⟩
  | 83 => ⟨S_, .f32⟩
  | 84 => ⟨S2x8192x3584, .f32⟩
  | 85 => ⟨S2x8192x3584, .f32⟩
  | 86 => ⟨S_, .f32⟩
  | 87 => ⟨S2x8192x3584, .f32⟩
  | 88 => ⟨S2x8192x3584, .f32⟩
  | 89 => ⟨S2x8192x3584, .f32⟩
  | 90 => ⟨S2x8192x3584, .f32⟩
  | 91 => ⟨S2x8192x1024, .f32⟩
  | 92 => ⟨S2x8192x1024, .f32⟩
  | 93 => ⟨S2x8192x1024, .f32⟩
  | 94 => ⟨S2x8192x1024, .f32⟩
  | 95 => ⟨S2x8192x1, .f32⟩
  | 96 => ⟨S1x1024x7168, .f32⟩
  | 97 => ⟨S1024x7168, .f32⟩
  | 98 => ⟨S1x3584x1024, .f32⟩
  | 99 => ⟨S3584x1024, .f32⟩
  | 100 => ⟨S2x8192x7168, .f32⟩
  | 101 => ⟨S2x8192x3584, .f32⟩
  | 102 => ⟨S2x8192x3584, .f32⟩
  | 103 => ⟨S2x8192x3584, .f32⟩
  | 104 => ⟨S2x8192x3584, .f32⟩
  | 105 => ⟨S_, .f32⟩
  | 106 => ⟨S2x8192x3584, .f32⟩
  | 107 => ⟨S2x8192x3584, .f32⟩
  | 108 => ⟨S_, .f32⟩
  | 109 => ⟨S2x8192x3584, .f32⟩
  | 110 => ⟨S2x8192x3584, .f32⟩
  | 111 => ⟨S2x8192x3584, .f32⟩
  | 112 => ⟨S2x8192x3584, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S_, .f32⟩
  | _ => ⟨S2x8192x1024, .f32⟩

abbrev hbmTy0_2 (i : Nat) : BufTy := match i % 128 with
  | 0 => ⟨S2x8192x1, .f32⟩
  | 1 => ⟨S2x8192x1, .f32⟩
  | 2 => ⟨S2x8192x1, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S16384x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_values : Ref sig .tc := ⟨.hbm, 40, rfl⟩
abbrev main_indices : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_call3_v0 : Ref sig .tc := ⟨.hbm, 121, rfl⟩
abbrev main_call3_v1 : Ref sig .tc := ⟨.hbm, 122, rfl⟩
abbrev main_call3_cst : Ref sig .tc := ⟨.hbm, 123, rfl⟩
abbrev main_call3_v2 : Ref sig .tc := ⟨.hbm, 124, rfl⟩
abbrev main_call3_v3 : Ref sig .tc := ⟨.hbm, 125, rfl⟩
abbrev main_call3_cst_0 : Ref sig .tc := ⟨.hbm, 126, rfl⟩
abbrev main_call3_v4 : Ref sig .tc := ⟨.hbm, 127, rfl⟩
abbrev main_call3_v5 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call6_v0 : Ref sig .tc := ⟨.hbm, 187, rfl⟩
abbrev main_call6_v1 : Ref sig .tc := ⟨.hbm, 188, rfl⟩
abbrev main_call6_cst : Ref sig .tc := ⟨.hbm, 189, rfl⟩
abbrev main_call6_v2 : Ref sig .tc := ⟨.hbm, 190, rfl⟩
abbrev main_call6_v3 : Ref sig .tc := ⟨.hbm, 191, rfl⟩
abbrev main_call6_cst_0 : Ref sig .tc := ⟨.hbm, 192, rfl⟩
abbrev main_call6_v4 : Ref sig .tc := ⟨.hbm, 193, rfl⟩
abbrev main_call6_v5 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_call7_v0 : Ref sig .tc := ⟨.hbm, 209, rfl⟩
abbrev main_call7_v1 : Ref sig .tc := ⟨.hbm, 210, rfl⟩
abbrev main_call7_cst : Ref sig .tc := ⟨.hbm, 211, rfl⟩
abbrev main_call7_v2 : Ref sig .tc := ⟨.hbm, 212, rfl⟩
abbrev main_call7_v3 : Ref sig .tc := ⟨.hbm, 213, rfl⟩
abbrev main_call7_cst_0 : Ref sig .tc := ⟨.hbm, 214, rfl⟩
abbrev main_call7_v4 : Ref sig .tc := ⟨.hbm, 215, rfl⟩
abbrev main_call7_v5 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_call8_v0 : Ref sig .tc := ⟨.hbm, 231, rfl⟩
abbrev main_call8_v1 : Ref sig .tc := ⟨.hbm, 232, rfl⟩
abbrev main_call8_cst : Ref sig .tc := ⟨.hbm, 233, rfl⟩
abbrev main_call8_v2 : Ref sig .tc := ⟨.hbm, 234, rfl⟩
abbrev main_call8_v3 : Ref sig .tc := ⟨.hbm, 235, rfl⟩
abbrev main_call8_cst_0 : Ref sig .tc := ⟨.hbm, 236, rfl⟩
abbrev main_call8_v4 : Ref sig .tc := ⟨.hbm, 237, rfl⟩
abbrev main_call8_v5 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_cst_8 : Ref sig .tc := ⟨.hbm, 249, rfl⟩
abbrev main_v159 : Ref sig .tc := ⟨.hbm, 250, rfl⟩
abbrev main_v160 : Ref sig .tc := ⟨.hbm, 251, rfl⟩
abbrev main_cst_9 : Ref sig .tc := ⟨.hbm, 252, rfl⟩
abbrev main_v161 : Ref sig .tc := ⟨.hbm, 253, rfl⟩
abbrev main_v162 : Ref sig .tc := ⟨.hbm, 254, rfl⟩
abbrev main_cst_10 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x1024 : Shape := ⟨2, ![2, 1024]⟩
abbrev S1024x3912 : Shape := ⟨2, ![1024, 3912]⟩
abbrev S16384x1024 : Shape := ⟨2, ![16384, 1024]⟩
abbrev S2x1x1024 : Shape := ⟨3, ![2, 1, 1024]⟩
abbrev S1x1024 : Shape := ⟨2, ![1, 1024]⟩
abbrev S1024x1792 : Shape := ⟨2, ![1024, 1792]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S16384x1792 : Shape := ⟨2, ![16384, 1792]⟩
abbrev S16384x512 : Shape := ⟨2, ![16384, 512]⟩
abbrev S16384x64 : Shape := ⟨2, ![16384, 64]⟩
abbrev S16384x8 : Shape := ⟨2, ![16384, 8]⟩
abbrev S256x1024 : Shape := ⟨2, ![256, 1024]⟩
abbrev S1x1x1024 : Shape := ⟨3, ![1, 1, 1024]⟩
abbrev S256x1792 : Shape := ⟨2, ![256, 1792]⟩
abbrev S256x512 : Shape := ⟨2, ![256, 512]⟩
abbrev S256x64 : Shape := ⟨2, ![256, 64]⟩
abbrev S256x8 : Shape := ⟨2, ![256, 8]⟩
abbrev S256 : Shape := ⟨1, ![256]⟩
abbrev S256x1 : Shape := ⟨2, ![256, 1]⟩
abbrev S256x128 : Shape := ⟨2, ![256, 128]⟩

abbrev nBuf : Space → Nat
  | .hbm => 31
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3912, .f32⟩
  | .hbm, ⟨5, _⟩ => ⟨S16384x1024, .f32⟩
  | .hbm, ⟨6, _⟩ => ⟨S2x1x1024, .f32⟩
  | .hbm, ⟨7, _⟩ => ⟨S2x1x1024, .f32⟩
  | .hbm, ⟨8, _⟩ => ⟨S1x1024, .f32⟩
  | .hbm, ⟨9, _⟩ => ⟨S1024x1792, .f32⟩
  | .hbm, ⟨10, _⟩ => ⟨S1024x1792, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .bf16⟩
  | .hbm, ⟨19, _⟩ => ⟨S1024x72, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S16384x1792, .f32⟩
  | .hbm, ⟨25, _⟩ => ⟨S16384x512, .bf16⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x64, .f32⟩
  | .hbm, ⟨30, _⟩ => ⟨S16384x8, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S256x1792, .f32⟩
  | .local _ .vmem, ⟨14, _⟩ => ⟨S256x1792, .f32⟩
  | .local _ .vmem, ⟨15, _⟩ => ⟨S256x512, .bf16⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .bf16⟩
  | .local _ .vmem, ⟨22, _⟩ => ⟨S256x512, .bf16⟩
  | .local _ .vmem, ⟨23, _⟩ => ⟨S256x64, .f32⟩
  | .local _ .vmem, ⟨24, _⟩ => ⟨S256x64, .f32⟩
  | .local _ .vmem, ⟨25, _⟩ => ⟨S256x8, .f32⟩
  | .local _ .vmem, ⟨26, _⟩ => ⟨S256x8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x8192x1024 : Shape := ⟨3, ![2, 8192, 1024]⟩
abbrev S1024 : Shape := ⟨1, ![1024]⟩
abbrev S2x1024 : Shape := ⟨2, ![2, 1024]⟩
abbrev S1024x3912 : Shape := ⟨2, ![1024, 3912]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3912 : Shape := ⟨3, ![2, 8192, 3912]⟩
abbrev S16384x3912 : Shape := ⟨2, ![16384, 3912]⟩
abbrev S16384x1792 : Shape := ⟨2, ![16384, 1792]⟩
abbrev S16384x512 : Shape := ⟨2, ![16384, 512]⟩
abbrev S16384x64 : Shape := ⟨2, ![16384, 64]⟩
abbrev S16384x8 : Shape := ⟨2, ![16384, 8]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3912, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x3912, .f32⟩
  | .hbm, ⟨31, _⟩ => ⟨S16384x3912, .f32⟩
  | .hbm, ⟨32, _⟩ => ⟨S16384x1792, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x64, .f32⟩
  | .hbm, ⟨38, _⟩ => ⟨S16384x8, .f32⟩
  | .hbm, ⟨39, _⟩ => ⟨S16384x512, .bf16⟩
  | .hbm, ⟨40, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel3.lean ====
abbrev S128x1x1024 : Shape := ⟨3, ![128, 1, 1024]⟩
abbrev S1024 : Shape := ⟨1, ![1024]⟩
abbrev S128x1024 : Shape := ⟨2, ![128, 1024]⟩
abbrev S1024x3912 : Shape := ⟨2, ![1024, 3912]⟩
abbrev S1x128x1024 : Shape := ⟨3, ![1, 128, 1024]⟩
abbrev S1x1024 : Shape := ⟨2, ![1, 1024]⟩
abbrev S1024x1792 : Shape := ⟨2, ![1024, 1792]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S128x1792 : Shape := ⟨2, ![128, 1792]⟩
abbrev S128x512 : Shape := ⟨2, ![128, 512]⟩
abbrev S128x64 : Shape := ⟨2, ![128, 64]⟩
abbrev S128x8 : Shape := ⟨2, ![128, 8]⟩
abbrev S128 : Shape := ⟨1, ![128]⟩
abbrev S128x1 : Shape := ⟨2, ![128, 1]⟩
abbrev S128x128 : Shape := ⟨2, ![128, 128]⟩

abbrev nBuf : Space → Nat
  | .hbm => 31
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x3912, .f32⟩
  | .hbm, ⟨5, _⟩ => ⟨S128x1024, .f32⟩
  | .hbm, ⟨6, _⟩ => ⟨S1x128x1024, .f32⟩
  | .hbm, ⟨7, _⟩ => ⟨S1x128x1024, .f32⟩
  | .hbm, ⟨8, _⟩ => ⟨S1x1024, .f32⟩
  | .hbm, ⟨9, _⟩ => ⟨S1024x1792, .f32⟩
  | .hbm, ⟨10, _⟩ => ⟨S1024x1792, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .bf16⟩
  | .hbm, ⟨19, _⟩ => ⟨S1024x72, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S128x1792, .f32⟩
  | .hbm, ⟨25, _⟩ => ⟨S128x512, .bf16⟩
  | .hbm, ⟨26, _⟩ => ⟨S128x512, .f32⟩
  | .hbm, ⟨27, _⟩ => ⟨S128x512, .f32⟩
  | .hbm, ⟨28, _⟩ => ⟨S128x512, .bf16⟩
  | .hbm, ⟨29, _⟩ => ⟨S128x64, .f32⟩
  | .hbm, ⟨30, _⟩ => ⟨S128x8, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1792, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x128, .bf16⟩
  | .local _ .vmem, ⟨10, _⟩ => ⟨S128x1792, .f32⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x64, .f32⟩
  | .local _ .vmem, ⟨16, _⟩ => ⟨S128x8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1792 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference3Ideal.lean ====
abbrev S128x1x1024 : Shape := ⟨3, ![128, 1, 1024]⟩
abbrev S1024 : Shape := ⟨1, ![1024]⟩
abbrev S128x1024 : Shape := ⟨2, ![128, 1024]⟩
abbrev S1024x3912 : Shape := ⟨2, ![1024, 3912]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3912 : Shape := ⟨3, ![128, 1, 3912]⟩
abbrev S128x3912 : Shape := ⟨2, ![128, 3912]⟩
abbrev S128x1792 : Shape := ⟨2, ![128, 1792]⟩
abbrev S128x512 : Shape := ⟨2, ![128, 512]⟩
abbrev S128x64 : Shape := ⟨2, ![128, 64]⟩
abbrev S128x8 : Shape := ⟨2, ![128, 8]⟩

abbrev nBuf : Space → Nat
  | .hbm => 39
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x3912, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S_, .f32⟩
  | .hbm, ⟨23, _⟩ => ⟨S128x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1x1024, .f32⟩
  | .hbm, ⟨28, _⟩ => ⟨S128x1x3912, .f32⟩
  | .hbm, ⟨29, _⟩ => ⟨S128x3912, .f32⟩
  | .hbm, ⟨30, _⟩ => ⟨S128x1792, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x64, .f32⟩
  | .hbm, ⟨36, _⟩ => ⟨S128x8, .f32⟩
  | .hbm, ⟨37, _⟩ => ⟨S128x512, .bf16⟩
  | .hbm, ⟨38, _⟩ => ⟨S128x512, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S16384x1024 : Shape := ⟨2, ![16384, 1024]⟩
abbrev S2x1x1024 : Shape := ⟨3, ![2, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S1024x128 : Shape := ⟨2, ![1024, 128]⟩
abbrev S1x128 : Shape := ⟨2, ![1, 128]⟩
abbrev S1024x1024 : Shape := ⟨2, ![1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 23
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x5632, .f32⟩
  | .hbm, ⟨6, _⟩ => ⟨S2816x1024, .f32⟩
  | .hbm, ⟨7, _⟩ => ⟨S16384x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S1x1024, .f32⟩
  | .hbm, ⟨12, _⟩ => ⟨S1024x5632, .bf16⟩
  | .hbm, ⟨13, _⟩ => ⟨S1x1024x5632, .bf16⟩
  | .hbm, ⟨14, _⟩ => ⟨S2816x1024, .bf16⟩
  | .hbm, ⟨15, _⟩ => ⟨S1x2816x1024, .bf16⟩
  | .hbm, ⟨16, _⟩ => ⟨S_, .bf16⟩
  | .hbm, ⟨17, _⟩ => ⟨S1024x128, .bf16⟩
  | .hbm, ⟨18, _⟩ => ⟨S_, .f32⟩
  | .hbm, ⟨19, _⟩ => ⟨S1x128, .f32⟩
  | .hbm, ⟨20, _⟩ => ⟨S_, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .bf16⟩
  | .local _ .vmem, ⟨10, _⟩ => ⟨S1x128, .f32⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .f32⟩
  | .local _ .vmem, ⟨22, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![16, 1, 11], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c10_i32 : BitVec 32 := 10#32
  let v4 : BitVec 1 := Scalar.cmpi .eq arg2 c10_i32
  let v5 : BitVec 1 := Scalar.andi v3 v4
  let v27 : BitVec 32 := Scalar.extui v5
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![arg1.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== Reference4Ideal.lean ====
abbrev S2x8192x1024 : Shape := ⟨3, ![2, 8192, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x5632, .f32⟩
  | .hbm, ⟨6, _⟩ => ⟨S2816x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x1x1024, .f32⟩
  | .hbm, ⟨33, _⟩ => ⟨S2x8192x5632, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x1024 : Shape := ⟨2, ![2, 1024]⟩
abbrev S1024x2048 : Shape := ⟨2, ![1024, 2048]⟩
abbrev S16384x1024 : Shape := ⟨2, ![16384, 1024]⟩
abbrev S2x1x1024 : Shape := ⟨3, ![2, 1, 1024]⟩
abbrev S1024x1024 : Shape := ⟨2, ![1024, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024, .f32⟩
  | .hbm, ⟨3, _⟩ => ⟨S1024x2048, .f32⟩
  | .hbm, ⟨4, _⟩ => ⟨S16384x1024, .bf16⟩
  | .hbm, ⟨5, _⟩ => ⟨S16384x1024, .f32⟩
  | .hbm, ⟨6, _⟩ => ⟨S2x1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x8192x1024 : Shape := ⟨3, ![2, 8192, 1024]⟩
abbrev S2x1024 : Shape := ⟨2, ![2, 1024]⟩
abbrev S1024x2048 : Shape := ⟨2, ![1024, 2048]⟩
abbrev S2x8192x2048 : Shape := ⟨3, ![2, 8192, 2048]⟩
abbrev S2x1x1024 : Shape := ⟨3, ![2, 1, 1024]⟩
abbrev S_ : Shape := ⟨0, ![]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024, .f32⟩
  | .hbm, ⟨3, _⟩ => ⟨S1024x2048, .f32⟩
  | .hbm, ⟨4, _⟩ => ⟨S2x8192x1024, .f32⟩
  | .hbm, ⟨5, _⟩ => ⟨S2x8192x2048, .f32⟩
  | .hbm, ⟨6, _⟩ => ⟨S2x8192x1024, .f32⟩
  | .hbm, ⟨7, _⟩ => ⟨S2x8192x1024, .f32⟩
  | .hbm, ⟨8, _⟩ => ⟨S2x1x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S128x1x1024 : Shape := ⟨3, ![128, 1, 1024]⟩
abbrev S1024 : Shape := ⟨1, ![1024]⟩
abbrev S128x1024 : Shape := ⟨2, ![128, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S1x128x1024 : Shape := ⟨3, ![1, 128, 1024]⟩
abbrev S1x1024 : Shape := ⟨2, ![1, 1024]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S1x1024x512 : Shape := ⟨3, ![1, 1024, 512]⟩
abbrev S1x512x1024 : Shape := ⟨3, ![1, 512, 1024]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 27
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x8, .f32⟩
  | .hbm, ⟨6, _⟩ => ⟨S8, .f32⟩
  | .hbm, ⟨7, _⟩ => ⟨S8x1024x7168, .f32⟩
  | .hbm, ⟨8, _⟩ => ⟨S8x3584x1024, .f32⟩
  | .hbm, ⟨9, _⟩ => ⟨S1024, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x1024, .f32⟩
  | .hbm, ⟨15, _⟩ => ⟨S8x1024x7168, .bf16⟩
  | .hbm, ⟨16, _⟩ => ⟨S8x3584x1024, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1x8, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1x1024, .f32⟩
  | .hbm, ⟨26, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1024x128, .bf16⟩
  | .local _ .vmem, ⟨6, _⟩ => ⟨S1x128, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024, .f32⟩
  | .local _ .vmem, ⟨14, _⟩ => ⟨S128x1024, .f32⟩
  | .local _ .vmem, ⟨15, _⟩ => ⟨S128x1024, .bf16⟩
  | .local _ .vmem, ⟨16, _⟩ => ⟨S128x1024, .f32⟩
  | .local _ .vmem, ⟨17, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨3, ![1, 8, 7], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c6_i32 : BitVec 32 := 6#32
  let v4 : BitVec 1 := Scalar.cmpi .eq arg2 c6_i32
  let v5 : BitVec 1 := Scalar.andi v3 v4
  let v37 : BitVec 32 := Scalar.extui v5
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg2 c7_i32
  let c0_i32 : BitVec 32 := 0#32
  let c0_i32_0 : BitVec 32 := 0#32
  ![arg1.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]
-- ==== Reference6Ideal.lean ====
abbrev S128x1x1024 : Shape := ⟨3, ![128, 1, 1024]⟩
abbrev S1024 : Shape := ⟨1, ![1024]⟩
abbrev S128x1024 : Shape := ⟨2, ![128, 1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x8 : Shape := ⟨3, ![128, 1, 8]⟩
abbrev S1x1x8 : Shape := ⟨3, ![1, 1, 8]⟩
abbrev S128x1x2 : Shape := ⟨3, ![128, 1, 2]⟩
abbrev S128x1x2x1 : Shape := ⟨4, ![128, 1, 2, 1]⟩
abbrev S1x1x1x8 : Shape := ⟨4, ![1, 1, 1, 8]⟩
abbrev S128x1x2x8 : Shape := ⟨4, ![128, 1, 2, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S128x1x7168 : Shape := ⟨3, ![128, 1, 7168]⟩
abbrev S128x1x3584 : Shape := ⟨3, ![128, 1, 3584]⟩

abbrev nBuf : Space → Nat
  | .hbm => 262
  | .vmem => 0
  | .smem => 0
  | _ => 0

abbrev hbmTy0_0 (i : Nat) : BufTy := match i % 128 with
  | 0 => ⟨S128x1x1024, .f32⟩
  | 1 => ⟨S1024, .f32⟩
  | 2 => ⟨S128x1024, .f32⟩
  | 3 => ⟨S128x1024, .f32⟩
  | 4 => ⟨S128x1024, .f32⟩
  | 5 => ⟨S1024x8, .f32⟩
  | 6 => ⟨S8, .f32⟩
  | 7 => ⟨S8x1024x7168, .f32⟩
  | 8 => ⟨S8x3584x1024, .f32⟩
  | 9 => ⟨S1024, .f32⟩
  | 10 => ⟨S128x1x1024, .f32⟩
  | 11 => ⟨S_, .f32⟩
  | 12 => ⟨S128x1, .f32⟩
  | 13 => ⟨S128x1x1, .f32⟩
  | 14 => ⟨S_, .f32⟩
  | 15 => ⟨S128x1x1, .f32⟩
  | 16 => ⟨S128x1x1, .f32⟩
  | 17 => ⟨S_, .f32⟩
  | 18 => ⟨S128x1x1, .f32⟩
  | 19 => ⟨S128x1x1, .f32⟩
  | 20 => ⟨S128x1x1, .f32⟩
  | 21 => ⟨S128x1x1024, .f32⟩
  | 22 => ⟨S128x1x1024, .f32⟩
  | 23 => ⟨S1x1x1024, .f32⟩
  | 24 => ⟨S128x1x1024, .f32⟩
  | 25 => ⟨S128x1x1024, .f32⟩
  | 26 => ⟨S128x1x1024, .f32⟩
  | 27 => ⟨S_, .f32⟩
  | 28 => ⟨S128x1x1024, .f32⟩
  | 29 => ⟨S128x1x1024, .f32⟩
  | 30 => ⟨S128x1x1024, .f32⟩
  | 31 => ⟨S128x1x1024, .f32⟩
  | 32 => ⟨S128x1x1024, .f32⟩
  | 33 => ⟨S128x1x1024, .f32⟩
  | 34 => ⟨S128x1x8, .f32⟩
  | 35 => ⟨S1x1x8, .f32⟩
  | 36 => ⟨S128x1x8, .f32⟩
  | 37 => ⟨S128x1x8, .f32⟩
  | 38 => ⟨S128x1x2, .f32⟩
  | 39 => ⟨S128x1x2, .i32⟩
  | 40 => ⟨S_, .f32⟩
  | 41 => ⟨S128x1, .f32⟩
  | 42 => ⟨S_, .f32⟩
  | 43 => ⟨S128x1, .f32⟩
  | 44 => ⟨S128x1, .f32⟩
  | 45 => ⟨S128x1x1, .f32⟩
  | 46 => ⟨S128x1x2, .f32⟩
  | 47 => ⟨S128x1x2, .f32⟩
  | 48 => ⟨S128x1x2, .f32⟩
  | 49 => ⟨S_, .f32⟩
  | 50 => ⟨S128x1, .f32⟩
  | 51 => ⟨S128x1x1, .f32⟩
  | 52 => ⟨S128x1x2, .f32⟩
  | 53 => ⟨S128x1x2, .f32⟩
  | 54 => ⟨S128x1x2x1, .i32⟩
  | 55 => ⟨S1x1x1x8, .i32⟩
  | 56 => ⟨S128x1x2x8, .i32⟩
  | 57 => ⟨S128x1x2x8, .i32⟩
  | 58 => ⟨S128x1x2x8, .i1⟩
  | 59 => ⟨S128x1x2x8, .f32⟩
  | 60 => ⟨S128x1x2x1, .f32⟩
  | 61 => ⟨S128x1x2x8, .f32⟩
  | 62 => ⟨S128x1x2x8, .f32⟩
  | 63 => ⟨S_, .f32⟩
  | 64 => ⟨S128x1x8, .f32⟩
  | 65 => ⟨S_, .f32⟩
  | 66 => ⟨S128x1x1024, .f32⟩
  | 67 => ⟨S128x1x1, .f32⟩
  | 68 => ⟨S1x1024x7168, .f32⟩
  | 69 => ⟨S1024x7168, .f32⟩
  | 70 => ⟨S1x3584x1024, .f32⟩
  | 71 => ⟨S3584x1024, .f32⟩
  | 72 => ⟨S128x1x7168, .f32⟩
  | 73 => ⟨S128x1x3584, .f32⟩
  | 74 => ⟨S128x1x3584, .f32⟩
  | 75 => ⟨S128x1x3584, .f32⟩
  | 76 => ⟨S128x1x3584, .f32⟩
  | 77 => ⟨S_, .f32⟩
  | 78 => ⟨S128x1x3584, .f32⟩
  | 79 => ⟨S128x1x3584, .f32⟩
  | 80 => ⟨S_, .f32⟩
  | 81 => ⟨S128x1x3584, .f32⟩
  | 82 => ⟨S128x1x3584, .f32⟩
  | 83 => ⟨S128x1x3584, .f32⟩
  | 84 => ⟨S128x1x3584, .f32⟩
  | 85 => ⟨S128x1x1024, .f32⟩
  | 86 => ⟨S128x1x1024, .f32⟩
  | 87 => ⟨S128x1x1024, .f32⟩
  | 88 => ⟨S128x1x1024, .f32⟩
  | 89 => ⟨S128x1x1, .f32⟩
  | 90 => ⟨S1x1024x7168, .f32⟩
  | 91 => ⟨S1024x7168, .f32⟩
  | 92 => ⟨S1x3584x1024, .f32⟩
  | 93 => ⟨S3584x1024, .f32⟩
  | 94 => ⟨S128x1x7168, .f32⟩
  | 95 => ⟨S128x1x3584, .f32⟩
  | 96 => ⟨S128x1x3584, .f32⟩
  | 97 => ⟨S128x1x3584, .f32⟩
  | 98 => ⟨S128x1x3584, .f32⟩
  | 99 => ⟨S_, .f32⟩
  | 100 => ⟨S128x1x3584, .f32⟩
  | 101 => ⟨S128x1x3584, .f32⟩
  | 102 => ⟨S_, .f32⟩
  | 103 => ⟨S128x1x3584, .f32⟩
  | 104 => ⟨S128x1x3584, .f32⟩
  | 105 => ⟨S128x1x3584, .f32⟩
  | 106 => ⟨S128x1x3584, .f32⟩
  | 107 => ⟨S128x1x1024, .f32⟩
  | 108 => ⟨S128x1x1024, .f32⟩
  | 109 => ⟨S128x1x1024, .f32⟩
  | 110 => ⟨S128x1x1024, .f32⟩
  | 111 => ⟨S128x1x1, .f32⟩
  | 112 => ⟨S1x1024x7168, .f32⟩
  | 113 => ⟨S1024x7168, .f32⟩
  | 114 => ⟨S1x3584x1024, .f32⟩
  | 115 => ⟨S3584x1024, .f32⟩
  | 116 => ⟨S128x1x7168, .f32⟩
  | 117 => ⟨S128x1x3584, .f32⟩
  | 118 => ⟨S128x1x3584, .f32⟩
  | 119 => ⟨S128x1x3584, .f32⟩
  | 120 => ⟨S128x1x3584, .f32⟩
  | 121 => ⟨S_, .f32⟩
  | 122 => ⟨S128x1x3584, .f32⟩
  | 123 => ⟨S128x1x3584, .f32⟩
  | 124 => ⟨S_, .f32⟩
  | 125 => ⟨S128x1x3584, .f32⟩
  | 126 => ⟨S128x1x3584, .f32⟩
  | 127 => ⟨S128x1x3584, .f32⟩
  | _ => ⟨S128x1x1024, .f32⟩

abbrev hbmTy0_1 (i : Nat) : BufTy := match i % 128 with
  | 0 => ⟨S128x1x3584, .f32⟩
  | 1 => ⟨S128x1x1024, .f32⟩
  | 2 => ⟨S128x1x1024, .f32⟩
  | 3 => ⟨S128x1x1024, .f32⟩
  | 4 => ⟨S128x1x1024, .f32⟩
  | 5 => ⟨S128x1x1, .f32⟩
  | 6 => ⟨S1x1024x7168, .f32⟩
  | 7 => ⟨S1024x7168, .f32⟩
  | 8 => ⟨S1x3584x1024, .f32⟩
  | 9 => ⟨S3584x1024, .f32⟩
  | 10 => ⟨S128x1x7168, .f32⟩
  | 11 => ⟨S128x1x3584, .f32⟩
  | 12 => ⟨S128x1x3584, .f32⟩
  | 13 => ⟨S128x1x3584, .f32⟩
  | 14 => ⟨S128x1x3584, .f32⟩
  | 15 => ⟨S_, .f32⟩
  | 16 => ⟨S128x1x3584, .f32⟩
  | 17 => ⟨S128x1x3584, .f32⟩
  | 18 => ⟨S_, .f32⟩
  | 19 => ⟨S128x1x3584, .f32⟩
  | 20 => ⟨S128x1x3584, .f32⟩
  | 21 => ⟨S128x1x3584, .f32⟩
  | 22 => ⟨S128x1x3584, .f32⟩
  | 23 => ⟨S128x1x1024, .f32⟩
  | 24 => ⟨S128x1x1024, .f32⟩
  | 25 => ⟨S128x1x1024, .f32⟩
  | 26 => ⟨S128x1x1024, .f32⟩
  | 27 => ⟨S128x1x1, .f32⟩
  | 28 => ⟨S1x1024x7168, .f32⟩
  | 29 => ⟨S1024x7168, .f32⟩
  | 30 => ⟨S1x3584x1024, .f32⟩
  | 31 => ⟨S3584x1024, .f32⟩
  | 32 => ⟨S128x1x7168, .f32⟩
  | 33 => ⟨S128x1x3584, .f32⟩
  | 34 => ⟨S128x1x3584, .f32⟩
  | 35 => ⟨S128x1x3584, .f32⟩
  | 36 => ⟨S128x1x3584, .f32⟩
  | 37 => ⟨S_, .f32⟩
  | 38 => ⟨S128x1x3584, .f32⟩
  | 39 => ⟨S128x1x3584, .f32⟩
  | 40 => ⟨S_, .f32⟩
  | 41 => ⟨S128x1x3584, .f32⟩
  | 42 => ⟨S128x1x3584, .f32⟩
  | 43 => ⟨S128x1x3584, .f32⟩
  | 44 => ⟨S128x1x3584, .f32⟩
  | 45 => ⟨S128x1x1024, .f32⟩
  | 46 => ⟨S128x1x1024, .f32⟩
  | 47 => ⟨S128x1x1024, .f32⟩
  | 48 => ⟨S128x1x1024, .f32⟩
  | 49 => ⟨S128x1x1, .f32⟩
  | 50 => ⟨S1x1024x7168, .f32⟩
  | 51 => ⟨S1024x7168, .f32⟩
  | 52 => ⟨S1x3584x1024, .f32⟩
  | 53 => ⟨S3584x1024, .f32⟩
  | 54 => ⟨S128x1x7168, .f32⟩
  | 55 => ⟨S128x1x3584, .f32⟩
  | 56 => ⟨S128x1x3584, .f32⟩
  | 57 => ⟨S128x1x3584, .f32⟩
  | 58 => ⟨S128x1x3584, .f32⟩
  | 59 => ⟨S_, .f32⟩
  | 60 => ⟨S128x1x3584, .f32⟩
  | 61 => ⟨S128x1x3584, .f32⟩
  | 62 => ⟨S_, .f32⟩
  | 63 => ⟨S128x1x3584, .f32⟩
  | 64 => ⟨S128x1x3584, .f32⟩
  | 65 => ⟨S128x1x3584, .f32⟩
  | 66 => ⟨S128x1x3584, .f32⟩
  | 67 => ⟨S128x1x1024, .f32⟩
  | 68 => ⟨S128x1x1024, .f32⟩
  | 69 => ⟨S128x1x1024, .f32⟩
  | 70 => ⟨S128x1x1024, .f32⟩
  | 71 => ⟨S128x1x1, .f32⟩
  | 72 => ⟨S1x1024x7168, .f32⟩
  | 73 => ⟨S1024x7168, .f32⟩
  | 74 => ⟨S1x3584x1024, .f32⟩
  | 75 => ⟨S3584x1024, .f32⟩
  | 76 => ⟨S128x1x7168, .f32⟩
  | 77 => ⟨S128x1x3584, .f32⟩
  | 78 => ⟨S128x1x3584, .f32⟩
  | 79 => ⟨S128x1x3584, .f32⟩
  | 80 => ⟨S128x1x3584, .f32⟩
  | 81 => ⟨S_, .f32⟩
  | 82 => ⟨S128x1x3584, .f32⟩
  | 83 => ⟨S128x1x3584, .f32⟩
  | 84 => ⟨S_, .f32⟩
  | 85 => ⟨S128x1x3584, .f32⟩
  | 86 => ⟨S128x1x3584, .f32⟩
  | 87 => ⟨S128x1x3584, .f32⟩
  | 88 => ⟨S128x1x3584, .f32⟩
  | 89 => ⟨S128x1x1024, .f32⟩
  | 90 => ⟨S128x1x1024, .f32⟩
  | 91 => ⟨S128x1x1024, .f32⟩
  | 92 => ⟨S128x1x1024, .f32⟩
  | 93 => ⟨S128x1x1, .f32⟩
  | 94 => ⟨S1x1024x7168, .f32⟩
  | 95 => ⟨S1024x7168, .f32⟩
  | 96 => ⟨S1x3584x1024, .f32⟩
  | 97 => ⟨S3584x1024, .f32⟩
  | 98 => ⟨S128x1x7168, .f32⟩
  | 99 => ⟨S128x1x3584, .f32⟩
  | 100 => ⟨S128x1x3584, .f32⟩
  | 101 => ⟨S128x1x3584, .f32⟩
  | 102 => ⟨S128x1x3584, .f32⟩
  | 103 => ⟨S_, .f32⟩
  | 104 => ⟨S128x1x3584, .f32⟩
  | 105 => ⟨S128x1x3584, .f32⟩
  | 106 => ⟨S_, .f32⟩
  | 107 => ⟨S128x1x3584, .f32⟩
  | 108 => ⟨S128x1x3584, .f32⟩
  | 109 => ⟨S128x1x3584, .f32⟩
  | 110 => ⟨S128x1x3584, .f32⟩
  | 111 => ⟨S128x1x1024, .f32⟩
  | 112 => ⟨S128x1x1024, .f32⟩
  | 113 => ⟨S128x1x1024, .f32⟩
  | 114 => ⟨S128x1x1024, .f32⟩
  | 115 => ⟨S128x1x1024, .f32⟩
  | 116 => ⟨S128x1x1024, .f32⟩
  | 117 => ⟨S128x1x1024, .f32⟩
  | 118 => ⟨S_, .f32⟩
  | 119 => ⟨S128x1, .f32⟩
  | 120 => ⟨S128x1x1, .f32⟩
  | 121 => ⟨S_, .f32⟩
  | 122 => ⟨S128x1x1, .f32⟩
  | 123 => ⟨S128x1x1, .f32⟩
  | 124 => ⟨S_, .f32⟩
  | 125 => ⟨S128x1x1, .f32⟩
  | 126 => ⟨S128x1x1, .f32⟩
  | 127 => ⟨S128x1x1, .f32⟩
  | _ => ⟨S128x1x1024, .f32⟩

abbrev hbmTy0_2 (i : Nat) : BufTy := match i % 128 with
  | 0 => ⟨S128x1x1024, .f32⟩
  | 1 => ⟨S128x1x1024, .f32⟩
  | 2 => ⟨S1x1x1024, .f32⟩
  | 3 => ⟨S128x1x1024, .f32⟩
  | 4 => ⟨S128x1x1024, .f32⟩
  | 5 => ⟨S128x1024, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_values : Ref sig .tc := ⟨.hbm, 38, rfl⟩
abbrev main_indices : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_call6_v0 : Ref sig .tc := ⟨.hbm, 185, rfl⟩
abbrev main_call6_v1 : Ref sig .tc := ⟨.hbm, 186, rfl⟩
abbrev main_call6_cst : Ref sig .tc := ⟨.hbm, 187, rfl⟩
abbrev main_call6_v2 : Ref sig .tc := ⟨.hbm, 188, rfl⟩
abbrev main_call6_v3 : Ref sig .tc := ⟨.hbm, 189, rfl⟩
abbrev main_call6_cst_0 : Ref sig .tc := ⟨.hbm, 190, rfl⟩
abbrev main_call6_v4 : Ref sig .tc := ⟨.hbm, 191, rfl⟩
abbrev main_call6_v5 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_call7_v0 : Ref sig .tc := ⟨.hbm, 207, rfl⟩
abbrev main_call7_v1 : Ref sig .tc := ⟨.hbm, 208, rfl⟩
abbrev main_call7_cst : Ref sig .tc := ⟨.hbm, 209, rfl⟩
abbrev main_call7_v2 : Ref sig .tc := ⟨.hbm, 210, rfl⟩
abbrev main_call7_v3 : Ref sig .tc := ⟨.hbm, 211, rfl⟩
abbrev main_call7_cst_0 : Ref sig .tc := ⟨.hbm, 212, rfl⟩
abbrev main_call7_v4 : Ref sig .tc := ⟨.hbm, 213, rfl⟩
abbrev main_call7_v5 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_call8_v0 : Ref sig .tc := ⟨.hbm, 229, rfl⟩
abbrev main_call8_v1 : Ref sig .tc := ⟨.hbm, 230, rfl⟩
abbrev main_call8_cst : Ref sig .tc := ⟨.hbm, 231, rfl⟩
abbrev main_call8_v2 : Ref sig .tc := ⟨.hbm, 232, rfl⟩
abbrev main_call8_v3 : Ref sig .tc := ⟨.hbm, 233, rfl⟩
abbrev main_call8_cst_0 : Ref sig .tc := ⟨.hbm, 234, rfl⟩
abbrev main_call8_v4 : Ref sig .tc := ⟨.hbm, 235, rfl⟩
abbrev main_call8_v5 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_cst_8 : Ref sig .tc := ⟨.hbm, 246, rfl⟩
abbrev main_v156 : Ref sig .tc := ⟨.hbm, 247, rfl⟩
abbrev main_v157 : Ref sig .tc := ⟨.hbm, 248, rfl⟩
abbrev main_cst_9 : Ref sig .tc := ⟨.hbm, 249, rfl⟩
abbrev main_v158 : Ref sig .tc := ⟨.hbm, 250, rfl⟩
abbrev main_v159 : Ref sig .tc := ⟨.hbm, 251, rfl⟩
abbrev main_cst_10 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩

abbrev nD : Nat := 1
abbrev τ : Topo := Topo.v7x

variable {F : FTy → Type} [FloatOps F]
-- ==== Proof.Moe.Blocks.lean ====
module

public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import Idealize.ShloMosaic.PureOps.Ideal.Laws

/-! What each grid point of the routed feed-forward call leaves behind.

The grid has 896 points: 16 row tiles of 56 points each, the 56 points being 8 experts of 7 blocks of hidden columns.
The first point of a row tile writes the normalized rows and the dense gate, which the other 55 points only read; every
point adds one product to the accumulator; the last point writes the tile of the result. -/

@[expose] public section

set_option maxRecDepth 16384

noncomputable section

namespace Cert.KernelIdeal.Moe

open Idealize.ShloMosaic Idealize.ShloMosaic.TcCoe Idealize.SL.Sem
open Cert.KernelIdeal Cert.KernelIdeal.Gen Cert.KernelIdeal.Value

variable {F : FTy → Type} [FloatOps F]
variable (m : (ℓ : Loc nD τ sig) → Buf (Elt F) ℓ)

/-- The normalized rows as the point `t` computes them from its blocks. -/
def rowsAt (c : Dev nD) (t : Fin cfg0.N) : FVec F S1024x1024 .bf16 :=
  k0_pay4 (iblk m c 0 t) (iblk m c 1 t) (iblk m c 2 t) (iblk m c 3 t)

/-- The dense gate (one lane per expert) as a function of the normalized rows and the padded router. -/
def gateOf (H : FVec F S1024x1024 .bf16) (W : FVec F S1024x128 .bf16) (B : Vec F S1x128 .f32) : FVec F S1024x128 .f32 :=
  k0_pay18 (k0_pay14 H W B) (k0_pay15 H W B) (k0_pay16 H W B) (k0_pay17 H W B)

/-- The dense gate as the point `t` computes it from its blocks. -/
def gatesAt (c : Dev nD) (t : Fin cfg0.N) : FVec F S1024x128 .f32 :=
  gateOf (k0_pay6 (iblk m c 0 t) (iblk m c 1 t) (iblk m c 2 t) (iblk m c 3 t)) (k0_pay7 (iblk m c 5 t)) (iblk m c 6 t)

/-- The gated hidden columns at point `t`, from the rows and the gate found there. -/
def hiddenAt (c : Dev nD) (t : Fin cfg0.N) (h : FVec F S1024x1024 .bf16) (g : FVec F S1024x128 .f32) :
    FVec F S1024x512 .bf16 :=
  k0_pay19 (grid0.coords t) h (iblk m c 7 t) (iblk m c 8 t) g

/-- The first point of a row tile writes the normalized rows. -/
theorem rows_first (c : Dev nD) (t : Fin cfg0.N) (h0 : t.val % 56 = 0) :
    (outsAt0 m c t.val t.isLt).2.1 = rowsAt m c t := by
  rw [outsAt0_A m c t h0 (by omega)]
  dsimp only
  frame_out
  rfl

/-- The other points of a row tile leave the normalized rows as they found them. -/
theorem rows_kept (c : Dev nD) (t : Fin cfg0.N) (h0 : ¬t.val % 56 = 0) :
    (outsAt0 m c t.val t.isLt).2.1
      = (outsAt0 m c (t.val - 1) (Nat.lt_of_le_of_lt (Nat.sub_le _ _) t.isLt)).2.1 := by
  by_cases h1 : t.val % 56 = 55
  · rw [outsAt0_C m c t h0 h1]
    rfl
  · rw [outsAt0_B m c t h0 h1]
    rfl

/-- The first point of a row tile writes the dense gate. -/
theorem gates_first (c : Dev nD) (t : Fin cfg0.N) (h0 : t.val % 56 = 0) :
    (outsAt0 m c t.val t.isLt).2.2.2 = gatesAt m c t := by
  rw [outsAt0_A m c t h0 (by omega)]
  dsimp only
  frame_out
  rfl

/-- The other points of a row tile leave the dense gate as they found it. -/
theorem gates_kept (c : Dev nD) (t : Fin cfg0.N) (h0 : ¬t.val % 56 = 0) :
    (outsAt0 m c t.val t.isLt).2.2.2
      = (outsAt0 m c (t.val - 1) (Nat.lt_of_le_of_lt (Nat.sub_le _ _) t.isLt)).2.2.2 := by
  by_cases h1 : t.val % 56 = 55
  · rw [outsAt0_C m c t h0 h1]
    rfl
  · rw [outsAt0_B m c t h0 h1]
    rfl

/-- The first point of a row tile starts the accumulator from zero and adds its product. -/
theorem acc_first (c : Dev nD) (t : Fin cfg0.N) (h0 : t.val % 56 = 0) :
    (outsAt0 m c t.val t.isLt).2.2.1
      = k0_pay1 k0_pay5 (hiddenAt m c t (rowsAt m c t) (gatesAt m c t)) (k0_pay20 (iblk m c 9 t)) := by
  rw [outsAt0_A m c t h0 (by omega)]
  dsimp only
  frame_out
  rfl

/-- The other points add their product to the accumulator they found. -/
theorem acc_step (c : Dev nD) (t : Fin cfg0.N) (h0 : ¬t.val % 56 = 0) :
    (outsAt0 m c t.val t.isLt).2.2.1
      = k0_pay1 (outsAt0 m c (t.val - 1) (Nat.lt_of_le_of_lt (Nat.sub_le _ _) t.isLt)).2.2.1
          (hiddenAt m c t (outsAt0 m c (t.val - 1) (Nat.lt_of_le_of_lt (Nat.sub_le _ _) t.isLt)).2.1
            (outsAt0 m c (t.val - 1) (Nat.lt_of_le_of_lt (Nat.sub_le _ _) t.isLt)).2.2.2)
          (k0_pay20 (iblk m c 9 t)) := by
  by_cases h1 : t.val % 56 = 55
  · rw [outsAt0_C m c t h0 h1]
    dsimp only
    frame_out
    simp only [read_unread_whole]
    rfl
  · rw [outsAt0_B m c t h0 h1]
    dsimp only
    frame_out
    simp only [read_unread_whole]
    rfl

/-- The last point of a row tile writes the result from the accumulator as it leaves it. -/
theorem out_last (c : Dev nD) (t : Fin cfg0.N) (h1 : t.val % 56 = 55) :
    (outsAt0 m c t.val t.isLt).1
      = k0_pay2 (iblk m c 0 t) (iblk m c 4 t) (outsAt0 m c t.val t.isLt).2.2.1 (iblk m c 10 t) := by
  rw [acc_step m c t (by omega), outsAt0_C m c t (by omega) h1]
  dsimp only
  frame_out
  simp only [read_unread_whole]
  rfl

/-- The first point of the row tile of `t`. -/
def firstOf (t : Fin cfg0.N) : Fin cfg0.N := ⟨56 * (t.val / 56), Pipeline.run_start_lt t⟩

/-- The first step of a row block's run is the block's number times the run's length. -/
theorem firstOf_eq (t : Fin cfg0.N) (h0 : t.val % 56 = 0) : firstOf t = t := Fin.ext (by simp only [firstOf]; omega)

/-- Every point finds the rows its row tile's first point wrote. -/
theorem rows_held (c : Dev nD) (t : Fin cfg0.N) :
    (outsAt0 m c t.val t.isLt).2.1 = rowsAt m c (firstOf t) :=
  Pipeline.eq_of_write_hold (fun n h => (outsAt0 m c n h).2.1) 56 (rowsAt m c) (rows_first m c) (rows_kept m c) t

/-- Every point finds the gate its row tile's first point wrote. -/
theorem gates_held (c : Dev nD) (t : Fin cfg0.N) :
    (outsAt0 m c t.val t.isLt).2.2.2 = gatesAt m c (firstOf t) :=
  Pipeline.eq_of_write_hold (fun n h => (outsAt0 m c n h).2.2.2) 56 (gatesAt m c) (gates_first m c) (gates_kept m c) t

/-- The gated hidden columns of point `t`, from the rows and gate of its row tile. -/
def hidden (c : Dev nD) (t : Fin cfg0.N) : FVec F S1024x512 .bf16 :=
  hiddenAt m c t (rowsAt m c (firstOf t)) (gatesAt m c (firstOf t))

/-- `acc_first` read at a position of the accumulator. -/
theorem acc_first' (c : Dev nD) (t : Fin cfg0.N) (h0 : t.val % 56 = 0) :
    (outsAt0 m c t.val t.isLt).2.2.1 = k0_pay1 k0_pay5 (hidden m c t) (k0_pay20 (iblk m c 9 t)) := by
  rw [acc_first m c t h0, hidden, firstOf_eq t h0]

/-- `acc_step` read at a position of the accumulator. -/
theorem acc_step' (c : Dev nD) (t : Fin cfg0.N) (h0 : ¬t.val % 56 = 0) :
    (outsAt0 m c t.val t.isLt).2.2.1
      = k0_pay1 (outsAt0 m c (t.val - 1) (Nat.lt_of_le_of_lt (Nat.sub_le _ _) t.isLt)).2.2.1 (hidden m c t)
          (k0_pay20 (iblk m c 9 t)) := by
  rw [acc_step m c t h0, ← rows_kept m c t h0, ← gates_kept m c t h0, rows_held, gates_held]
  rfl

/-- A matrix product added to an accumulator, at an index. -/
theorem pay1_apply (a : Vec Ideal S1024x1024 .f32) (u : FVec Ideal S1024x512 .bf16) (w : FVec Ideal S512x1024 .bf16)
    (j : S1024x1024.Idx) :
    k0_pay1 (F := Ideal) a u w j = a j + ∑ k : Fin 512, u (ix2 (j 0) k) * w (ix2 k (j 1)) := by
  pointwise [k0_pay1]

/-- What the kernel writes before the first block of an expert: zero. -/
theorem pay5_apply (j : S1024x1024.Idx) : k0_pay5 (F := Ideal) j = 0 := by
  pointwise [k0_pay5]

/-- The product point `t` adds, at an index of the row tile. -/
def term (m : (ℓ : Loc nD τ sig) → Buf (Elt Ideal) ℓ) (c : Dev nD) (t : Fin cfg0.N) (j : S1024x1024.Idx) : EReal :=
  ∑ k : Fin 512, hidden (F := Ideal) m c t (ix2 (j 0) k) * k0_pay20 (F := Ideal) (iblk m c 9 t) (ix2 k (j 1))

/-- At the last point of a row tile the accumulator holds the sum of the 56 products. -/
theorem acc_last (m : (ℓ : Loc nD τ sig) → Buf (Elt Ideal) ℓ) (c : Dev nD) (t : Fin cfg0.N) (ht : t.val % 56 = 55)
    (j : S1024x1024.Idx) :
    (outsAt0 (F := Ideal) m c t.val t.isLt).2.2.1 j
      = ∑ s : Fin 56, term m c ⟨56 * (t.val / 56) + s.val, Pipeline.run_point_lt_of_flush t ht s⟩ j := by
  rw [Pipeline.eq_sum_fin_of_reset_step_apply_of_flush (fun n h => (outsAt0 (F := Ideal) m c n h).2.2.1) 56
    (fun _ => (0 : EReal)) (term m c)
    (fun t h j => by rw [acc_first' m c t h, pay1_apply, pay5_apply]; rfl)
    (fun t h j => by rw [acc_step' m c t h, pay1_apply]; rfl) t ht j, zero_add]

end Cert.KernelIdeal.Moe

end
-- ==== Proof.Moe.Reads.lean ====
module

public import proofs.«01_k».proof.Proof.Moe.Blocks

/-! Every block a grid point reads, at an index, as an entry of an argument.

A row tile `T` holds rows `1024 T … 1024 T + 1023` of the 16384 rows, the rows of the two prompts laid end to end: row
`8192 b + r` is row `r` of prompt `b`. -/

@[expose] public section

set_option maxRecDepth 16384

noncomputable section

namespace Cert.KernelIdeal.Moe

open Idealize.ShloMosaic Idealize.ShloMosaic.TcCoe Idealize.SL.Sem
open Cert.KernelIdeal Cert.KernelIdeal.Gen Cert.KernelIdeal.Value

/-- The block every window reads at every point. -/
theorem idx : ∀ t : Fin cfg0.N,
    win0_0.index t = ![t.val / 56, 0] ∧ win0_1.index t = ![0, 0] ∧ win0_2.index t = ![t.val / 448, 0, 0]
    ∧ win0_3.index t = ![t.val / 448, 0, 0] ∧ win0_4.index t = ![t.val / 448, 0, 0] ∧ win0_5.index t = ![0, 0]
    ∧ win0_6.index t = ![0, 0] ∧ win0_7.index t = ![t.val % 56 / 7, 0, t.val % 7]
    ∧ win0_8.index t = ![t.val % 56 / 7, 0, t.val % 7 + 7] ∧ win0_9.index t = ![t.val % 56 / 7, t.val % 7, 0]
    ∧ win0_10.index t = ![0, 0] ∧ t.val / 56 < 16 ∧ t.val / 448 < 2 ∧ (grid0.coords t 1).val = t.val % 56 / 7 :=
  (by decide +kernel : ∀ t : Fin grid0.N, _)

/-- The padded router at an index: the router in the first eight columns, the padding value in the others. -/
theorem pad_router (x : FVec Ideal S1024x8 .f32) (v : FVec Ideal S_ .f32) (a : Fin 1024) (b : Fin 128) :
    pad S1024x128 ![0, 0] ![0, 120] ![0, 0] x v pads_S1024x8_S1024x128_000_01200 h_S_ (ix2 a b)
      = if h : b.val < 8 then x (ix2 a ⟨b.val, h⟩) else v (Shape.Idx.first h_S_) := by
  pointwise
/-- The padded bias at an index. -/
theorem pad_bias (x : FVec Ideal S1x8 .f32) (v : FVec Ideal S_ .f32) (a : Fin 1) (b : Fin 128) :
    pad S1x128 ![0, 0] ![0, 120] ![0, 0] x v pads_S1x8_S1x128_000_01200 h_S_ (ix2 a b)
      = if h : b.val < 8 then x (ix2 0 ⟨b.val, h⟩) else v (Shape.Idx.first h_S_) := by
  pointwise
/-- The padding value is zero. -/
theorem zero_word (i : S_.Idx) : sitofp (F := Ideal) .f32 (constantI S_ 32 0#32) i = (0 : EReal) := by
  show ((((0#32 : BitVec 32).toInt : ℤ) : ℝ) : EReal) = 0
  simp
/-- The rows of the two prompts laid end to end, at an index. -/
theorem cast_rows (x : FVec Ideal S2x8192x1024 .f32) (R : Fin 16384) (b : Fin 1024) (p : Fin 2) (r : Fin 8192)
    (h : 8192 * p.val + r.val = R.val) :
    shapeCast S16384x1024 x shapeCasts_S2x8192x1024_S16384x1024 (ix2 R b) = x (ix3 p r b) := by
  pointwise
  congr 1
  blk_ext
/-- A row of eight as a 1 × 8 array, at an index. -/
theorem cast_bias (x : FVec Ideal S8 .f32) (a : Fin 1) (b : Fin 8) :
    shapeCast S1x8 x shapeCasts_S8_S1x8 (ix2 a b) = x (ix1 b) := by
  pointwise

variable (m : (ℓ : Loc nD τ sig) → Buf (Elt Ideal) ℓ) (c : Dev nD) (t : Fin cfg0.N)

/-- The rows behind the first operand: the two prompts' rows laid end to end. -/
theorem V_v0 : V (F := Ideal) m c main_v0 = shapeCast S16384x1024 (m ((c : Thread nD τ).loc main_arg0)) shapeCasts_S2x8192x1024_S16384x1024 := by
  unfold V
  simp only [hostOps0, hostOps0_1, hostOps0_2, hostOps0_3, hostOps0_4, List.flatten_cons, List.flatten_nil,
    List.append_nil, List.cons_append, List.nil_append]
  entry_read
  rfl

/-- The shift rows behind the kernel's operand. -/
theorem V_v1 : V (F := Ideal) m c main_v1 = shapeCast S2x1x1024 (m ((c : Thread nD τ).loc main_arg2)) shapeCasts_S2x1024_S2x1x1024 := by
  unfold V
  simp only [hostOps0, hostOps0_1, hostOps0_2, hostOps0_3, hostOps0_4, List.flatten_cons, List.flatten_nil,
    List.append_nil, List.cons_append, List.nil_append]
  entry_read
  rfl

/-- The scale rows behind the kernel's operand. -/
theorem V_v2 : V (F := Ideal) m c main_v2 = shapeCast S2x1x1024 (m ((c : Thread nD τ).loc main_arg3)) shapeCasts_S2x1024_S2x1x1024 := by
  unfold V
  simp only [hostOps0, hostOps0_1, hostOps0_2, hostOps0_3, hostOps0_4, List.flatten_cons, List.flatten_nil,
    List.append_nil, List.cons_append, List.nil_append]
  entry_read
  rfl

/-- The gate rows behind the kernel's operand. -/
theorem V_v3 : V (F := Ideal) m c main_v3 = shapeCast S2x1x1024 (m ((c : Thread nD τ).loc main_arg4)) shapeCasts_S2x1024_S2x1x1024 := by
  unfold V
  simp only [hostOps0, hostOps0_1, hostOps0_2, hostOps0_3, hostOps0_4, List.flatten_cons, List.flatten_nil,
    List.append_nil, List.cons_append, List.nil_append]
  entry_read
  rfl

/-- The gain of the norm before the experts, as a one-row array. -/
theorem V_v4 : V (F := Ideal) m c main_v4 = shapeCast S1x1024 (m ((c : Thread nD τ).loc main_arg1)) shapeCasts_S1024_S1x1024 := by
  unfold V
  simp only [hostOps0, hostOps0_1, hostOps0_2, hostOps0_3, hostOps0_4, List.flatten_cons, List.flatten_nil,
    List.append_nil, List.cons_append, List.nil_append]
  entry_read
  rfl

/-- The gain of the final norm, as a one-row array. -/
theorem V_v11 : V (F := Ideal) m c main_v11 = shapeCast S1x1024 (m ((c : Thread nD τ).loc main_arg9)) shapeCasts_S1024_S1x1024 := by
  unfold V
  simp only [hostOps0, hostOps0_1, hostOps0_2, hostOps0_3, hostOps0_4, List.flatten_cons, List.flatten_nil,
    List.append_nil, List.cons_append, List.nil_append]
  entry_read
  rfl

/-- The router behind the kernel's operand: padded to 128 columns. -/
theorem V_v8 : V (F := Ideal) m c main_v8 = (truncf (F := Ideal) .bf16 (pad S1024x128 ![0, 0] ![0, 120] ![0, 0] (m ((c : Thread nD τ).loc main_arg5) : FVec Ideal S1024x8 .f32) (sitofp (F := Ideal) .f32 (constantI S_ 32 0#32)) pads_S1024x8_S1024x128_000_01200 h_S_) bitsLt_bf16_f32 : FVec Ideal S1024x128 .bf16) := by
  unfold V
  simp only [hostOps0, hostOps0_1, hostOps0_2, hostOps0_3, hostOps0_4, List.flatten_cons, List.flatten_nil,
    List.append_nil, List.cons_append, List.nil_append]
  entry_read
  rfl

/-- The bias behind the kernel's operand: padded to 128 lanes. -/
theorem V_v10 : V (F := Ideal) m c main_v10 = (pad S1x128 ![0, 0] ![0, 120] ![0, 0] (shapeCast S1x8 (m ((c : Thread nD τ).loc main_arg6) : FVec Ideal S8 .f32) shapeCasts_S8_S1x8) (sitofp (F := Ideal) .f32 (constantI S_ 32 0#32)) pads_S1x8_S1x128_000_01200 h_S_ : FVec Ideal S1x128 .f32) := by
  unfold V
  simp only [hostOps0, hostOps0_1, hostOps0_2, hostOps0_3, hostOps0_4, List.flatten_cons, List.flatten_nil,
    List.append_nil, List.cons_append, List.nil_append]
  entry_read
  rfl

/-- The residual rows that a step reads. -/
theorem read_x (a b : Fin 1024) (p : Fin 2) (r : Fin 8192) (h : 8192 * p.val + r.val = 1024 * (t.val / 56) + a.val) :
    iblk (F := Ideal) m c 0 t (ix2 a b) = m ((c : Thread nD τ).loc main_arg0) (ix3 p r b) := by
  show V m c main_v0 (((cfg0.win 0).blk t).view.emb (ix2 a b)) = _
  have ht : 1024 * (t.val / 56) + a.val < 16384 := by
    obtain ⟨_, _, _, _, _, _, _, _, _, _, _, h56, _⟩ := idx t
    omega
  rw [V_v0, show ((cfg0.win 0).blk t).view.emb (ix2 a b) = ix2 ⟨1024 * (t.val / 56) + a.val, ht⟩ b from by
    blk_ext [idx t]]
  exact cast_rows _ _ b p r h

/-- The gain of the norm before the experts, as a step reads it. -/
theorem read_norm (a : Fin 1) (b : Fin 1024) :
    iblk (F := Ideal) m c 1 t (ix2 a b) = m ((c : Thread nD τ).loc main_arg1) (ix1 b) := by
  show V m c main_v4 (((cfg0.win 1).blk t).view.emb (ix2 a b)) = _
  rw [V_v4]
  pointwise
  blk_ext [iblk, idx t]

/-- The modulation's shift row of the prompt the step belongs to. -/
theorem read_shift (a a' : Fin 1) (b : Fin 1024) (p : Fin 2) (h : p.val = t.val / 448) :
    iblk (F := Ideal) m c 2 t (ix3 a a' b) = m ((c : Thread nD τ).loc main_arg2) (ix2 p b) := by
  show V m c main_v1 (((cfg0.win 2).blk t).view.emb (ix3 a a' b)) = _
  rw [V_v1]
  pointwise
  blk_ext [iblk, idx t]

/-- The modulation's scale row of that prompt. -/
theorem read_scale (a a' : Fin 1) (b : Fin 1024) (p : Fin 2) (h : p.val = t.val / 448) :
    iblk (F := Ideal) m c 3 t (ix3 a a' b) = m ((c : Thread nD τ).loc main_arg3) (ix2 p b) := by
  show V m c main_v2 (((cfg0.win 3).blk t).view.emb (ix3 a a' b)) = _
  rw [V_v2]
  pointwise
  blk_ext [iblk, idx t]

/-- The modulation's gate row of that prompt. -/
theorem read_mod_gate (a a' : Fin 1) (b : Fin 1024) (p : Fin 2) (h : p.val = t.val / 448) :
    iblk (F := Ideal) m c 4 t (ix3 a a' b) = m ((c : Thread nD τ).loc main_arg4) (ix2 p b) := by
  show V m c main_v3 (((cfg0.win 4).blk t).view.emb (ix3 a a' b)) = _
  rw [V_v3]
  pointwise
  blk_ext [iblk, idx t]

/-- The padded router matrix: the router in its first eight columns, zero after them. -/
theorem entry_router (a : Fin 1024) (b : Fin 128) :
    V (F := Ideal) m c main_v8 (ix2 a b)
      = if h : b.val < 8 then m ((c : Thread nD τ).loc main_arg5) (ix2 a ⟨b.val, h⟩) else (0 : EReal) := by
  rw [V_v8]
  refine (pad_router _ _ a b).trans ?_
  split
  · rfl
  · exact zero_word _

/-- The padded router matrix, as a step reads it. -/
theorem read_router (a : Fin 1024) (b : Fin 128) :
    iblk (F := Ideal) m c 5 t (ix2 a b)
      = if h : b.val < 8 then m ((c : Thread nD τ).loc main_arg5) (ix2 a ⟨b.val, h⟩) else (0 : EReal) := by
  show V m c main_v8 (((cfg0.win 5).blk t).view.emb (ix2 a b)) = _
  rw [show ((cfg0.win 5).blk t).view.emb (ix2 a b) = ix2 a b from by blk_ext [idx t]]
  exact entry_router m c a b

/-- The padded bias: the bias in the first eight lanes, zero after them. -/
theorem entry_bias (a : Fin 1) (b : Fin 128) :
    V (F := Ideal) m c main_v10 (ix2 a b)
      = if h : b.val < 8 then m ((c : Thread nD τ).loc main_arg6) (ix1 ⟨b.val, h⟩) else (0 : EReal) := by
  rw [V_v10]
  refine (pad_bias _ _ a b).trans ?_
  split
  · exact cast_bias _ _ _
  · exact zero_word _

/-- The padded bias, as a step reads it. -/
theorem read_bias (a : Fin 1) (b : Fin 128) :
    iblk (F := Ideal) m c 6 t (ix2 a b)
      = if h : b.val < 8 then m ((c : Thread nD τ).loc main_arg6) (ix1 ⟨b.val, h⟩) else (0 : EReal) := by
  show V m c main_v10 (((cfg0.win 6).blk t).view.emb (ix2 a b)) = _
  rw [show ((cfg0.win 6).blk t).view.emb (ix2 a b) = ix2 a b from by blk_ext [idx t]]
  exact entry_bias m c a b

/-- The block of an expert's first matrix, left half, that a step reads. -/
theorem read_w1 (a : Fin 1) (b : Fin 1024) (k : Fin 512) (e : Fin 8) (q : Fin 7168) (he : e.val = t.val % 56 / 7)
    (hq : q.val = 512 * (t.val % 7) + k.val) :
    iblk (F := Ideal) m c 7 t (ix3 a b k) = m ((c : Thread nD τ).loc main_arg7) (ix3 e b q) := by
  blk_simp [iblk, idx t]
  entry_read
  pointwise
  blk_ext [iblk, V, idx t]

/-- The block of its right half. -/
theorem read_w3 (a : Fin 1) (b : Fin 1024) (k : Fin 512) (e : Fin 8) (q : Fin 7168) (he : e.val = t.val % 56 / 7)
    (hq : q.val = 512 * (t.val % 7) + k.val + 3584) :
    iblk (F := Ideal) m c 8 t (ix3 a b k) = m ((c : Thread nD τ).loc main_arg7) (ix3 e b q) := by
  blk_simp [iblk, idx t]
  entry_read
  pointwise
  blk_ext [iblk, V, idx t]

/-- The block of its second matrix. -/
theorem read_w2 (a : Fin 1) (k : Fin 512) (b : Fin 1024) (e : Fin 8) (q : Fin 3584) (he : e.val = t.val % 56 / 7)
    (hq : q.val = 512 * (t.val % 7) + k.val) :
    iblk (F := Ideal) m c 9 t (ix3 a k b) = m ((c : Thread nD τ).loc main_arg8) (ix3 e q b) := by
  blk_simp [iblk, idx t]
  entry_read
  pointwise
  blk_ext [iblk, V, idx t]

/-- The gain of the final norm, as a step reads it. -/
theorem read_final (a : Fin 1) (b : Fin 1024) :
    iblk (F := Ideal) m c 10 t (ix2 a b) = m ((c : Thread nD τ).loc main_arg9) (ix1 b) := by
  show V m c main_v11 (((cfg0.win 10).blk t).view.emb (ix2 a b)) = _
  rw [V_v11]
  pointwise
  blk_ext [iblk, idx t]

end Cert.KernelIdeal.Moe

end
-- ==== Proof.Moe.Top2.lean ====
/-
  The two largest of a row of scores, first index first, and the softmax gates of the two: what a stable sort puts in
  front, and what two rounds of "greatest value, least lane that has it" over a padded row find, are the same pair.
-/
module

public import Idealize.ShloMosaic.PureOps.Ideal
public import Idealize.ShloMosaic.Lib.SortFacts
public import Mathlib.Data.Finset.Fold

@[expose] public section

noncomputable section

namespace Cert.Top2

open Idealize.ShloMosaic

/-- Entry `x` comes before entry `y`: it is larger, or equal and of lower index. -/
def Before {n : Nat} (l : Fin n → EReal) (x y : Fin n) : Prop := l y < l x ∨ (l x = l y ∧ x < y)

/-- What comes before has at least the value. -/
theorem Before.le {n : Nat} {l : Fin n → EReal} {x y : Fin n} (h : Before l x y) : l y ≤ l x :=
  h.elim le_of_lt fun h => h.1.symm.le

/-- Inserting an index lower than all those of a sorted list keeps the list sorted. -/
theorem pairwise_insert {n : Nat} (l : Fin n → EReal) (bf : Fin n → Fin n → Bool)
    (hbf : ∀ k k', bf k k' = true ↔ l k' < l k) (a : Fin n) (s : List (Fin n)) (ha : ∀ y ∈ s, a < y)
    (hs : s.Pairwise (Before l)) : (insertBefore bf a s).Pairwise (Before l) := by
  induction s with
  | nil => exact List.pairwise_singleton _ _
  | cons b s ih =>
    rw [List.pairwise_cons] at hs
    have hab : a < b := ha b (by simp)
    have has : ∀ y ∈ s, a < y := fun y hy => ha y (by simp [hy])
    unfold insertBefore
    split
    · rename_i h
      rw [List.pairwise_cons]
      refine ⟨fun y hy => ?_, ih has hs.2⟩
      rcases List.mem_cons.mp ((perm_insertBefore bf a s).mem_iff.mp hy) with rfl | hy
      · exact Or.inl ((hbf _ _).mp h)
      · exact hs.1 y hy
    · rename_i h
      have hle : l b ≤ l a := not_lt.mp fun hlt => h ((hbf _ _).mpr hlt)
      rw [List.pairwise_cons]
      refine ⟨fun y hy => ?_, List.pairwise_cons.mpr hs⟩
      have hya : a < y := ha y hy
      have hyl : l y ≤ l a := by
        rcases List.mem_cons.mp hy with rfl | hy
        · exact hle
        · exact (hs.1 y hy).le.trans hle
      rcases hyl.lt_or_eq with h | h
      · exact Or.inl h
      · exact Or.inr ⟨h.symm, hya⟩

/-- The stable sort of increasing indices, larger entries first, is sorted by `Before`. -/
theorem pairwise_sort {n : Nat} (l : Fin n → EReal) (bf : Fin n → Fin n → Bool)
    (hbf : ∀ k k', bf k k' = true ↔ l k' < l k) (s : List (Fin n)) (hs : s.Pairwise (· < ·)) :
    (stableSort bf s).Pairwise (Before l) := by
  induction s with
  | nil => exact List.Pairwise.nil
  | cons a s ih =>
    rw [List.pairwise_cons] at hs
    unfold stableSort
    exact pairwise_insert l bf hbf a _ (fun y hy => hs.1 y ((perm_stableSort bf s).mem_iff.mp hy)) (ih hs.2)

/-- `a` is the first of the largest entries, `b` the first of the largest among the others. -/
structure IsTop2 {n : Nat} (l : Fin n → EReal) (a b : Fin n) : Prop where
  ne : b ≠ a
  fst : ∀ j, j ≠ a → Before l a j
  snd : ∀ j, j ≠ a → j ≠ b → Before l b j

/-- The first two positions of the stable sort hold the two largest. -/
theorem isTop2_sorted {n : Nat} (l : Fin (n + 2) → EReal) (bf : Fin (n + 2) → Fin (n + 2) → Bool)
    (hbf : ∀ k k', bf k k' = true ↔ l k' < l k) : IsTop2 l (sortedFrom bf 0) (sortedFrom bf 1) := by
  have hP : (sortPositions (n + 2) bf).Pairwise (Before l) := pairwise_sort l bf hbf _ (List.pairwise_lt_finRange _)
  have hB : ∀ i j : Fin (n + 2), i < j → Before l (sortedFrom bf i) (sortedFrom bf j) := fun i j hij => by
    unfold sortedFrom
    exact List.pairwise_iff_get.mp hP _ _ hij
  have hinj := sortedFrom_injective bf
  have hsurj := sortedFrom_surjective bf
  refine ⟨fun h => ?_, fun j hj => ?_, fun j hj hj' => ?_⟩
  · have := hinj h
    simp at this
  · obtain ⟨k, rfl⟩ := hsurj j
    exact hB 0 k (Fin.pos_iff_ne_zero.mpr fun h => hj (by rw [h]))
  · obtain ⟨k, rfl⟩ := hsurj j
    refine hB 1 k ?_
    have h0 : k ≠ 0 := fun h => hj (by rw [h])
    have h1 : k ≠ 1 := fun h => hj' (by rw [h])
    rw [Fin.lt_def]
    have h0' : k.val ≠ 0 := fun h => h0 (Fin.ext h)
    have h1' : k.val ≠ 1 := fun h => h1 (Fin.ext h)
    show (1 : Fin (n + 2)).val < k.val
    rw [show (1 : Fin (n + 2)).val = 1 from rfl]
    omega

/-- No value exceeds the first. -/
theorem IsTop2.le_fst {n : Nat} {l : Fin n → EReal} {a b : Fin n} (h : IsTop2 l a b) (j : Fin n) : l j ≤ l a := by
  by_cases hj : j = a
  · rw [hj]
  · exact (h.fst j hj).le

/-- No value but the first exceeds the second. -/
theorem IsTop2.le_snd {n : Nat} {l : Fin n → EReal} {a b : Fin n} (h : IsTop2 l a b) (j : Fin n) (hj : j ≠ a) :
    l j ≤ l b := by
  by_cases hb : j = b
  · rw [hb]
  · exact (h.snd j hj hb).le

/-- The gate of entry `e`: the softmax of the two largest entries at those two, zero elsewhere. -/
def gate {n : Nat} (l : Fin n → EReal) (a b e : Fin n) : EReal :=
  (if e = a then Ideal.div 1 (1 + Ideal.exp (l b - l a)) else 0)
    + (if e = b then Ideal.div (Ideal.exp (l b - l a)) (1 + Ideal.exp (l b - l a)) else 0)

/-- The exponential of the second entry over the first is a nonnegative real, if the first is real. -/
theorem exp_real (x : EReal) (y : ℝ) (h : x ≤ y) : ∃ r : ℝ, 0 ≤ r ∧ Ideal.exp (x - y) = r := by
  induction x with
  | bot => exact ⟨0, le_refl _, by rw [EReal.bot_sub, EReal.coe_zero]; rfl⟩
  | top => simp at h
  | coe x => exact ⟨Real.exp (x - y), (Real.exp_pos _).le, by rw [← EReal.coe_sub]; rfl⟩

/-- A quotient of reals with a nonzero divisor is the real quotient. -/
theorem div_real (x r : ℝ) (hr : 0 ≤ r) : Ideal.div (x : EReal) (1 + (r : EReal)) = ((x * (1 + r)⁻¹ : ℝ) : EReal) := by
  have h : (1 + (r : EReal)) = ((1 + r : ℝ) : EReal) := by norm_cast
  rw [h, Ideal.div, if_neg, ← EReal.coe_inv, ← EReal.coe_mul]
  rw [← EReal.coe_zero, EReal.coe_eq_coe_iff]
  linarith

/-- With a real largest entry every gate is a nonnegative real. -/
theorem gate_real {n : Nat} (l : Fin n → EReal) (a b e : Fin n) (h : l b ≤ l a) (y : ℝ) (hy : l a = y) :
    ∃ r : ℝ, 0 ≤ r ∧ gate l a b e = r := by
  rw [hy] at h
  obtain ⟨r, hr, he⟩ := exp_real _ _ h
  unfold gate
  rw [hy, he, show Ideal.div 1 (1 + (r : EReal)) = _ from div_real 1 r hr, div_real r r hr]
  have h1 : (0 : ℝ) ≤ (1 + r)⁻¹ := inv_nonneg.mpr (by linarith)
  have hone : ∀ (p : Prop) [Decidable p] (x : ℝ), 0 ≤ x → ∃ s : ℝ, 0 ≤ s ∧ (if p then (x : EReal) else 0) = s := by
    intro p _ x hx
    by_cases hp : p
    · exact ⟨x, hx, if_pos hp⟩
    · exact ⟨0, le_refl _, by rw [if_neg hp, EReal.coe_zero]⟩
  obtain ⟨s, hs, h2⟩ := hone (e = a) (1 * (1 + r)⁻¹) (by linarith)
  obtain ⟨t, ht, h3⟩ := hone (e = b) (r * (1 + r)⁻¹) (mul_nonneg hr h1)
  rw [h2, h3]
  exact ⟨s + t, by linarith, (EReal.coe_add s t).symm⟩

/-- The fold of the maximum over a list of positions is the supremum. -/
theorem fold_max_eq {ι : Type} [Fintype ι] (f : ι → EReal) (M : EReal) (hle : ∀ k, f k ≤ M) (k : ι) (hk : f k = M) :
    Finset.univ.fold max ⊥ f = M :=
  le_antisymm ((Finset.fold_max_le _).mpr ⟨bot_le, fun k _ => hle k⟩) ((Finset.le_fold_max _).mpr (Or.inr ⟨k, Finset.mem_univ k, hk.ge⟩))

/-- The fold of the minimum is the infimum. -/
theorem fold_min_eq {ι : Type} [Fintype ι] (f : ι → EReal) (M : EReal) (hle : ∀ k, M ≤ f k) (k : ι) (hk : f k = M) :
    Finset.univ.fold min ⊤ f = M :=
  le_antisymm ((Finset.fold_min_le _).mpr (Or.inr ⟨k, Finset.mem_univ k, hk.le⟩)) ((Finset.le_fold_min _).mpr ⟨le_top, fun k _ => hle k⟩)

/-! ## The row padded with `⊥` to more lanes -/

section lanes

variable {n N : Nat} (l : Fin n → EReal) (L : Fin N → EReal) (hN : n ≤ N)

include hN

/-- The greatest lane of the padded row. -/
theorem lanes_max {a b : Fin n} (h : IsTop2 l a b) (hL : ∀ k : Fin N, L k = if hk : k.val < n then l ⟨k.val, hk⟩ else ⊥) :
    Finset.univ.fold max ⊥ L = l a := by
  refine fold_max_eq L _ (fun k => ?_) ⟨a.val, a.isLt.trans_le hN⟩ ?_
  · rw [hL]
    split_ifs with hk
    · exact h.le_fst _
    · exact bot_le
  · rw [hL, dif_pos a.isLt]

omit hN in
/-- The least lane at which `f` is `M`, when that is lane `a` of the row. -/
theorem lanes_argmax (f : Fin N → EReal) (M : EReal) (a : Fin N) (ln : Fin N → EReal) (hln : ∀ k k', k < k' → ln k < ln k')
    (big : EReal) (hbig : ∀ k, ln k ≤ big) (ha : f a = M) (hlt : ∀ k, k < a → f k ≠ M) :
    Finset.univ.fold min ⊤ (fun k => if f k = M then ln k else big) = ln a := by
  refine fold_min_eq _ _ (fun k => ?_) a (if_pos ha)
  split_ifs with hk
  · rcases lt_trichotomy k a with h | h | h
    · exact absurd hk (hlt k h)
    · rw [h]
    · exact (hln _ _ h).le
  · exact hbig a

/-- Two rounds over the padded row give the gates of the two largest. -/
theorem lanes_gate {a b : Fin n} (h : IsTop2 l a b) (hL : ∀ k : Fin N, L k = if hk : k.val < n then l ⟨k.val, hk⟩ else ⊥)
    (y : ℝ) (hy : l a = y) (ln : Fin N → EReal) (hln : ∀ k k', k < k' → ln k < ln k') (big : EReal) (hbig : ∀ k, ln k ≤ big)
    (V1 I1 V2 I2 : EReal) (R : Fin N → EReal) (hV1 : V1 = Finset.univ.fold max ⊥ L)
    (hI1 : I1 = Finset.univ.fold min ⊤ (fun k => if L k = V1 then ln k else big))
    (hR : ∀ k, R k = if ln k = I1 then ⊥ else L k) (hV2 : V2 = Finset.univ.fold max ⊥ R)
    (hI2 : I2 = Finset.univ.fold min ⊤ (fun k => if R k = V2 then ln k else big)) (e : Fin N) :
    ((if ln e = I1 then Ideal.div 1 (1 + Ideal.exp (V2 - V1)) else 0)
      + (if ln e = I2 then Ideal.div (Ideal.exp (V2 - V1)) (1 + Ideal.exp (V2 - V1)) else 0))
      = if he : e.val < n then gate l a b ⟨e.val, he⟩ else 0 := by
  have hinj : ∀ k k', ln k = ln k' ↔ k = k' := fun k k' => by
    refine ⟨fun hk => ?_, fun hk => by rw [hk]⟩
    rcases lt_trichotomy k k' with h | h | h
    · exact absurd hk (hln _ _ h).ne
    · exact h
    · exact absurd hk (hln _ _ h).ne'
  have hV1' : V1 = l a := hV1.trans (lanes_max l L hN h hL)
  let a' : Fin N := ⟨a.val, a.isLt.trans_le hN⟩
  let b' : Fin N := ⟨b.val, b.isLt.trans_le hN⟩
  have hI1' : I1 = ln a' := by
    rw [hI1, hV1']
    refine lanes_argmax L (l a) a' ln hln big hbig (by rw [hL, dif_pos a.isLt]) fun k hk hk' => ?_
    have hkn : k.val < n := lt_trans (Fin.lt_def.mp hk) a.isLt
    rw [hL, dif_pos hkn] at hk'
    rcases h.fst ⟨k.val, hkn⟩ (fun hc => by subst hc; exact lt_irrefl _ hk) with hb | hb
    · exact hb.ne hk'
    · exact lt_asymm hb.2 hk
  have hba : b' ≠ a' := fun hc => h.ne (Fin.ext (Fin.mk.inj hc))
  have hR' : ∀ k, R k = if k = a' then ⊥ else L k := fun k => by rw [hR, hI1']; simp only [hinj]
  have hRb : R b' = l b := by rw [hR', if_neg hba, hL, dif_pos b.isLt]
  have hV2' : V2 = l b := by
    rw [hV2]
    refine fold_max_eq R _ (fun k => ?_) b' hRb
    rw [hR', hL]
    split_ifs with hk hk'
    · exact bot_le
    · exact h.le_snd _ fun hc => hk (Fin.ext (Fin.mk.inj_iff.mp (hc : (⟨k.val, hk'⟩ : Fin n) = ⟨a.val, a.isLt⟩)))
    · exact bot_le
  have hba' : l b ≤ l a := h.le_fst b
  have hsecond : (if ln e = I2 then Ideal.div (Ideal.exp (V2 - V1)) (1 + Ideal.exp (V2 - V1)) else 0)
      = if e = b' then Ideal.div (Ideal.exp (l b - l a)) (1 + Ideal.exp (l b - l a)) else 0 := by
    rw [hV1', hV2']
    by_cases hbot : l b = ⊥
    · have h0 : Ideal.div (Ideal.exp (l b - l a)) (1 + Ideal.exp (l b - l a)) = 0 := by
        have h00 : Ideal.exp (l b - l a) = ((0 : ℝ) : EReal) := by rw [hbot, hy, EReal.bot_sub, EReal.coe_zero]; rfl
        rw [h00, div_real 0 0 (le_refl _)]
        simp
      rw [h0]
      simp
    · have hI2' : I2 = ln b' := by
        rw [hI2, hV2']
        refine lanes_argmax R (l b) b' ln hln big hbig hRb fun k hk hk' => ?_
        have hkn : k.val < n := lt_trans (Fin.lt_def.mp hk) b.isLt
        rw [hR', hL, dif_pos hkn] at hk'
        split_ifs at hk' with hka
        · exact hbot hk'.symm
        · rcases h.snd ⟨k.val, hkn⟩ (fun hc => hka (Fin.ext (Fin.mk.inj_iff.mp (hc : (⟨k.val, hkn⟩ : Fin n) = ⟨a.val, a.isLt⟩))))
            (fun hc => by subst hc; exact lt_irrefl _ hk) with hb | hb
          · exact hb.ne hk'
          · exact lt_asymm hb.2 hk
      rw [hI2']
      simp only [hinj]
  rw [hsecond, hV1', hV2', hI1']
  simp only [hinj]
  by_cases he : e.val < n
  · have hea : (e = a') ↔ (⟨e.val, he⟩ : Fin n) = a := by rw [Fin.ext_iff, Fin.ext_iff]
    have heb : (e = b') ↔ (⟨e.val, he⟩ : Fin n) = b := by rw [Fin.ext_iff, Fin.ext_iff]
    rw [dif_pos he, gate]
    simp only [hea, heb]
  · rw [dif_neg he, if_neg, if_neg, add_zero]
    · exact fun hc => he ((congrArg Fin.val hc).trans_lt b.isLt)
    · exact fun hc => he ((congrArg Fin.val hc).trans_lt a.isLt)

end lanes

end Cert.Top2

end
-- ==== Proof.Moe.Spec.lean ====
module

public import proofs.«01_k».proof.Proof.Moe.Top2
public import Idealize.ShloMosaic.Lib.IdealHost
public import Idealize.ShloMosaic.Lib.Pointwise.Index

/-! The routed feed-forward layer on one token, over plain index functions of extended reals. -/

@[expose] public section

noncomputable section

namespace Cert.Spec

open Idealize.ShloMosaic

/-- The width of a row, 1024, as the float the programs divide by. -/
def width : EReal := Ideal.ofBits .f32 0x44800000#32

/-- The small constant added to a mean of squares. -/
def eps : EReal := Ideal.ofBits .f32 0x358637BD#32

/-- The reciprocal root of a row's mean square. -/
def rms (v : Fin 1024 → EReal) : EReal := Ideal.rsqrt (Ideal.div (∑ k, v k * v k) width + eps)

/-- A row normalized, scaled and shifted. -/
def modRow (x g sh sc : Fin 1024 → EReal) (b : Fin 1024) : EReal := x b * rms x * g b * (1 + sc b) + sh b

/-- The router's logit of expert `e` on a row. -/
def logit (h : Fin 1024 → EReal) (W : Fin 1024 → Fin 8 → EReal) (B : Fin 8 → EReal) (e : Fin 8) : EReal :=
  ∑ k, h k * W k e + B e

/-- A gated hidden column: `silu (h · u) (h · w)`. -/
def hid (h u w : Fin 1024 → EReal) : EReal :=
  (∑ k, h k * u k) * Ideal.logistic (∑ k, h k * u k) * ∑ k, h k * w k

/-- What the layer's result at one token depends on: the token's row, the norm's gain, the three modulation rows, the
    router, the experts' weights and the final norm's gain. -/
structure Tok where
  x : Fin 1024 → EReal
  g : Fin 1024 → EReal
  sh : Fin 1024 → EReal
  sc : Fin 1024 → EReal
  ga : Fin 1024 → EReal
  W : Fin 1024 → Fin 8 → EReal
  B : Fin 8 → EReal
  w13 : Fin 8 → Fin 1024 → Fin 7168 → EReal
  w2 : Fin 8 → Fin 3584 → Fin 1024 → EReal
  gf : Fin 1024 → EReal

/-- The row after the layer: the residual sum, normalized by its own mean square. -/
def finalRow (x ga y g : Fin 1024 → EReal) (b : Fin 1024) : EReal :=
  (x b + ga b * y b) * rms (fun k => x k + ga k * y k) * g b

namespace Tok

variable (T : Tok)

/-- The token's normalized row. -/
def h : Fin 1024 → EReal := modRow T.x T.g T.sh T.sc

/-- The token's router logits. -/
def l : Fin 8 → EReal := logit T.h T.W T.B

/-- The experts from the largest logit down, equal logits by the lower number first. -/
def ranked (s : Fin 8) : Fin 8 := sortedFrom (fun k k' => decide (T.l k' < T.l k)) s

/-- The expert of the largest logit. -/
def i1 : Fin 8 := T.ranked 0

/-- The expert of the second largest logit. -/
def i2 : Fin 8 := T.ranked 1

/-- The two experts of a token are the first two of its order. -/
theorem isTop2 : Cert.Top2.IsTop2 T.l T.i1 T.i2 :=
  Cert.Top2.isTop2_sorted (n := 6) T.l _ fun k k' => by simp

/-- The gate of expert `e`: the softmax weight of the two largest logits, zero for the other experts. -/
def gate (e : Fin 8) : EReal := Cert.Top2.gate T.l T.i1 T.i2 e

/-- Hidden column `q` of expert `e`. -/
def col (e : Fin 8) (q : Fin 3584) : EReal :=
  hid T.h (fun k => T.w13 e k ⟨q.val, by omega⟩) (fun k => T.w13 e k ⟨q.val + 3584, by omega⟩)

/-- The gated sum of the experts. -/
def y (b : Fin 1024) : EReal := ∑ e, T.gate e * ∑ q, T.col e q * T.w2 e q b

/-- The layer's result at the token. -/
def out (b : Fin 1024) : EReal := finalRow T.x T.ga T.y T.gf b

/-- The token's largest logit is a real number. -/
def Finite : Prop := ∃ v : ℝ, T.l T.i1 = v

/-- Each gate of a token with a finite largest logit is a real number, not negative. -/
theorem gate_real (hT : T.Finite) (e : Fin 8) : ∃ r : ℝ, 0 ≤ r ∧ T.gate e = r :=
  Exists.elim hT fun v hv => Cert.Top2.gate_real T.l T.i1 T.i2 e (T.isTop2.le_fst _) v hv

end Tok

/-- Two one-hot rows weighed by the softmax of the two largest logits: the gate of expert `e`. -/
theorem Tok.softmax_gate (T : Tok) (hT : T.Finite) (e : Fin 8) :
    (if e.val = T.i1.val then (1 : EReal) else 0)
        * Ideal.div (Ideal.exp (T.l T.i1 - T.l T.i1)) (Ideal.exp (T.l T.i1 - T.l T.i1) + Ideal.exp (T.l T.i2 - T.l T.i1))
      + (if e.val = T.i2.val then (1 : EReal) else 0)
        * Ideal.div (Ideal.exp (T.l T.i2 - T.l T.i1)) (Ideal.exp (T.l T.i1 - T.l T.i1) + Ideal.exp (T.l T.i2 - T.l T.i1))
      = T.gate e := by
  obtain ⟨v, hv⟩ := hT
  have h1 : Ideal.exp (T.l T.i1 - T.l T.i1) = 1 := by
    rw [hv, ← EReal.coe_sub, sub_self]
    show ((Real.exp 0 : ℝ) : EReal) = 1
    rw [Real.exp_zero, EReal.coe_one]
  rw [h1]
  unfold Tok.gate Cert.Top2.gate
  simp only [← Fin.ext_iff, ite_mul, one_mul, zero_mul]

/-- The layer at token `r` of sequence `p`, over the argument arrays: `n` sequences of `t` tokens. -/
def tok {n t : Nat} (x : FVec Ideal ⟨3, ![n, t, 1024]⟩ .f32) (g : FVec Ideal ⟨1, ![1024]⟩ .f32)
    (sh sc ga : FVec Ideal ⟨2, ![n, 1024]⟩ .f32) (W : FVec Ideal ⟨2, ![1024, 8]⟩ .f32) (B : FVec Ideal ⟨1, ![8]⟩ .f32) (w13 : FVec Ideal ⟨3, ![8, 1024, 7168]⟩ .f32)
    (w2 : FVec Ideal ⟨3, ![8, 3584, 1024]⟩ .f32) (gf : FVec Ideal ⟨1, ![1024]⟩ .f32) (p : Fin n) (r : Fin t) : Tok where
  x := fun k => x (ix3 p r k)
  g := fun k => g (ix1 k)
  sh := fun k => sh (ix2 p k)
  sc := fun k => sc (ix2 p k)
  ga := fun k => ga (ix2 p k)
  W := fun k e => W (ix2 k e)
  B := fun e => B (ix1 e)
  w13 := fun e k q => w13 (ix3 e k q)
  w2 := fun e q b => w2 (ix3 e q b)
  gf := fun k => gf (ix1 k)

/-- A sum over `m * n` places, by blocks of `n`. -/
theorem sum_blocks (m n : ℕ) (f : Fin (m * n) → EReal) :
    ∑ i, f i = ∑ a : Fin m, ∑ b : Fin n, f ⟨n * a.val + b.val, by
      have := a.isLt; have := b.isLt
      calc n * a.val + b.val < n * a.val + n := by omega
        _ = n * (a.val + 1) := by ring
        _ ≤ n * m := Nat.mul_le_mul_left _ (by omega)
        _ = m * n := Nat.mul_comm _ _⟩ := by
  rw [← Fintype.sum_prod_type', ← finProdFinEquiv.sum_comp]
  exact Finset.sum_congr rfl fun p _ => congrArg f (Fin.ext (by simp [finProdFinEquiv]; ring))

/-- A factor that is a real number, not negative, goes into a sum. -/
theorem mul_sum {ι : Type} [Fintype ι] (r : ℝ) (hr : 0 ≤ r) (f : ι → EReal) : (r : EReal) * ∑ i, f i = ∑ i, (r : EReal) * f i := by
  classical
  induction (Finset.univ : Finset ι) using Finset.induction_on with
  | empty => simp
  | insert a s ha ih =>
    rw [Finset.sum_insert ha, Finset.sum_insert ha, ← ih,
      EReal.left_distrib_of_nonneg_of_ne_top (by exact_mod_cast hr) (EReal.coe_ne_top r)]

/-- The float word of minus infinity. -/
theorem ofBits_bot : Ideal.ofBits .f32 0xFF800000#32 = ⊥ := by simp [Ideal.ofBits, Ideal.ieee]

/-- The float word of infinity. -/
theorem ofBits_top : Ideal.ofBits .f32 0x7F800000#32 = ⊤ := by simp [Ideal.ofBits, Ideal.ieee]

/-- The float word of the padding index. -/
theorem ofBits_eight : Ideal.ofBits .f32 0x41000000#32 = ((8 : ℝ) : EReal) := by
  simp [Ideal.ofBits, Ideal.ieee, -EReal.coe_mul]
  norm_num

/-- The float word of the padding index of the lanes. -/
theorem ofBits_lanes : Ideal.ofBits .f32 0x43000000#32 = ((128 : ℝ) : EReal) := by
  simp [Ideal.ofBits, Ideal.ieee, -EReal.coe_mul]
  norm_num

/-- A lane number converted to a float is that number. -/
theorem lane_number (k : Fin 128) : FloatOps.sitofp (F := Ideal) .f32 (BitVec.ofNat 32 k.val) = ((k.val : ℝ) : EReal) := by
  show ((((BitVec.ofNat 32 k.val).toInt : ℤ) : ℝ) : EReal) = _
  have hn : (BitVec.ofNat 32 k.val).toNat = k.val := by
    rw [BitVec.toNat_ofNat]
    omega
  rw [BitVec.toInt_eq_toNat_of_lt (by omega), hn]
  norm_cast

end Cert.Spec

end
-- ==== Proof.Moe.Payloads.lean ====
module

public import proofs.«01_k».proof.Proof.Moe.Reads
public import proofs.«01_k».proof.Proof.Moe.Spec

/-! The values a grid point computes, at an index, in the terms of the layer on one token. -/

@[expose] public section

set_option maxRecDepth 16384

noncomputable section

namespace Cert.KernelIdeal.Moe

open Idealize.ShloMosaic Idealize.ShloMosaic.TcCoe Idealize.SL.Sem
open Cert.KernelIdeal Cert.KernelIdeal.Gen Cert.KernelIdeal.Value Cert.Spec Cert.Top2

/-- The normalized rows at an index. -/
theorem pay4_apply (x : Vec Ideal S1024x1024 .f32) (g : Vec Ideal S1x1024 .f32) (sh sc : Vec Ideal S1x1x1024 .f32)
    (a b : Fin 1024) :
    k0_pay4 (F := Ideal) x g sh sc (ix2 a b)
      = modRow (fun k => x (ix2 a k)) (fun k => g (ix2 0 k)) (fun k => sh (ix3 0 0 k)) (fun k => sc (ix3 0 0 k)) b := by
  pointwise [k0_pay4, k0_pay3]
  rfl

/-- The two copies of the normalized rows are the same. -/
theorem pay6_eq (x : Vec Ideal S1024x1024 .f32) (g : Vec Ideal S1x1024 .f32) (sh sc : Vec Ideal S1x1x1024 .f32) :
    k0_pay6 (F := Ideal) x g sh sc = k0_pay4 x g sh sc := by
  funext j
  unfold k0_pay6 k0_pay4
  pointwise

/-- The finished rows at an index. -/
theorem pay2_apply (x : Vec Ideal S1024x1024 .f32) (ga : Vec Ideal S1x1x1024 .f32) (acc : Vec Ideal S1024x1024 .f32)
    (g : Vec Ideal S1x1024 .f32) (a b : Fin 1024) :
    k0_pay2 (F := Ideal) x ga acc g (ix2 a b)
      = finalRow (fun k => x (ix2 a k)) (fun k => ga (ix3 0 0 k)) (fun k => acc (ix2 a k)) (fun k => g (ix2 0 k)) b := by
  pointwise [k0_pay2]
  rfl

/-- Of a sum over the lanes that keeps only the lane of number `e`, that lane is left. -/
theorem lane_pick (f : Fin 128 → EReal) (e : Fin 128) :
    (∑ k : Fin 128, Scalar.select (IntOp.cmpi CmpIPredicate.eq (BitVec.ofNat 32 k.val) (BitVec.ofNat 32 e.val)) (f k) 0)
      = f e := by
  rw [Finset.sum_eq_single e]
  · simp [Scalar.select, IntOp.cmpi]
  · intro k _ hk
    have : BitVec.ofNat 32 k.val ≠ BitVec.ofNat 32 e.val := by
      intro h
      have := congrArg BitVec.toNat h
      rw [BitVec.toNat_ofNat, BitVec.toNat_ofNat] at this
      exact hk (Fin.ext (by omega))
    simp [Scalar.select, IntOp.cmpi, beq_eq_false_iff_ne.mpr this]
  · intro h
    exact absurd (Finset.mem_univ e) h

/-- The gated hidden columns at an index: the hidden column times the expert's gate. -/
theorem pay19_apply (i : grid0.Coords) (h : Vec Ideal S1024x1024 .bf16) (u w : Vec Ideal S1x1024x512 .bf16)
    (g : Vec Ideal S1024x128 .f32) (a : Fin 1024) (b : Fin 512) (e : Fin 128) (he : (i 1).val = e.val) :
    k0_pay19 (F := Ideal) i h u w g (ix2 a b)
      = hid (fun k => h (ix2 a k)) (fun k => u (ix3 0 k b)) (fun k => w (ix3 0 k b)) * g (ix2 a e) := by
  pointwise [k0_pay19]
  rw [he, lane_pick (fun x => g (ix2 a x)) e]
  rfl

/-- A block of an expert's second matrix without its leading axis. -/
theorem pay20_apply (u : Vec Ideal S1x512x1024 .bf16) (a : Fin 512) (b : Fin 1024) :
    k0_pay20 (F := Ideal) u (ix2 a b) = u (ix3 0 a b) := by
  pointwise [k0_pay20]

/-- The padded router as the point reads it. -/
theorem pay7_apply (u : Vec Ideal S1024x128 .bf16) (a : Fin 1024) (b : Fin 128) :
    k0_pay7 (F := Ideal) u (ix2 a b) = u (ix2 a b) := by
  pointwise [k0_pay7]

variable (H : FVec Ideal S1024x1024 .bf16) (W : FVec Ideal S1024x128 .bf16) (B : Vec Ideal S1x128 .f32)

/-- The masked logits at a lane. -/
theorem pay9_apply (a : Fin 1024) (b : Fin 128) :
    k0_pay9 H W B (ix2 a b) = if b.val < 8 then ∑ k, H (ix2 a k) * W (ix2 k b) + B (ix2 0 b) else (⊥ : EReal) := by
  pointwise [k0_pay9, k0_pay8]
  have e : (FloatOps.sitofp (F := Ideal) .f32 (BitVec.ofNat 32 b.val) < Ideal.ofBits .f32 0x41000000#32) ↔ b.val < 8 := by
    rw [lane_number, ofBits_eight, EReal.coe_lt_coe_iff]
    norm_cast
  rw [ofBits_bot]
  by_cases hb : b.val < 8
  · rw [if_pos (e.mpr hb), if_pos hb]
  · rw [if_neg (fun h => hb (e.mp h)), if_neg hb]

/-- A token's largest masked logit. -/
theorem pay10_apply (a : Fin 1024) (b : Fin 1) :
    k0_pay10 H W B (ix2 a b) = Finset.univ.fold max (⊥ : EReal) (fun k : Fin 128 => k0_pay9 H W B (ix2 a k)) := by
  pointwise [k0_pay10]
  rw [ofBits_bot]

/-- The first lane that holds a token's largest masked logit. -/
theorem pay11_apply (a : Fin 1024) (b : Fin 1) :
    k0_pay11 H W B (ix2 a b)
      = Finset.univ.fold min (⊤ : EReal) (fun k : Fin 128 =>
          if k0_pay9 H W B (ix2 a k) = k0_pay10 H W B (ix2 a 0) then ((k.val : ℝ) : EReal) else ((128 : ℝ) : EReal)) := by
  pointwise [k0_pay11, k0_pay8]
  rw [ofBits_top, ofBits_lanes]
  simp only [lane_number]

/-- The masked logits with that lane taken out. -/
theorem pay12_apply (a : Fin 1024) (b : Fin 128) :
    k0_pay12 H W B (ix2 a b)
      = if ((b.val : ℝ) : EReal) = k0_pay11 H W B (ix2 a 0) then ⊥ else k0_pay9 H W B (ix2 a b) := by
  pointwise [k0_pay12, k0_pay8]
  rw [ofBits_bot, lane_number]

/-- The largest of what is left. -/
theorem pay13_apply (a : Fin 1024) (b : Fin 1) :
    k0_pay13 H W B (ix2 a b) = Finset.univ.fold max (⊥ : EReal) (fun k : Fin 128 => k0_pay12 H W B (ix2 a k)) := by
  pointwise [k0_pay13]
  rw [ofBits_bot]

/-- The dense gate at a lane: the gate of the expert of that number, zero past the experts. -/
theorem gateOf_apply (a : Fin 1024) (l : Fin 8 → EReal)
    (hl : ∀ (k : Fin 128) (hk : k.val < 8), ∑ q, H (ix2 a q) * W (ix2 q k) + B (ix2 0 k) = l ⟨k.val, hk⟩)
    (p q : Fin 8) (h : IsTop2 l p q) (y : ℝ) (hy : l p = y) (e : Fin 8) (e' : Fin 128) (he : e'.val = e.val) :
    gateOf H W B (ix2 a e') = gate l p q e := by
  have hL : ∀ k : Fin 128, k0_pay9 H W B (ix2 a k) = if hk : k.val < 8 then l ⟨k.val, hk⟩ else ⊥ := fun k => by
    rw [pay9_apply]
    by_cases hk : k.val < 8
    · rw [if_pos hk, dif_pos hk, hl k hk]
    · rw [if_neg hk, dif_neg hk]
  have key := lanes_gate l (fun k => k0_pay9 H W B (ix2 a k)) (by omega) h hL y hy (fun k => ((k.val : ℝ) : EReal))
    (fun k k' hk => EReal.coe_lt_coe_iff.mpr (Nat.cast_lt.mpr hk)) ((128 : ℝ) : EReal)
    (fun k => EReal.coe_le_coe_iff.mpr (by exact_mod_cast k.isLt.le))
    (k0_pay10 H W B (ix2 a 0)) (k0_pay11 H W B (ix2 a 0)) (k0_pay13 H W B (ix2 a 0)) _
    (fun k => k0_pay12 H W B (ix2 a k)) (pay10_apply H W B a 0) (pay11_apply H W B a 0)
    (fun k => pay12_apply H W B a k) (pay13_apply H W B a 0) rfl e'
  rw [dif_pos (show e'.val < 8 by omega), show (⟨e'.val, by omega⟩ : Fin 8) = e from Fin.ext he] at key
  rw [← key]
  pointwise [gateOf, k0_pay18, k0_pay14, k0_pay15, k0_pay16, k0_pay17, k0_pay8]
  simp only [lane_number, ofBits_top, ofBits_lanes]

end Cert.KernelIdeal.Moe

end
-- ==== Proof.Moe.Kernel.lean ====
module

public import proofs.«01_k».proof.Proof.Moe.Payloads

/-! The routed feed-forward kernel's result at an index: the layer on one token. -/

@[expose] public section

set_option maxRecDepth 16384

noncomputable section

namespace Cert.KernelIdeal.Moe

open Idealize.ShloMosaic Idealize.ShloMosaic.TcCoe Idealize.SL.Sem
open Cert.KernelIdeal Cert.KernelIdeal.Gen Cert.KernelIdeal.Value Cert.Spec Cert.Top2

variable (m : (ℓ : Loc nD τ sig) → Buf (Elt Ideal) ℓ) (c : Dev nD)

/-- The layer at a token, over the arrays the kernel is launched with. -/
def tokAt (p : Fin 2) (r : Fin 8192) : Tok :=
  tok (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) p r

variable (t : Fin cfg0.N) (p : Fin 2) (r : Fin 8192)

/-- A row tile's normalized rows. -/
theorem rowsAt_apply (a b : Fin 1024) (h : 8192 * p.val + r.val = 1024 * (t.val / 56) + a.val) :
    rowsAt (F := Ideal) m c t (ix2 a b) = (tokAt m c p r).h b := by
  have hp : p.val = t.val / 448 := by omega
  unfold rowsAt
  rw [pay4_apply]
  simp only [read_x m c t _ _ p r h, read_norm, read_shift m c t _ _ _ p hp, read_scale m c t _ _ _ p hp]
  rfl

/-- A row tile's dense gate. -/
theorem gatesAt_apply (a : Fin 1024) (h : 8192 * p.val + r.val = 1024 * (t.val / 56) + a.val)
    (hT : (tokAt m c p r).Finite) (e : Fin 8) (e' : Fin 128) (he : e'.val = e.val) :
    gatesAt (F := Ideal) m c t (ix2 a e') = (tokAt m c p r).gate e := by
  obtain ⟨v, hv⟩ := hT
  unfold gatesAt
  rw [pay6_eq]
  refine gateOf_apply _ _ _ a (tokAt m c p r).l (fun k hk => ?_) _ _ (tokAt m c p r).isTop2 v hv e e' he
  have hrow : ∀ b, k0_pay4 (F := Ideal) (iblk m c 0 t) (iblk m c 1 t) (iblk m c 2 t) (iblk m c 3 t) (ix2 a b)
      = (tokAt m c p r).h b := fun b => rowsAt_apply m c t p r a b h
  have hW : ∀ q, k0_pay7 (F := Ideal) (iblk m c 5 t) (ix2 q k) = (tokAt m c p r).W q ⟨k.val, hk⟩ := fun q => by
    rw [pay7_apply, read_router, dif_pos hk]
    rfl
  have hB : iblk (F := Ideal) m c 6 t (ix2 0 k) = (tokAt m c p r).B ⟨k.val, hk⟩ := by
    rw [read_bias, dif_pos hk]
    rfl
  rw [hB]
  simp only [hrow, hW]
  rfl

/-- The gated hidden columns of a point. -/
theorem hidden_apply (a : Fin 1024) (k : Fin 512) (h : 8192 * p.val + r.val = 1024 * (t.val / 56) + a.val)
    (hT : (tokAt m c p r).Finite) (e : Fin 8) (q : Fin 3584) (he : e.val = t.val % 56 / 7)
    (hq : q.val = 512 * (t.val % 7) + k.val) :
    hidden (F := Ideal) m c t (ix2 a k) = (tokAt m c p r).col e q * (tokAt m c p r).gate e := by
  have h' : 8192 * p.val + r.val = 1024 * ((firstOf t).val / 56) + a.val := by
    rw [h]
    simp only [firstOf]
    omega
  have hi : (grid0.coords t 1).val = (⟨e.val, by omega⟩ : Fin 128).val := by
    obtain ⟨_, _, _, _, _, _, _, _, _, _, _, _, _, h1⟩ := idx t
    rw [h1, he]
  unfold hidden hiddenAt
  rw [pay19_apply _ _ _ _ _ a k _ hi, gatesAt_apply m c (firstOf t) p r a h' hT e _ rfl]
  refine congrArg (· * (tokAt m c p r).gate e) ?_
  refine congr (congr (congrArg hid (funext fun k' => ?_)) (funext fun k' => ?_)) (funext fun k' => ?_)
  · exact rowsAt_apply m c (firstOf t) p r a k' h'
  · exact read_w1 m c t 0 k' k e ⟨q.val, by omega⟩ he hq
  · exact read_w3 m c t 0 k' k e ⟨q.val + 3584, by omega⟩ he (by show q.val + 3584 = _; omega)

/-- The product a point adds. -/
theorem term_apply (a b : Fin 1024) (h : 8192 * p.val + r.val = 1024 * (t.val / 56) + a.val)
    (hT : (tokAt m c p r).Finite) (e : Fin 8) (f : Fin 7) (he : e.val = t.val % 56 / 7) (hf : f.val = t.val % 7) :
    term m c t (ix2 a b)
      = ∑ k : Fin 512, (tokAt m c p r).gate e * ((tokAt m c p r).col e ⟨512 * f.val + k.val, by omega⟩
          * (tokAt m c p r).w2 e ⟨512 * f.val + k.val, by omega⟩ b) := by
  unfold term
  refine Finset.sum_congr rfl fun k _ => ?_
  have hq : (⟨512 * f.val + k.val, by omega⟩ : Fin 3584).val = 512 * (t.val % 7) + k.val := by rw [← hf]
  show hidden (F := Ideal) m c t (ix2 a k) * k0_pay20 (F := Ideal) (iblk m c 9 t) (ix2 k b) = _
  rw [hidden_apply m c t p r a k h hT e _ he hq, pay20_apply, read_w2 m c t 0 k b e _ he hq]
  rw [mul_comm ((tokAt m c p r).col e _), mul_assoc]
  rfl

/-- At a row tile's last point the accumulator holds the gated sum of the experts. -/
theorem acc_apply (ht : t.val % 56 = 55) (a b : Fin 1024) (h : 8192 * p.val + r.val = 1024 * (t.val / 56) + a.val)
    (hT : (tokAt m c p r).Finite) :
    (outsAt0 (F := Ideal) m c t.val t.isLt).2.2.1 (ix2 a b) = (tokAt m c p r).y b := by
  rw [acc_last m c t ht]
  refine (sum_blocks 8 7 _).trans ?_
  unfold Tok.y
  refine Finset.sum_congr rfl fun e _ => ?_
  obtain ⟨g, hg, hge⟩ := (tokAt m c p r).gate_real hT e
  rw [hge, mul_sum g hg]
  refine Eq.trans ?_ (sum_blocks 7 512 _).symm
  refine Finset.sum_congr rfl fun f _ => ?_
  rw [← hge]
  refine term_apply m c _ p r a b ?_ hT e f ?_ ?_
  · show _ = 1024 * ((56 * (t.val / 56) + (7 * e.val + f.val)) / 56) + a.val
    rw [h]
    omega
  · show e.val = (56 * (t.val / 56) + (7 * e.val + f.val)) % 56 / 7
    omega
  · show f.val = (56 * (t.val / 56) + (7 * e.val + f.val)) % 7
    omega

/-- The result a row tile's last point writes. -/
theorem out_apply (ht : t.val % 56 = 55) (a b : Fin 1024) (h : 8192 * p.val + r.val = 1024 * (t.val / 56) + a.val)
    (hT : (tokAt m c p r).Finite) :
    (outsAt0 (F := Ideal) m c t.val t.isLt).1 (ix2 a b) = (tokAt m c p r).out b := by
  have hp : p.val = t.val / 448 := by omega
  rw [out_last m c t ht, pay2_apply]
  simp only [read_x m c t _ _ p r h, read_mod_gate m c t _ _ _ p hp, read_final, acc_apply m c t p r ht a _ h hT]
  rfl

/-- THE KERNEL'S RESULT AT AN INDEX: row `8192 p + r` is the layer at token `r` of prompt `p`. -/
theorem result_apply (i : S16384x1024.Idx) (h : 8192 * p.val + r.val = (i 0).val) (hT : (tokAt m c p r).Finite) :
    G11 (F := Ideal) m c i = (tokAt m c p r).out (i 1) := by
  have h0 : (i 0).val < 16384 := (i 0).isLt
  have h1 : (i 1).val < 1024 := (i 1).isLt
  have hN : pt11Of i < cfg0.N := by
    refine lt_of_lt_of_eq ?_ N_0.symm
    dsimp only [pt11Of, run11Of]
    omega
  unfold G11
  rw [dif_pos hN, ← outsAt0_sweep m c (pt11Of i) hN]
  have hl : loc11Of i = ix2 (⟨(i 0).val % 1024, Nat.mod_lt _ (by decide)⟩ : Fin 1024) (⟨(i 1).val, h1⟩ : Fin 1024) := by
    funext a
    match a with
    | ⟨0, _⟩ => rfl
    | ⟨1, _⟩ => exact Fin.ext (Nat.mod_eq_of_lt h1)
  rw [hl]
  refine out_apply m c ⟨pt11Of i, hN⟩ p r ?_ _ _ ?_ hT
  · dsimp only [pt11Of]
    omega
  · dsimp only [pt11Of, run11Of]
    omega

end Cert.KernelIdeal.Moe

end
-- ==== Proof.Moe.Reference.lean ====
module

public import proofs.«01_k».proof.Proof.Moe.Spec
public import proofs.«01_k».proof.Proof.Gen.ReferenceIdeal.Read
public import Idealize.ShloMosaic.Lib.Pointwise

/-! The reference's result at an index: the layer on one token. -/

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.ReferenceIdeal.Read Cert.Spec Cert.Top2

variable (x0 : FVec Ideal S2x8192x1024 .f32) (x1 : FVec Ideal S1024 .f32) (x2 x3 x4 : FVec Ideal S2x1024 .f32)
  (x5 : FVec Ideal S1024x8 .f32) (x6 : FVec Ideal S8 .f32) (x7 : FVec Ideal S8x1024x7168 .f32)
  (x8 : FVec Ideal S8x3584x1024 .f32) (x9 : FVec Ideal S1024 .f32)

/-- An array at an index is the array at the index's coordinates. -/
theorem at1 {n : Nat} (x : (⟨1, ![n]⟩ : Shape).Idx → EReal) (i : (⟨1, ![n]⟩ : Shape).Idx) : x i = x (ix1 (i 0)) :=
  congrArg x (eq_ix1 i)

/-- The same of two axes. -/
theorem at2 {n m : Nat} (x : (⟨2, ![n, m]⟩ : Shape).Idx → EReal) (i : (⟨2, ![n, m]⟩ : Shape).Idx) :
    x i = x (ix2 (i 0) (i 1)) := congrArg x (eq_ix2 i)

/-- The same of three axes. -/
theorem at3 {n m l : Nat} (x : (⟨3, ![n, m, l]⟩ : Shape).Idx → EReal) (i : (⟨3, ![n, m, l]⟩ : Shape).Idx) :
    x i = x (ix3 (i 0) (i 1) (i 2)) := congrArg x (eq_ix3 i)

/-- The float of the word 1.0 is one. -/
theorem one_eq : FloatOps.ofBits (F := Ideal) .f32 0x3F800000#32 = (1 : EReal) := Ideal.ofBits_one_f32

/-- The float of the word 0.0 is zero. -/
theorem zero_eq : FloatOps.ofBits (F := Ideal) .f32 0x00000000#32 = (0 : EReal) := Ideal.ofBits_zero_f32

/-- The first norm's factor of a token. -/
theorem rms_at (i : S2x8192x1.Idx) :
    val_main_v7 (F := Ideal) x0 i = rms fun k => x0 (ix3 ⟨(i 0).val, (i 0).isLt⟩ ⟨(i 1).val, (i 1).isLt⟩ k) := by
  rw [val_main_v7_apply, val_main_v6_apply, val_main_v4_apply, val_main_v2_apply, val_main_v1_apply, val_main_cst_apply,
    zero_eq, zero_add]
  simp only [val_main_v0_apply, at3 x0 (idx_main_v1 _ _)]
  rfl

/-- The normalized rows at an index. -/
theorem h_at (i : S2x8192x1024.Idx) :
    val_main_v20 (F := Ideal) x0 x1 x2 x3 i = (tok x0 x1 x2 x3 x4 x5 x6 x7 x8 x9 (i 0) (i 1)).h (i 2) := by
  rw [val_main_v20_apply, val_main_v17_apply, val_main_v12_apply, val_main_v9_apply, val_main_v8_apply, rms_at,
    val_main_v11_apply, val_main_v10_apply, val_main_v16_apply, val_main_v15_apply, val_main_v14_apply,
    val_main_cst_2_apply, one_eq, val_main_v19_apply, val_main_v18_apply, val_main_v13_apply,
    at1 x1, at2 x2, at2 x3, at3 x0 i]
  rfl

/-- The logits at an index. -/
theorem logits_at (i : S2x8192x8.Idx) :
    val_main_v25 (F := Ideal) x0 x1 x2 x3 x5 x6 i = (tok x0 x1 x2 x3 x4 x5 x6 x7 x8 x9 (i 0) (i 1)).l (i 2) := by
  rw [val_main_v25_apply, val_main_v22_apply, val_main_v24_apply, val_main_v23_apply, at1 x6]
  simp only [h_at x0 x1 x2 x3 x4 x5 x6 x7 x8 x9, at2 x5 (ridx_main_v22 _ _)]
  rfl

/-- The order in which the reference's `top_k` ranks the experts of a token. -/
theorem order_eq (i : S2x8192x8.Idx) :
    (fun k k' : Fin 8 => FloatOps.cmpfTotal (F := Ideal) (φ := .f32) .gt (val_main_v25 (F := Ideal) x0 x1 x2 x3 x5 x6 (i.along 2 k))
        (val_main_v25 (F := Ideal) x0 x1 x2 x3 x5 x6 (i.along 2 k')) == 1#1)
      = fun k k' => decide ((tok x0 x1 x2 x3 x4 x5 x6 x7 x8 x9 (i 0) (i 1)).l k' < (tok x0 x1 x2 x3 x4 x5 x6 x7 x8 x9 (i 0) (i 1)).l k) := by
  funext k k'
  have e : ∀ q : Fin 8, val_main_v25 (F := Ideal) x0 x1 x2 x3 x5 x6 (i.along 2 q) = (tok x0 x1 x2 x3 x4 x5 x6 x7 x8 x9 (i 0) (i 1)).l q := fun q =>
    (logits_at x0 x1 x2 x3 x4 x5 x6 x7 x8 x9 (i.along 2 q)).trans rfl
  rw [e, e, Ideal.cmpfTotal_def]
  simp only [Ideal.cmp, CmpDirection.ordered]
  by_cases h : (tok x0 x1 x2 x3 x4 x5 x6 x7 x8 x9 (i 0) (i 1)).l k' < (tok x0 x1 x2 x3 x4 x5 x6 x7 x8 x9 (i 0) (i 1)).l k <;> simp [h]

/-- The place in the row of logits that the result's place `i` is read from. -/
def place (i : S2x8192x2.Idx) : S2x8192x8.Idx := ix3 (i 0) (i 1) ⟨(i 2).val, lt_trans (i 2).isLt (by decide)⟩

/-- The place is the one that `top_k` cuts out of the sorted row. -/
theorem place_eq (i : S2x8192x2.Idx) : (fun a => ⟨0 + (i (a.cast sliceFits_S2x8192x8_S2x8192x2.1.symm)).val,
      Nat.lt_of_lt_of_le (Nat.add_lt_add_left (i _).isLt _) (sliceFits_S2x8192x8_S2x8192x2.2 a)⟩ : S2x8192x8.Idx) = place i := by
  funext a
  match a with
  | ⟨0, _⟩ => exact Fin.ext (Nat.zero_add _)
  | ⟨1, _⟩ => exact Fin.ext (Nat.zero_add _)
  | ⟨2, _⟩ => exact Fin.ext (Nat.zero_add _)

/-- The two largest logits. -/
theorem values_at (i : S2x8192x2.Idx) :
    val_main_values (F := Ideal) x0 x1 x2 x3 x5 x6 i
      = (tok x0 x1 x2 x3 x4 x5 x6 x7 x8 x9 (i 0) (i 1)).l ((tok x0 x1 x2 x3 x4 x5 x6 x7 x8 x9 (i 0) (i 1)).ranked ⟨(i 2).val, lt_trans (i 2).isLt (by decide)⟩) := by
  have h : val_main_values (F := Ideal) x0 x1 x2 x3 x5 x6 i
      = val_main_v25 (F := Ideal) x0 x1 x2 x3 x5 x6 ((place i).along 2 (sortedFrom
          (fun k k' : Fin 8 => FloatOps.cmpfTotal (F := Ideal) (φ := .f32) .gt (val_main_v25 (F := Ideal) x0 x1 x2 x3 x5 x6 ((place i).along 2 k))
            (val_main_v25 (F := Ideal) x0 x1 x2 x3 x5 x6 ((place i).along 2 k')) == 1#1) (place i 2))) := by
    rw [← place_eq i]
    rfl
  rw [h, order_eq x0 x1 x2 x3 x4 x5 x6 x7 x8 x9, logits_at x0 x1 x2 x3 x4 x5 x6 x7 x8 x9]
  rfl

/-- The experts of the two largest logits. -/
theorem indices_at (i : S2x8192x2.Idx) :
    val_main_indices (F := Ideal) x0 x1 x2 x3 x5 x6 i
      = BitVec.ofNat 32 ((tok x0 x1 x2 x3 x4 x5 x6 x7 x8 x9 (i 0) (i 1)).ranked ⟨(i 2).val, lt_trans (i 2).isLt (by decide)⟩).val := by
  have h : val_main_indices (F := Ideal) x0 x1 x2 x3 x5 x6 i
      = BitVec.ofNat 32 (sortedFrom
          (fun k k' : Fin 8 => FloatOps.cmpfTotal (F := Ideal) (φ := .f32) .gt (val_main_v25 (F := Ideal) x0 x1 x2 x3 x5 x6 ((place i).along 2 k))
            (val_main_v25 (F := Ideal) x0 x1 x2 x3 x5 x6 ((place i).along 2 k')) == 1#1) (place i 2)).val := by
    rw [← place_eq i]
    rfl
  rw [h, order_eq x0 x1 x2 x3 x4 x5 x6 x7 x8 x9]
  rfl

/-- A maximum over the two places of a row. -/
theorem row_max (y : FVec Ideal S2x8192x2 .f32) (i : S2x8192.Idx) :
    Host.reduce FloatOps.maximumf y (constant S_ .f32 0xFF800000#32) reducesTo_S2x8192x2_S2x8192_d2 h_S_ i
      = Finset.univ.fold (max : EReal → EReal → EReal) ⊥ (fun k : Fin 2 => y (ix3 (i 0) (i 1) k)) := by
  rw [← ofBits_bot]
  pointwise

/-- The largest logit. -/
theorem top_at (i : S2x8192.Idx) :
    val_main_v26 (F := Ideal) x0 x1 x2 x3 x5 x6 i = (tok x0 x1 x2 x3 x4 x5 x6 x7 x8 x9 (i 0) (i 1)).l (tok x0 x1 x2 x3 x4 x5 x6 x7 x8 x9 (i 0) (i 1)).i1 := by
  have h : val_main_v26 (F := Ideal) x0 x1 x2 x3 x5 x6 i
      = Finset.univ.fold (max : EReal → EReal → EReal) ⊥ (fun k : Fin 2 => val_main_values (F := Ideal) x0 x1 x2 x3 x5 x6 (ix3 (i 0) (i 1) k)) := by
    exact row_max _ i
  rw [h]
  refine fold_max_eq _ _ (fun k => ?_) 0 ?_
  · rw [values_at x0 x1 x2 x3 x4 x5 x6 x7 x8 x9]
    exact (tok x0 x1 x2 x3 x4 x5 x6 x7 x8 x9 (i 0) (i 1)).isTop2.le_fst _
  · rw [values_at x0 x1 x2 x3 x4 x5 x6 x7 x8 x9]
    rfl

/-- The exponentials of the two largest logits over the largest. -/
theorem exp_at (i : S2x8192x2.Idx) :
    val_main_v32 (F := Ideal) x0 x1 x2 x3 x5 x6 i
      = Ideal.exp ((tok x0 x1 x2 x3 x4 x5 x6 x7 x8 x9 (i 0) (i 1)).l ((tok x0 x1 x2 x3 x4 x5 x6 x7 x8 x9 (i 0) (i 1)).ranked ⟨(i 2).val, lt_trans (i 2).isLt (by decide)⟩)
          - (tok x0 x1 x2 x3 x4 x5 x6 x7 x8 x9 (i 0) (i 1)).l (tok x0 x1 x2 x3 x4 x5 x6 x7 x8 x9 (i 0) (i 1)).i1) := by
  rw [val_main_v32_apply, val_main_v31_apply, val_main_v30_apply, val_main_v29_apply, val_main_v28_apply, top_at x0 x1 x2 x3 x4 x5 x6 x7 x8 x9,
    val_main_v27_apply, val_main_cst_4_apply, values_at x0 x1 x2 x3 x4 x5 x6 x7 x8 x9]
  have e : FloatOps.maximumf (F := Ideal) (φ := .f32) (FloatOps.ofBits .f32 0xFF800000#32)
      ((tok x0 x1 x2 x3 x4 x5 x6 x7 x8 x9 (i 0) (i 1)).l (tok x0 x1 x2 x3 x4 x5 x6 x7 x8 x9 (i 0) (i 1)).i1) = (tok x0 x1 x2 x3 x4 x5 x6 x7 x8 x9 (i 0) (i 1)).l (tok x0 x1 x2 x3 x4 x5 x6 x7 x8 x9 (i 0) (i 1)).i1 := by
    show max (Ideal.ofBits .f32 0xFF800000#32) _ = _
    rw [ofBits_bot]
    exact max_bot_left _
  exact congrArg (fun v => Ideal.exp ((tok x0 x1 x2 x3 x4 x5 x6 x7 x8 x9 (i 0) (i 1)).l ((tok x0 x1 x2 x3 x4 x5 x6 x7 x8 x9 (i 0) (i 1)).ranked ⟨(i 2).val, lt_trans (i 2).isLt (by decide)⟩) - v)) e

/-- A token's one-hot row: one at the expert, zero at the others. -/
theorem hot_at (i : S2x8192x2x8.Idx) :
    val_main_v37 (F := Ideal) x0 x1 x2 x3 x5 x6 i
      = if (i 3).val = ((tok x0 x1 x2 x3 x4 x5 x6 x7 x8 x9 (i 0) (i 1)).ranked ⟨(i 2).val, lt_trans (i 2).isLt (by decide)⟩).val then (1 : EReal) else 0 := by
  rw [val_main_v37_apply, val_main_call0_v4_apply, val_main_call0_v2_apply, val_main_call0_v0_apply, val_main_call0_v3_apply,
    val_main_call0_v1_apply, indices_at x0 x1 x2 x3 x4 x5 x6 x7 x8 x9]
  show FloatOps.uitofp (F := Ideal) .f32 (IntOp.cmpi .eq
    (BitVec.ofNat 32 ((tok x0 x1 x2 x3 x4 x5 x6 x7 x8 x9 (i 0) (i 1)).ranked ⟨(i 2).val, lt_trans (i 2).isLt (by decide)⟩).val) (BitVec.ofNat 32 (i 3).val)) = _
  generalize (tok x0 x1 x2 x3 x4 x5 x6 x7 x8 x9 (i 0) (i 1)).ranked ⟨(i 2).val, lt_trans (i 2).isLt (by decide)⟩ = r
  have h3 : (i 3).val < 8 := (i 3).isLt
  have hr : r.val < 8 := r.isLt
  by_cases h : (i 3).val = r.val
  · rw [if_pos h, h]
    simp [IntOp.cmpi, FloatOps.uitofp]
  · have hne : BitVec.ofNat 32 r.val ≠ BitVec.ofNat 32 (i 3).val := by
      intro hb
      have := congrArg BitVec.toNat hb
      rw [BitVec.toNat_ofNat, BitVec.toNat_ofNat] at this
      omega
    rw [if_neg h]
    simp [IntOp.cmpi, FloatOps.uitofp, beq_eq_false_iff_ne.mpr hne]

/-- The gates at an index. -/
theorem gate_at (i : S2x8192x8.Idx) (hT : (tok x0 x1 x2 x3 x4 x5 x6 x7 x8 x9 (i 0) (i 1)).Finite) :
    val_main_v41 (F := Ideal) x0 x1 x2 x3 x5 x6 i = (tok x0 x1 x2 x3 x4 x5 x6 x7 x8 x9 (i 0) (i 1)).gate (i 2) := by
  rw [val_main_v41_apply, val_main_cst_6_apply, zero_eq, zero_add, Fin.sum_univ_two]
  simp only [val_main_v40_apply, hot_at x0 x1 x2 x3 x4 x5 x6 x7 x8 x9, val_main_v39_apply, val_main_v38_apply, val_main_v36_apply, val_main_v35_apply,
    val_main_v34_apply, val_main_v33_apply, val_main_cst_5_apply, zero_eq, zero_add, Fin.sum_univ_two, exp_at x0 x1 x2 x3 x4 x5 x6 x7 x8 x9]
  exact Tok.softmax_gate (tok x0 x1 x2 x3 x4 x5 x6 x7 x8 x9 (i 0) (i 1)) hT (i 2)

/-- The feed-forward network of one expert on all rows, as the reference writes it. -/
def swiglu (h : FVec Ideal S2x8192x1024 .f32) (A : FVec Ideal S1024x7168 .f32) (B : FVec Ideal S3584x1024 .f32) :
    FVec Ideal S2x8192x1024 .f32 :=
  let y : FVec Ideal S2x8192x7168 .f32 := Host.dotGeneral dot_S2x8192x1024_S1024x7168_S2x8192x7168_2_0_01_1_n_n none h A
  let u : FVec Ideal S2x8192x3584 .f32 := extractStridedSlice S2x8192x3584 ![0, 0, 0] y slices_S2x8192x7168_S2x8192x3584_0_0_0
  let w : FVec Ideal S2x8192x3584 .f32 := extractStridedSlice S2x8192x3584 ![0, 0, 3584] y slices_S2x8192x7168_S2x8192x3584_0_0_3584
  let one : FVec Ideal S2x8192x3584 .f32 := broadcastInDim S2x8192x3584 ![] bcast_S_S2x8192x3584 (constant S_ .f32 0x3F800000#32)
  Host.dotGeneral dot_S2x8192x3584_S3584x1024_S2x8192x1024_2_0_01_1_n_n none
    (mulf (mulf u (Host.divf one (addf one (Host.exp (Host.negf u))))) w) B

/-- One expert's network at an index. -/
theorem swiglu_apply (h : FVec Ideal S2x8192x1024 .f32) (A : FVec Ideal S1024x7168 .f32) (B : FVec Ideal S3584x1024 .f32)
    (p : Fin 2) (r : Fin 8192) (b : Fin 1024) :
    swiglu h A B (ix3 p r b)
      = ∑ q : Fin 3584, hid (fun k => h (ix3 p r k)) (fun k => A (ix2 k ⟨q.val, by omega⟩)) (fun k => A (ix2 k ⟨q.val + 3584, by omega⟩))
          * B (ix2 q b) := by
  pointwise [swiglu]
  simp only [Nat.add_comm 3584]
  rfl

/-- The sheet of expert `e` in the first weights. -/
theorem sheet_w13 (x : FVec Ideal S8x1024x7168 .f32) (e : Fin 8) (hs : S8x1024x7168.Slices ![e.val, 0, 0] S1x1024x7168)
    (k : Fin 1024) (q : Fin 7168) :
    shapeCast S1024x7168 (extractStridedSlice S1x1024x7168 ![e.val, 0, 0] x hs) shapeCasts_S1x1024x7168_S1024x7168 (ix2 k q)
      = x (ix3 e k q) := by
  pointwise

/-- The sheet of expert `e` in the second weights. -/
theorem sheet_w2 (x : FVec Ideal S8x3584x1024 .f32) (e : Fin 8) (hs : S8x3584x1024.Slices ![e.val, 0, 0] S1x3584x1024)
    (q : Fin 3584) (b : Fin 1024) :
    shapeCast S3584x1024 (extractStridedSlice S1x3584x1024 ![e.val, 0, 0] x hs) shapeCasts_S1x3584x1024_S3584x1024 (ix2 q b)
      = x (ix3 e q b) := by
  pointwise

/-- Expert `e`'s gate at an index. -/
theorem sheet_gate (y : FVec Ideal S2x8192x8 .f32) (e : Fin 8) (hs : S2x8192x8.Slices ![0, 0, e.val] S2x8192x1)
    (p : Fin 2) (r : Fin 8192) (b : Fin 1024) :
    broadcastInDim S2x8192x1024 ![0, 1, 2] bcast_S2x8192x1_S2x8192x1024_0_1_2 (extractStridedSlice S2x8192x1 ![0, 0, e.val] y hs) (ix3 p r b)
      = y (ix3 p r e) := by
  pointwise

/-- The gated result of expert `e` at an index. -/
theorem gated (e : Fin 8) (hg : S2x8192x8.Slices ![0, 0, e.val] S2x8192x1)
    (hA : S8x1024x7168.Slices ![e.val, 0, 0] S1x1024x7168) (hB : S8x3584x1024.Slices ![e.val, 0, 0] S1x3584x1024)
    (Y : FVec Ideal S2x8192x1024 .f32) (hY : Y = mulf
      (broadcastInDim S2x8192x1024 ![0, 1, 2] bcast_S2x8192x1_S2x8192x1024_0_1_2
        (extractStridedSlice S2x8192x1 ![0, 0, e.val] (val_main_v41 (F := Ideal) x0 x1 x2 x3 x5 x6) hg))
      (swiglu (val_main_v20 (F := Ideal) x0 x1 x2 x3)
        (shapeCast S1024x7168 (extractStridedSlice S1x1024x7168 ![e.val, 0, 0] x7 hA) shapeCasts_S1x1024x7168_S1024x7168)
        (shapeCast S3584x1024 (extractStridedSlice S1x3584x1024 ![e.val, 0, 0] x8 hB) shapeCasts_S1x3584x1024_S3584x1024)))
    (p : Fin 2) (r : Fin 8192) (b : Fin 1024) (hT : (tok x0 x1 x2 x3 x4 x5 x6 x7 x8 x9 (p) r).Finite) :
    Y (ix3 p r b) = (tok x0 x1 x2 x3 x4 x5 x6 x7 x8 x9 (p) r).gate e * ∑ q, (tok x0 x1 x2 x3 x4 x5 x6 x7 x8 x9 (p) r).col e q * (tok x0 x1 x2 x3 x4 x5 x6 x7 x8 x9 (p) r).w2 e q b := by
  subst hY
  refine congrArg₂ (· * ·) ((sheet_gate _ e hg p r b).trans (gate_at x0 x1 x2 x3 x4 x5 x6 x7 x8 x9 (ix3 p r e) hT))
    ((swiglu_apply _ _ _ p r b).trans (Finset.sum_congr rfl fun q _ => congrArg₂ (· * ·) ?_ (sheet_w2 x8 e hB q b)))
  exact congr (congr (congrArg hid (funext fun k => h_at x0 x1 x2 x3 x4 x5 x6 x7 x8 x9 (ix3 p r k))) (funext fun k => sheet_w13 x7 e hA k _))
    (funext fun k => sheet_w13 x7 e hA k _)

/-- The gated sum of the experts at an index. -/
theorem experts_at (p : Fin 2) (r : Fin 8192) (b : Fin 1024) (hT : (tok x0 x1 x2 x3 x4 x5 x6 x7 x8 x9 (p) r).Finite) :
    val_main_v154 (F := Ideal) x0 x1 x2 x3 x5 x6 x7 x8 (ix3 p r b) = (tok x0 x1 x2 x3 x4 x5 x6 x7 x8 x9 (p) r).y b := by
  have g := fun e hg hA hB Y hY => gated x0 x1 x2 x3 x4 x5 x6 x7 x8 x9 e hg hA hB Y hY p r b hT
  unfold Tok.y
  rw [Fin.sum_univ_eight, val_main_v154_apply, val_main_v140_apply, val_main_v126_apply, val_main_v112_apply, val_main_v98_apply, val_main_v84_apply, val_main_v70_apply, val_main_v56_apply,
    val_main_v42_apply, val_main_cst_7_apply, zero_eq]
  rw [g 0 slices_S2x8192x8_S2x8192x1_0_0_0 slices_S8x1024x7168_S1x1024x7168_0_0_0 slices_S8x3584x1024_S1x3584x1024_0_0_0 (val_main_v55 (F := Ideal) x0 x1 x2 x3 x5 x6 x7 x8) rfl,
    g 1 slices_S2x8192x8_S2x8192x1_0_0_1 slices_S8x1024x7168_S1x1024x7168_1_0_0 slices_S8x3584x1024_S1x3584x1024_1_0_0 (val_main_v69 (F := Ideal) x0 x1 x2 x3 x5 x6 x7 x8) rfl,
    g 2 slices_S2x8192x8_S2x8192x1_0_0_2 slices_S8x1024x7168_S1x1024x7168_2_0_0 slices_S8x3584x1024_S1x3584x1024_2_0_0 (val_main_v83 (F := Ideal) x0 x1 x2 x3 x5 x6 x7 x8) rfl,
    g 3 slices_S2x8192x8_S2x8192x1_0_0_3 slices_S8x1024x7168_S1x1024x7168_3_0_0 slices_S8x3584x1024_S1x3584x1024_3_0_0 (val_main_v97 (F := Ideal) x0 x1 x2 x3 x5 x6 x7 x8) rfl,
    g 4 slices_S2x8192x8_S2x8192x1_0_0_4 slices_S8x1024x7168_S1x1024x7168_4_0_0 slices_S8x3584x1024_S1x3584x1024_4_0_0 (val_main_v111 (F := Ideal) x0 x1 x2 x3 x5 x6 x7 x8) rfl,
    g 5 slices_S2x8192x8_S2x8192x1_0_0_5 slices_S8x1024x7168_S1x1024x7168_5_0_0 slices_S8x3584x1024_S1x3584x1024_5_0_0 (val_main_v125 (F := Ideal) x0 x1 x2 x3 x5 x6 x7 x8) rfl,
    g 6 slices_S2x8192x8_S2x8192x1_0_0_6 slices_S8x1024x7168_S1x1024x7168_6_0_0 slices_S8x3584x1024_S1x3584x1024_6_0_0 (val_main_v139 (F := Ideal) x0 x1 x2 x3 x5 x6 x7 x8) rfl,
    g 7 slices_S2x8192x8_S2x8192x1_0_0_7 slices_S8x1024x7168_S1x1024x7168_7_0_0 slices_S8x3584x1024_S1x3584x1024_7_0_0 (val_main_v153 (F := Ideal) x0 x1 x2 x3 x5 x6 x7 x8) rfl]
  exact congrArg (· + _ + _ + _ + _ + _ + _ + _) (zero_add _)

/-- The residual sum at an index. -/
theorem sum_at (i : S2x8192x1024.Idx) (hT : (tok x0 x1 x2 x3 x4 x5 x6 x7 x8 x9 (i 0) (i 1)).Finite) :
    val_main_v157 (F := Ideal) x0 x1 x2 x3 x4 x5 x6 x7 x8 i
      = (tok x0 x1 x2 x3 x4 x5 x6 x7 x8 x9 (i 0) (i 1)).x (i 2) + (tok x0 x1 x2 x3 x4 x5 x6 x7 x8 x9 (i 0) (i 1)).ga (i 2) * (tok x0 x1 x2 x3 x4 x5 x6 x7 x8 x9 (i 0) (i 1)).y (i 2) := by
  rw [val_main_v157_apply, val_main_v156_apply, val_main_v155_apply, val_main_v21_apply, (at3 (val_main_v154 (F := Ideal) x0 x1 x2 x3 x5 x6 x7 x8) i).trans (experts_at x0 x1 x2 x3 x4 x5 x6 x7 x8 x9 (i 0) (i 1) (i 2) hT),
    at3 x0 i, at2 x4]
  rfl

/-- The last norm's factor of a token. -/
theorem last_at (i : S2x8192x1.Idx) (hT : (tok x0 x1 x2 x3 x4 x5 x6 x7 x8 x9 (i 0) (i 1)).Finite) :
    val_main_v165 (F := Ideal) x0 x1 x2 x3 x4 x5 x6 x7 x8 i
      = rms fun k => (tok x0 x1 x2 x3 x4 x5 x6 x7 x8 x9 (i 0) (i 1)).x k + (tok x0 x1 x2 x3 x4 x5 x6 x7 x8 x9 (i 0) (i 1)).ga k * (tok x0 x1 x2 x3 x4 x5 x6 x7 x8 x9 (i 0) (i 1)).y k := by
  rw [val_main_v165_apply, val_main_v164_apply, val_main_v162_apply, val_main_v160_apply, val_main_v159_apply,
    val_main_cst_8_apply, zero_eq, zero_add]
  have h : ∀ k : Fin 1024, val_main_v158 (F := Ideal) x0 x1 x2 x3 x4 x5 x6 x7 x8 (idx_main_v159 (idx_main_v160 i) k)
      = ((tok x0 x1 x2 x3 x4 x5 x6 x7 x8 x9 (i 0) (i 1)).x k + (tok x0 x1 x2 x3 x4 x5 x6 x7 x8 x9 (i 0) (i 1)).ga k * (tok x0 x1 x2 x3 x4 x5 x6 x7 x8 x9 (i 0) (i 1)).y k)
        * ((tok x0 x1 x2 x3 x4 x5 x6 x7 x8 x9 (i 0) (i 1)).x k + (tok x0 x1 x2 x3 x4 x5 x6 x7 x8 x9 (i 0) (i 1)).ga k * (tok x0 x1 x2 x3 x4 x5 x6 x7 x8 x9 (i 0) (i 1)).y k) := fun k => by
    rw [val_main_v158_apply, sum_at x0 x1 x2 x3 x4 x5 x6 x7 x8 x9 (idx_main_v159 (idx_main_v160 i) k) hT]
    rfl
  simp only [h]
  rfl

/-- The normalized sum at an index. -/
theorem rows_at (i : S2x8192x1024.Idx) (hT : (tok x0 x1 x2 x3 x4 x5 x6 x7 x8 x9 (i 0) (i 1)).Finite) :
    val_main_v170 (F := Ideal) x0 x1 x2 x3 x4 x5 x6 x7 x8 x9 i = (tok x0 x1 x2 x3 x4 x5 x6 x7 x8 x9 (i 0) (i 1)).out (i 2) := by
  rw [val_main_v170_apply, val_main_v167_apply, val_main_v166_apply,
    last_at x0 x1 x2 x3 x4 x5 x6 x7 x8 x9 (idx_main_v166 i) hT, val_main_v169_apply, val_main_v168_apply, at1 x9, sum_at x0 x1 x2 x3 x4 x5 x6 x7 x8 x9 i hT]
  rfl

/-- THE REFERENCE'S RESULT AT AN INDEX: row `8192 p + r` is the layer at token `r` of prompt `p`. -/
theorem result_apply (i : S16384x1024.Idx) (p : Fin 2) (r : Fin 8192) (h : 8192 * p.val + r.val = (i 0).val)
    (hT : (tok x0 x1 x2 x3 x4 x5 x6 x7 x8 x9 p r).Finite) :
    val_main_v171 (F := Ideal) x0 x1 x2 x3 x4 x5 x6 x7 x8 x9 i = (tok x0 x1 x2 x3 x4 x5 x6 x7 x8 x9 p r).out (i 1) := by
  have h1 : (i 1).val < 1024 := (i 1).isLt
  have e : idx_main_v171 i = ix3 p r ⟨(i 1).val, h1⟩ := by
    have hr := r.isLt
    funext a
    match a with
    | ⟨0, _⟩ => exact Fin.ext (by show ((i 0).val * 1024 + (i 1).val) / 8388608 = p.val; omega)
    | ⟨1, _⟩ => exact Fin.ext (by show ((i 0).val * 1024 + (i 1).val) / 1024 % 8192 = r.val; omega)
    | ⟨2, _⟩ => exact Fin.ext (by show ((i 0).val * 1024 + (i 1).val) % 1024 = (i 1).val; omega)
  rw [val_main_v171_apply, e]
  exact (rows_at x0 x1 x2 x3 x4 x5 x6 x7 x8 x9 (ix3 p r ⟨(i 1).val, h1⟩) hT).trans rfl

end Cert.ReferenceIdeal.Moe

end
-- ==== Proof.Moe.Routing.lean ====
module

public import proofs.«01_k».proof.Pre_finite_routing
public import proofs.«01_k».proof.Proof.Moe.Reference
public import Idealize.ShloMosaic.Lib.ReduceAll

/-! What the precondition says: each token's largest logit is a real number. -/

@[expose] public section

set_option maxRecDepth 16384

noncomputable section

namespace Cert.Pre_finite_routing.Moe

open Idealize.ShloMosaic Idealize.ShloMosaic.TcCoe Idealize.SL.Sem
open Cert.Pre_finite_routing Cert.ReferenceIdeal.Read Cert.Spec Cert.Top2

/-- The shape relations the precondition's operations take. -/
theorem facts : Cert.Pre_finite_routing.Facts where
  reducesTo_S2x8192x1024_S2x8192_d2 := Cert.ReferenceIdeal.Gen.reducesTo_S2x8192x1024_S2x8192_d2
  h_S_ := Cert.ReferenceIdeal.Gen.h_S_
  bcast_S2x8192_S2x8192x1_0_1 := Cert.ReferenceIdeal.Gen.bcast_S2x8192_S2x8192x1_0_1
  bcast_S_S2x8192x1 := Cert.ReferenceIdeal.Gen.bcast_S_S2x8192x1
  bcast_S2x8192x1_S2x8192x1024_0_1_2 := Cert.ReferenceIdeal.Gen.bcast_S2x8192x1_S2x8192x1024_0_1_2
  bcast_S1024_S1x1x1024_2 := Cert.ReferenceIdeal.Gen.bcast_S1024_S1x1x1024_2
  bcast_S1x1x1024_S2x8192x1024_0_1_2 := Cert.ReferenceIdeal.Gen.bcast_S1x1x1024_S2x8192x1024_0_1_2
  bcast_S2x1024_S2x1x1024_0_2 := Cert.ReferenceIdeal.Gen.bcast_S2x1024_S2x1x1024_0_2
  bcast_S_S2x1x1024 := Cert.ReferenceIdeal.Gen.bcast_S_S2x1x1024
  bcast_S2x1x1024_S2x8192x1024_0_1_2 := Cert.ReferenceIdeal.Gen.bcast_S2x1x1024_S2x8192x1024_0_1_2
  bcast_S8_S1x1x8_2 := Cert.ReferenceIdeal.Gen.bcast_S8_S1x1x8_2
  bcast_S1x1x8_S2x8192x8_0_1_2 := Cert.ReferenceIdeal.Gen.bcast_S1x1x8_S2x8192x8_0_1_2
  reducesTo_S2x8192x8_S2x8192_d2 := by decide
  bcast_S_S2x8192 := Cert.ReferenceIdeal.Gen.bcast_S_S2x8192
  reducesTo_S2x8192_S_d0_1 := by decide
  dot_S2x8192x1024_S1024x8_S2x8192x8_2_0_01_1_n_n_wf := Cert.ReferenceIdeal.Gen.dot_S2x8192x1024_S1024x8_S2x8192x8_2_0_01_1_n_n_wf

variable [hF : Facts]

/-- A maximum over the eight places of a row. -/
theorem row_max (y : FVec Ideal S2x8192x8 .f32) (i : S2x8192.Idx) :
    Host.reduce FloatOps.maximumf y (constant S_ .f32 0xFF800000#32) hF.reducesTo_S2x8192x8_S2x8192_d2 hF.h_S_ i
      = Finset.univ.fold (max : EReal → EReal → EReal) ⊥ (fun k : Fin 8 => y (ix3 (i 0) (i 1) k)) := by
  rw [← ofBits_bot]
  pointwise

/-- An extended real whose absolute value is below the float infinity is a real number. -/
theorem real_of_abs (v : EReal)
    (h : FloatOps.cmpf (F := Ideal) (φ := .f32) .olt (FloatOps.absf (F := Ideal) (φ := .f32) v) (FloatOps.ofBits .f32 0x7F800000#32) = 1#1) :
    ∃ r : ℝ, v = r := by
  have e : FloatOps.ofBits (F := Ideal) .f32 0x7F800000#32 = (⊤ : EReal) := ofBits_top
  rw [e] at h
  induction v with
  | bot => exact absurd h (by simp [FloatOps.cmpf, FloatOps.absf, Ideal.cmp])
  | top => exact absurd h (by simp [FloatOps.cmpf, FloatOps.absf, Ideal.cmp])
  | coe r => exact ⟨r, rfl⟩

variable (x0 : FVec Ideal S2x8192x1024 .f32) (x1 : FVec Ideal S1024 .f32) (x2 x3 x4 : FVec Ideal S2x1024 .f32)
  (x5 : FVec Ideal S1024x8 .f32) (x6 : FVec Ideal S8 .f32) (x7 : FVec Ideal S8x1024x7168 .f32)
  (x8 : FVec Ideal S8x3584x1024 .f32) (x9 : FVec Ideal S1024 .f32)

/-- Under the precondition each token's largest logit is a real number. -/
theorem finite_of_pre (h : fn (F := Ideal) x0 x1 x2 x3 x4 x5 x6 x7 x8 x9 = fun _ => 1#1) (p : Fin 2) (r : Fin 8192) :
    (tok x0 x1 x2 x3 x4 x5 x6 x7 x8 x9 p r).Finite := by
  have h0 := congrFun h (fun a => a.elim0)
  dsimp only [fn, fn_part1] at h0
  have h1 := Host.reduce_andi_all _ _ _ _ _ h0 (ix2 p r)
  refine real_of_abs _ ?_
  have e : Host.reduce (FloatOps.maximumf (F := Ideal) (φ := .f32)) (val_main_v25 (F := Ideal) x0 x1 x2 x3 x5 x6) (constant S_ .f32 0xFF800000#32)
      hF.reducesTo_S2x8192x8_S2x8192_d2 hF.h_S_ (ix2 p r)
        = (tok x0 x1 x2 x3 x4 x5 x6 x7 x8 x9 p r).l (tok x0 x1 x2 x3 x4 x5 x6 x7 x8 x9 p r).i1 := by
    refine (row_max (val_main_v25 (F := Ideal) x0 x1 x2 x3 x5 x6) (ix2 p r)).trans ?_
    have hl : ∀ k : Fin 8, val_main_v25 (F := Ideal) x0 x1 x2 x3 x5 x6 (ix3 p r k)
        = (tok x0 x1 x2 x3 x4 x5 x6 x7 x8 x9 p r).l k :=
      fun k => Cert.ReferenceIdeal.Moe.logits_at x0 x1 x2 x3 x4 x5 x6 x7 x8 x9 (ix3 p r k)
    refine fold_max_eq _ _ (fun k => (hl k).trans_le ?_) _ (hl _)
    exact (tok x0 x1 x2 x3 x4 x5 x6 x7 x8 x9 p r).isTop2.le_fst k
  rw [← e]
  exact h1

end Cert.Pre_finite_routing.Moe

end
-- ==== Proof.InProj.Spec.lean ====
module

public import proofs.«01_k».proof.Proof.Moe.Spec

/-! The input projection of the even layer, at one token and one column. -/

@[expose] public section

noncomputable section

namespace Cert.Spec

open Idealize.ShloMosaic

/-- A column of the projection of a token's normalized row. -/
def proj (x g sh sc w : Fin 1024 → EReal) : EReal := ∑ k, modRow x g sh sc k * w k

/-- Column `j` of the projection at token `r` of prompt `p`, over the argument arrays. -/
def promptProj (x : FVec Ideal ⟨3, ![2, 8192, 1024]⟩ .f32) (g : FVec Ideal ⟨1, ![1024]⟩ .f32) (sh sc : FVec Ideal ⟨2, ![2, 1024]⟩ .f32)
    (w : FVec Ideal ⟨2, ![1024, 3912]⟩ .f32) (p : Fin 2) (r : Fin 8192) (j : Fin 3912) : EReal :=
  proj (fun k => x (ix3 p r k)) (fun k => g (ix1 k)) (fun k => sh (ix2 p k)) (fun k => sc (ix2 p k)) (fun k => w (ix2 k j))

/-- Column `j` of the projection of sample `a`, over the argument arrays. -/
def sampleProj (x : FVec Ideal ⟨3, ![128, 1, 1024]⟩ .f32) (g : FVec Ideal ⟨1, ![1024]⟩ .f32) (sh sc : FVec Ideal ⟨2, ![128, 1024]⟩ .f32)
    (w : FVec Ideal ⟨2, ![1024, 3912]⟩ .f32) (a : Fin 128) (j : Fin 3912) : EReal :=
  proj (fun k => x (ix3 a 0 k)) (fun k => g (ix1 k)) (fun k => sh (ix2 a k)) (fun k => sc (ix2 a k)) (fun k => w (ix2 k j))

end Cert.Spec

end
-- ==== Proof.InProj.Layout.lean ====
module

public import Idealize.ShloMosaic.Lib.Pipeline.ValueKit
public import Idealize.ShloMosaic.Lib.Pointwise
public import Idealize.ShloMosaic.PureOps.Ideal.Laws

/-! The weights of the input projection's windows: columns cut out of the whole matrix, read at an index. -/

@[expose] public section

noncomputable section

namespace Cert.InProj

open Idealize.ShloMosaic

/-- The last weights, padded to 128 columns, in the columns that are not padding. -/
theorem pad_apply (x : FVec Ideal ⟨2, ![1024, 72]⟩ .f32) (v : FVec Ideal ⟨0, ![]⟩ .f32) (a : Fin 1024) (b : Fin 128) (h : b.val < 72)
    (hp : (⟨2, ![1024, 72]⟩ : Shape).Pads (![0, 0] : Fin 2 → Nat) ![0, 56] ![0, 0] ⟨2, ![1024, 128]⟩) (h0 : 0 < (⟨0, ![]⟩ : Shape).numel) :
    pad ⟨2, ![1024, 128]⟩ ![0, 0] ![0, 56] ![0, 0] x v hp h0 (ix2 a b) = x (ix2 a ⟨b.val, h⟩) := by
  pointwise
  exact dif_pos h

/-- A cut of columns at an index. -/
theorem cut_apply {n R off : ℕ} (x : FVec Ideal ⟨2, ![R, 3912]⟩ .f32) (h : (⟨2, ![R, 3912]⟩ : Shape).Slices ![0, off] ⟨2, ![R, n]⟩)
    (i : (⟨2, ![R, n]⟩ : Shape).Idx) (k : Fin R) (j : Fin 3912) (hk : k.val = (i 0).val) (hj : j.val = off + (i 1).val) :
    extractStridedSlice ⟨2, ![R, n]⟩ ![0, off] x h i = x (ix2 k j) :=
  extractStridedSlice_apply (s := ⟨2, ![R, 3912]⟩) (t := ⟨2, ![R, n]⟩) ![0, off] x h i (ix2 k j) fun a => match a with
    | ⟨0, _⟩ => hk.trans (Nat.zero_add _).symm
    | ⟨1, _⟩ => hj

end Cert.InProj

end
-- ==== Proof.InProj.Prompt.lean ====
module

public import proofs.«01_k».proof.Proof.Gen.Kernel2Ideal.Value
public import proofs.«01_k».proof.Proof.InProj.Spec
public import proofs.«01_k».proof.Proof.InProj.Layout
public import Idealize.ShloMosaic.Lib.Pipeline.ValueKit
public import Idealize.ShloMosaic.Lib.Pipeline.ReadBack
public import Idealize.ShloMosaic.Lib.Pointwise
public import Idealize.ShloMosaic.PureOps.Ideal.Laws

/-! The input projection of the prompts, its seven results at an index: each of the 64 grid points writes 256 rows. -/

@[expose] public section

set_option maxRecDepth 16384

noncomputable section

namespace Cert.Kernel2Ideal.InProj

open Idealize.ShloMosaic Idealize.ShloMosaic.TcCoe Idealize.SL.Sem
open Cert.Kernel2Ideal Cert.Kernel2Ideal.Gen Cert.Kernel2Ideal.Value Cert.InProj

/-- The block every window reads or writes at every point. -/
theorem idx : ∀ t : Fin cfg0.N,
    win0_0.index t = ![t.val, 0] ∧ win0_1.index t = ![0, 0] ∧ win0_2.index t = ![t.val / 32, 0, 0]
    ∧ win0_3.index t = ![t.val / 32, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ t.val < 64 :=
  (by decide +kernel : ∀ t : Fin grid0.N, _)

/-- Every point writes each of the results back. -/
theorem flush : ∀ t : Fin cfg0.N,
    (cfg0.win 10).flush t = true ∧ (cfg0.win 11).flush t = true ∧ (cfg0.win 12).flush t = true ∧ (cfg0.win 13).flush t = true
    ∧ (cfg0.win 14).flush t = true ∧ (cfg0.win 15).flush t = true ∧ (cfg0.win 16).flush t = true :=
  (by decide +kernel : ∀ t : Fin grid0.N, _)

/-- A row is one of the 256 of some point. -/
theorem point (n : ℕ) (h : n < 16384) : ∃ (t : Fin cfg0.N) (a : Fin 256), n = 256 * t.val + a.val :=
  ⟨⟨n / 256, lt_of_lt_of_eq (by omega : n / 256 < 64) (by decide)⟩, ⟨n % 256, Nat.mod_lt _ (by decide)⟩,
    (Nat.div_add_mod n 256).symm⟩

/-- The rows of the two prompts laid end to end, at an index. -/
theorem cast_rows (x : FVec Ideal S2x8192x1024 .f32) (R : Fin 16384) (b : Fin 1024) (p : Fin 2) (r : Fin 8192)
    (h : 8192 * p.val + r.val = R.val) :
    shapeCast S16384x1024 x shapeCasts_S2x8192x1024_S16384x1024 (ix2 R b) = x (ix3 p r b) := by
  pointwise
  congr 1
  blk_ext

/-- The normalized rows at an index. -/
theorem pay7_apply (x : Vec Ideal S256x1024 .f32) (g : Vec Ideal S1x1024 .f32) (sh sc : Vec Ideal S1x1x1024 .f32)
    (a : Fin 256) (b : Fin 1024) :
    k0_pay7 (F := Ideal) x g sh sc (ix2 a b)
      = Cert.Spec.modRow (fun k => x (ix2 a k)) (fun k => g (ix2 0 k)) (fun k => sh (ix3 0 0 k)) (fun k => sc (ix3 0 0 k)) b := by
  pointwise [k0_pay7]
  rfl

section
variable (x : Vec Ideal S256x1024 .f32) (g : Vec Ideal S1x1024 .f32) (sh sc : Vec Ideal S1x1x1024 .f32)
  (h : FVec Ideal S256x1024 .bf16) (a : Fin 256)

/-- The first product at an index. -/
theorem pay8_apply (w : Vec Ideal S1024x1792 .bf16) (b : Fin 1792) :
    k0_pay8 (F := Ideal) x g sh sc w (ix2 a b) = ∑ k, k0_pay7 (F := Ideal) x g sh sc (ix2 a k) * w (ix2 k b) := by
  pointwise [k0_pay8]

/-- The second product at an index. -/
theorem pay9_apply (w : Vec Ideal S1024x512 .bf16) (b : Fin 512) :
    k0_pay9 (F := Ideal) x g sh sc w (ix2 a b) = ∑ k, k0_pay7 (F := Ideal) x g sh sc (ix2 a k) * w (ix2 k b) := by
  pointwise [k0_pay9]

/-- The third product at an index. -/
theorem pay1_apply (w : Vec Ideal S1024x512 .bf16) (b : Fin 512) :
    k0_pay1 (F := Ideal) h w (ix2 a b) = ∑ k, h (ix2 a k) * w (ix2 k b) := by
  pointwise [k0_pay1]

/-- The fourth product at an index. -/
theorem pay2_apply (w : Vec Ideal S1024x512 .bf16) (b : Fin 512) :
    k0_pay2 (F := Ideal) h w (ix2 a b) = ∑ k, h (ix2 a k) * w (ix2 k b) := by
  pointwise [k0_pay2]

/-- The fifth product at an index. -/
theorem pay3_apply (w : Vec Ideal S1024x512 .bf16) (b : Fin 512) :
    k0_pay3 (F := Ideal) h w (ix2 a b) = ∑ k, h (ix2 a k) * w (ix2 k b) := by
  pointwise [k0_pay3]

/-- The first 64 columns of the last product at an index. -/
theorem pay5_apply (w : Vec Ideal S1024x128 .bf16) (b : Fin 64) :
    k0_pay5 (F := Ideal) h w (ix2 a b) = ∑ k, h (ix2 a k) * w (ix2 k ⟨b.val, by omega⟩) := by
  pointwise [k0_pay5, k0_pay4]

/-- The next 8 columns of the last product at an index. -/
theorem pay6_apply (w : Vec Ideal S1024x128 .bf16) (b : Fin 8) :
    k0_pay6 (F := Ideal) h w (ix2 a b) = ∑ k, h (ix2 a k) * w (ix2 k ⟨64 + b.val, by omega⟩) := by
  pointwise [k0_pay6, k0_pay4]

end

variable (m : (ℓ : Loc nD τ sig) → Buf (Elt Ideal) ℓ) (c : Dev nD) (t : Fin cfg0.N)

/-- The rows that a point reads. -/
theorem read_x (a : Fin 256) (b : Fin 1024) (p : Fin 2) (r : Fin 8192) (h : 8192 * p.val + r.val = 256 * t.val + a.val) :
    iblk (F := Ideal) m c 0 t (ix2 a b) = m ((c : Thread nD τ).loc main_arg0) (ix3 p r b) := by
  show V m c main_v0 (((cfg0.win 0).blk t).view.emb (ix2 a b)) = _
  have ht : 256 * t.val + a.val < 16384 := by omega
  have e : V (F := Ideal) m c main_v0 = shapeCast S16384x1024 (m ((c : Thread nD τ).loc main_arg0)) shapeCasts_S2x8192x1024_S16384x1024 := by
    unfold V
    entry_read
    rfl
  rw [e, show ((cfg0.win 0).blk t).view.emb (ix2 a b) = ix2 ⟨256 * t.val + a.val, ht⟩ b from by blk_ext [idx t]]
  exact cast_rows _ _ b p r h

/-- The gain of the norm. -/
theorem read_norm (a : Fin 1) (b : Fin 1024) : iblk (F := Ideal) m c 1 t (ix2 a b) = m ((c : Thread nD τ).loc main_arg1) (ix1 b) := by
  show V m c main_v3 (((cfg0.win 1).blk t).view.emb (ix2 a b)) = _
  have e : V (F := Ideal) m c main_v3 = shapeCast S1x1024 (m ((c : Thread nD τ).loc main_arg1)) shapeCasts_S1024_S1x1024 := by
    unfold V
    entry_read
    rfl
  rw [e]
  pointwise
  blk_ext [iblk, idx t]

/-- The shift of the prompt that a point belongs to. -/
theorem read_shift (a a' : Fin 1) (b : Fin 1024) (p : Fin 2) (h : p.val = t.val / 32) :
    iblk (F := Ideal) m c 2 t (ix3 a a' b) = m ((c : Thread nD τ).loc main_arg2) (ix2 p b) := by
  show V m c main_v1 (((cfg0.win 2).blk t).view.emb (ix3 a a' b)) = _
  have e : V (F := Ideal) m c main_v1 = shapeCast S2x1x1024 (m ((c : Thread nD τ).loc main_arg2)) shapeCasts_S2x1024_S2x1x1024 := by
    unfold V
    entry_read
    rfl
  rw [e]
  pointwise
  blk_ext [iblk, idx t]

/-- Its scale. -/
theorem read_scale (a a' : Fin 1) (b : Fin 1024) (p : Fin 2) (h : p.val = t.val / 32) :
    iblk (F := Ideal) m c 3 t (ix3 a a' b) = m ((c : Thread nD τ).loc main_arg3) (ix2 p b) := by
  show V m c main_v2 (((cfg0.win 3).blk t).view.emb (ix3 a a' b)) = _
  have e : V (F := Ideal) m c main_v2 = shapeCast S2x1x1024 (m ((c : Thread nD τ).loc main_arg3)) shapeCasts_S2x1024_S2x1x1024 := by
    unfold V
    entry_read
    rfl
  rw [e]
  pointwise
  blk_ext [iblk, idx t]

/-- The first five weights behind the operands: columns from 0, 1792, 2304, 2816 and 3328. -/
theorem V_w :
    V (F := Ideal) m c main_v5 = (truncf (F := Ideal) .bf16 (extractStridedSlice S1024x1792 ![0, 0]
      (m ((c : Thread nD τ).loc main_arg4) : FVec Ideal S1024x3912 .f32) slices_S1024x3912_S1024x1792_0_0) bitsLt_bf16_f32 : FVec Ideal S1024x1792 .bf16)
    ∧ V (F := Ideal) m c main_v7 = (truncf (F := Ideal) .bf16 (extractStridedSlice S1024x512 ![0, 1792]
      (m ((c : Thread nD τ).loc main_arg4) : FVec Ideal S1024x3912 .f32) slices_S1024x3912_S1024x512_0_1792) bitsLt_bf16_f32 : FVec Ideal S1024x512 .bf16)
    ∧ V (F := Ideal) m c main_v9 = (truncf (F := Ideal) .bf16 (extractStridedSlice S1024x512 ![0, 2304]
      (m ((c : Thread nD τ).loc main_arg4) : FVec Ideal S1024x3912 .f32) slices_S1024x3912_S1024x512_0_2304) bitsLt_bf16_f32 : FVec Ideal S1024x512 .bf16)
    ∧ V (F := Ideal) m c main_v11 = (truncf (F := Ideal) .bf16 (extractStridedSlice S1024x512 ![0, 2816]
      (m ((c : Thread nD τ).loc main_arg4) : FVec Ideal S1024x3912 .f32) slices_S1024x3912_S1024x512_0_2816) bitsLt_bf16_f32 : FVec Ideal S1024x512 .bf16)
    ∧ V (F := Ideal) m c main_v13 = (truncf (F := Ideal) .bf16 (extractStridedSlice S1024x512 ![0, 3328]
      (m ((c : Thread nD τ).loc main_arg4) : FVec Ideal S1024x3912 .f32) slices_S1024x3912_S1024x512_0_3328) bitsLt_bf16_f32 : FVec Ideal S1024x512 .bf16) := by
  refine ⟨?_, ?_, ?_, ?_, ?_⟩ <;>
  · unfold V
    simp only [hostOps0, hostOps0_1, hostOps0_2, List.flatten_cons, List.flatten_nil, List.append_nil, List.cons_append, List.nil_append]
    entry_read
    rfl

/-- The first five weights, as a point reads them. -/
theorem read_w (k : Fin 1024) (j : Fin 3912) :
    (∀ b : Fin 1792, j.val = 0 + b.val → iblk (F := Ideal) m c 4 t (ix2 k b) = m ((c : Thread nD τ).loc main_arg4) (ix2 k j))
    ∧ (∀ b : Fin 512, j.val = 1792 + b.val → iblk (F := Ideal) m c 5 t (ix2 k b) = m ((c : Thread nD τ).loc main_arg4) (ix2 k j))
    ∧ (∀ b : Fin 512, j.val = 2304 + b.val → iblk (F := Ideal) m c 6 t (ix2 k b) = m ((c : Thread nD τ).loc main_arg4) (ix2 k j))
    ∧ (∀ b : Fin 512, j.val = 2816 + b.val → iblk (F := Ideal) m c 7 t (ix2 k b) = m ((c : Thread nD τ).loc main_arg4) (ix2 k j))
    ∧ (∀ b : Fin 512, j.val = 3328 + b.val → iblk (F := Ideal) m c 8 t (ix2 k b) = m ((c : Thread nD τ).loc main_arg4) (ix2 k j)) := by
  refine ⟨?_, ?_, ?_, ?_, ?_⟩ <;> intro b h
  · show V m c main_v5 (((cfg0.win 4).blk t).view.emb (ix2 k b)) = _
    rw [(V_w m c).1, show ((cfg0.win 4).blk t).view.emb (ix2 k b) = ix2 k b from by blk_ext [idx t]]
    exact cut_apply _ slices_S1024x3912_S1024x1792_0_0 (ix2 k b) k j rfl h
  · show V m c main_v7 (((cfg0.win 5).blk t).view.emb (ix2 k b)) = _
    rw [(V_w m c).2.1, show ((cfg0.win 5).blk t).view.emb (ix2 k b) = ix2 k b from by blk_ext [idx t]]
    exact cut_apply _ slices_S1024x3912_S1024x512_0_1792 (ix2 k b) k j rfl h
  · show V m c main_v9 (((cfg0.win 6).blk t).view.emb (ix2 k b)) = _
    rw [(V_w m c).2.2.1, show ((cfg0.win 6).blk t).view.emb (ix2 k b) = ix2 k b from by blk_ext [idx t]]
    exact cut_apply _ slices_S1024x3912_S1024x512_0_2304 (ix2 k b) k j rfl h
  · show V m c main_v11 (((cfg0.win 7).blk t).view.emb (ix2 k b)) = _
    rw [(V_w m c).2.2.2.1, show ((cfg0.win 7).blk t).view.emb (ix2 k b) = ix2 k b from by blk_ext [idx t]]
    exact cut_apply _ slices_S1024x3912_S1024x512_0_2816 (ix2 k b) k j rfl h
  · show V m c main_v13 (((cfg0.win 8).blk t).view.emb (ix2 k b)) = _
    rw [(V_w m c).2.2.2.2, show ((cfg0.win 8).blk t).view.emb (ix2 k b) = ix2 k b from by blk_ext [idx t]]
    exact cut_apply _ slices_S1024x3912_S1024x512_0_3328 (ix2 k b) k j rfl h

/-- The last weights: columns from 3840. -/
theorem read_w9 (k : Fin 1024) (b : Fin 128) (hb : b.val < 72) (j : Fin 3912) (h : j.val = 3840 + b.val) :
    iblk (F := Ideal) m c 9 t (ix2 k b) = m ((c : Thread nD τ).loc main_arg4) (ix2 k j) := by
  show V m c main_v16 (((cfg0.win 9).blk t).view.emb (ix2 k b)) = _
  have e : V (F := Ideal) m c main_v16 = (truncf (F := Ideal) .bf16 (pad S1024x128 ![0, 0] ![0, 56] ![0, 0]
      (extractStridedSlice S1024x72 ![0, 3840] (m ((c : Thread nD τ).loc main_arg4) : FVec Ideal S1024x3912 .f32) slices_S1024x3912_S1024x72_0_3840)
      (sitofp (F := Ideal) .f32 (constantI S_ 32 0#32)) pads_S1024x72_S1024x128_000_0560 h_S_) bitsLt_bf16_f32 : FVec Ideal S1024x128 .bf16) := by
    unfold V
    simp only [hostOps0, hostOps0_1, hostOps0_2, List.flatten_cons, List.flatten_nil, List.append_nil, List.cons_append, List.nil_append]
    entry_read
    rfl
  rw [e, show ((cfg0.win 9).blk t).view.emb (ix2 k b) = ix2 k b from by blk_ext [idx t]]
  exact (pad_apply _ _ k b hb pads_S1024x72_S1024x128_000_0560 h_S_).trans (cut_apply _ slices_S1024x3912_S1024x72_0_3840 (ix2 k ⟨b.val, hb⟩) k j rfl h)

/-- The normalized rows of a point. -/
theorem rows_apply (a : Fin 256) (p : Fin 2) (r : Fin 8192) (h : 8192 * p.val + r.val = 256 * t.val + a.val) (k : Fin 1024) :
    k0_pay7 (F := Ideal) (iblk m c 0 t) (iblk m c 1 t) (iblk m c 2 t) (iblk m c 3 t) (ix2 a k)
      = Cert.Spec.modRow (fun k => m ((c : Thread nD τ).loc main_arg0) (ix3 p r k)) (fun k => m ((c : Thread nD τ).loc main_arg1) (ix1 k))
          (fun k => m ((c : Thread nD τ).loc main_arg2) (ix2 p k)) (fun k => m ((c : Thread nD τ).loc main_arg3) (ix2 p k)) k := by
  have hp : p.val = t.val / 32 := by omega
  refine (pay7_apply _ _ _ _ a k).trans ?_
  simp only [read_x m c t a _ p r h, read_norm, read_shift m c t 0 0 _ p hp, read_scale m c t 0 0 _ p hp]

/-- The projection's columns over the arguments that memory `m` holds. -/
def spec (p : Fin 2) (r : Fin 8192) (j : Fin 3912) : EReal :=
  Cert.Spec.promptProj (m ((c : Thread nD τ).loc main_arg0)) (m ((c : Thread nD τ).loc main_arg1)) (m ((c : Thread nD τ).loc main_arg2))
    (m ((c : Thread nD τ).loc main_arg3)) (m ((c : Thread nD τ).loc main_arg4)) p r j

/-- A product of a point's normalized rows and a column of the weights is a column of the projection. -/
theorem sum_apply (a : Fin 256) (p : Fin 2) (r : Fin 8192) (h : 8192 * p.val + r.val = 256 * t.val + a.val) (j : Fin 3912)
    (w : Fin 1024 → EReal) (hw : ∀ k, w k = m ((c : Thread nD τ).loc main_arg4) (ix2 k j)) :
    (∑ k, k0_pay7 (F := Ideal) (iblk m c 0 t) (iblk m c 1 t) (iblk m c 2 t) (iblk m c 3 t) (ix2 a k) * w k) = spec m c p r j := by
  unfold spec Cert.Spec.promptProj Cert.Spec.proj
  exact Finset.sum_congr rfl fun k _ => by rw [rows_apply m c t a p r h, hw]

/-- The first result at an index. -/
theorem out10 (i : S16384x1792.Idx) (p : Fin 2) (r : Fin 8192) (b : Fin 1792) (j : Fin 3912) (h : 8192 * p.val + r.val = (i 0).val)
    (hb : b.val = (i 1).val) (hj : j.val = 0 + b.val) : (dats (F := Ideal) m 0 c).arrAt 10 cfg0.N i = spec m c p r j := by
  obtain ⟨t, a, ha⟩ := point (i 0).val (i 0).isLt
  have hi : i = ((cfg0.win 10).blk t).view.emb (ix2 a b) := by
    blk_ext [idx t]
  have e := congrFun (blocks10 (F := Ideal) m c t (by simp only [flush t])) (ix2 a b)
  rw [flushed10] at e
  refine (congrArg ((dats (F := Ideal) m 0 c).arrAt 10 cfg0.N) hi).trans (e.trans ?_)
  unfold out0_10
  show View.canon _ (ix2 a b) = _
  frame_out
  refine (pay8_apply _ _ _ _ a _ b).trans ?_
  exact sum_apply m c t a p r (h.trans ha) j _ fun k => (read_w m c t k j).1 b hj

/-- The queries at an index. -/
theorem out11 (i : S16384x512.Idx) (p : Fin 2) (r : Fin 8192) (b : Fin 512) (j : Fin 3912) (h : 8192 * p.val + r.val = (i 0).val)
    (hb : b.val = (i 1).val) (hj : j.val = 1792 + b.val) : (dats (F := Ideal) m 0 c).arrAt 11 cfg0.N i = spec m c p r j := by
  obtain ⟨t, a, ha⟩ := point (i 0).val (i 0).isLt
  have hi : i = ((cfg0.win 11).blk t).view.emb (ix2 a b) := by
    blk_ext [idx t]
  have e := congrFun (blocks11 (F := Ideal) m c t (by simp only [flush t])) (ix2 a b)
  rw [flushed11] at e
  refine (congrArg ((dats (F := Ideal) m 0 c).arrAt 11 cfg0.N) hi).trans (e.trans ?_)
  unfold out0_11
  show View.canon _ (ix2 a b) = _
  frame_out
  refine (pay9_apply _ _ _ _ a _ b).trans ?_
  exact sum_apply m c t a p r (h.trans ha) j _ fun k => (read_w m c t k j).2.1 b hj

/-- The keys at an index. -/
theorem out12 (i : S16384x512.Idx) (p : Fin 2) (r : Fin 8192) (b : Fin 512) (j : Fin 3912) (h : 8192 * p.val + r.val = (i 0).val)
    (hb : b.val = (i 1).val) (hj : j.val = 2304 + b.val) : (dats (F := Ideal) m 0 c).arrAt 12 cfg0.N i = spec m c p r j := by
  obtain ⟨t, a, ha⟩ := point (i 0).val (i 0).isLt
  have hi : i = ((cfg0.win 12).blk t).view.emb (ix2 a b) := by
    blk_ext [idx t]
  have e := congrFun (blocks12 (F := Ideal) m c t (by simp only [flush t])) (ix2 a b)
  rw [flushed12] at e
  refine (congrArg ((dats (F := Ideal) m 0 c).arrAt 12 cfg0.N) hi).trans (e.trans ?_)
  unfold out0_12 k0_pay10
  show View.canon _ (ix2 a b) = _
  frame_out
  refine (pay1_apply _ a _ b).trans ?_
  exact sum_apply m c t a p r (h.trans ha) j _ fun k => (read_w m c t k j).2.2.1 b hj

/-- The values at an index. -/
theorem out13 (i : S16384x512.Idx) (p : Fin 2) (r : Fin 8192) (b : Fin 512) (j : Fin 3912) (h : 8192 * p.val + r.val = (i 0).val)
    (hb : b.val = (i 1).val) (hj : j.val = 2816 + b.val) : (dats (F := Ideal) m 0 c).arrAt 13 cfg0.N i = spec m c p r j := by
  obtain ⟨t, a, ha⟩ := point (i 0).val (i 0).isLt
  have hi : i = ((cfg0.win 13).blk t).view.emb (ix2 a b) := by
    blk_ext [idx t]
  have e := congrFun (blocks13 (F := Ideal) m c t (by simp only [flush t])) (ix2 a b)
  rw [flushed13] at e
  refine (congrArg ((dats (F := Ideal) m 0 c).arrAt 13 cfg0.N) hi).trans (e.trans ?_)
  unfold out0_13 k0_pay10
  show View.canon _ (ix2 a b) = _
  frame_out
  refine (pay2_apply _ a _ b).trans ?_
  exact sum_apply m c t a p r (h.trans ha) j _ fun k => (read_w m c t k j).2.2.2.1 b hj

/-- The index queries at an index. -/
theorem out14 (i : S16384x512.Idx) (p : Fin 2) (r : Fin 8192) (b : Fin 512) (j : Fin 3912) (h : 8192 * p.val + r.val = (i 0).val)
    (hb : b.val = (i 1).val) (hj : j.val = 3328 + b.val) : (dats (F := Ideal) m 0 c).arrAt 14 cfg0.N i = spec m c p r j := by
  obtain ⟨t, a, ha⟩ := point (i 0).val (i 0).isLt
  have hi : i = ((cfg0.win 14).blk t).view.emb (ix2 a b) := by
    blk_ext [idx t]
  have e := congrFun (blocks14 (F := Ideal) m c t (by simp only [flush t])) (ix2 a b)
  rw [flushed14] at e
  refine (congrArg ((dats (F := Ideal) m 0 c).arrAt 14 cfg0.N) hi).trans (e.trans ?_)
  unfold out0_14 k0_pay10
  show View.canon _ (ix2 a b) = _
  frame_out
  refine (pay3_apply _ a _ b).trans ?_
  exact sum_apply m c t a p r (h.trans ha) j _ fun k => (read_w m c t k j).2.2.2.2 b hj

/-- The index keys at an index. -/
theorem out15 (i : S16384x64.Idx) (p : Fin 2) (r : Fin 8192) (b : Fin 64) (j : Fin 3912) (h : 8192 * p.val + r.val = (i 0).val)
    (hb : b.val = (i 1).val) (hj : j.val = 3840 + b.val) : (dats (F := Ideal) m 0 c).arrAt 15 cfg0.N i = spec m c p r j := by
  obtain ⟨t, a, ha⟩ := point (i 0).val (i 0).isLt
  have hi : i = ((cfg0.win 15).blk t).view.emb (ix2 a b) := by
    blk_ext [idx t]
  have e := congrFun (blocks15 (F := Ideal) m c t (by simp only [flush t])) (ix2 a b)
  rw [flushed15] at e
  refine (congrArg ((dats (F := Ideal) m 0 c).arrAt 15 cfg0.N) hi).trans (e.trans ?_)
  unfold out0_15 k0_pay10
  show View.canon _ (ix2 a b) = _
  frame_out
  refine (pay5_apply _ a _ b).trans ?_
  exact sum_apply m c t a p r (h.trans ha) j _ fun k => read_w9 m c t k ⟨b.val, by omega⟩ (by show b.val < 72; omega) j hj

/-- The index weights at an index. -/
theorem out16 (i : S16384x8.Idx) (p : Fin 2) (r : Fin 8192) (b : Fin 8) (j : Fin 3912) (h : 8192 * p.val + r.val = (i 0).val)
    (hb : b.val = (i 1).val) (hj : j.val = 3904 + b.val) : (dats (F := Ideal) m 0 c).arrAt 16 cfg0.N i = spec m c p r j := by
  obtain ⟨t, a, ha⟩ := point (i 0).val (i 0).isLt
  have hi : i = ((cfg0.win 16).blk t).view.emb (ix2 a b) := by
    blk_ext [idx t]
  have e := congrFun (blocks16 (F := Ideal) m c t (by simp only [flush t])) (ix2 a b)
  rw [flushed16] at e
  refine (congrArg ((dats (F := Ideal) m 0 c).arrAt 16 cfg0.N) hi).trans (e.trans ?_)
  unfold out0_16 k0_pay10
  show View.canon _ (ix2 a b) = _
  frame_out
  refine (pay6_apply _ a _ b).trans ?_
  exact sum_apply m c t a p r (h.trans ha) j _ fun k => read_w9 m c t k ⟨64 + b.val, by omega⟩ (by show 64 + b.val < 72; omega) j (by show _ = 3840 + (64 + b.val); omega)

end Cert.Kernel2Ideal.InProj

end
-- ==== Proof.InProj.PromptReference.lean ====
module

public import proofs.«01_k».proof.Proof.InProj.Spec
public import proofs.«01_k».proof.Proof.InProj.Layout
public import proofs.«01_k».proof.Proof.Gen.Reference2Ideal.Read
public import Idealize.ShloMosaic.Lib.Pipeline.ValueKit
public import Idealize.ShloMosaic.Lib.Pointwise

/-! The reference's results of the input projection of the prompts at an index. -/

@[expose] public section

set_option maxRecDepth 16384

noncomputable section

namespace Cert.Reference2Ideal.InProj

open Idealize.ShloMosaic Idealize.ShloMosaic.TcCoe Idealize.SL.Sem
open Cert.Reference2Ideal Cert.Reference2Ideal.Gen Cert.Reference2Ideal.Read

variable (x : FVec Ideal S2x8192x1024 .f32) (g : FVec Ideal S1024 .f32) (sh sc : FVec Ideal S2x1024 .f32) (w : FVec Ideal S1024x3912 .f32)

/-- The normalized rows at an index. -/
theorem rows_apply (p : Fin 2) (r : Fin 8192) (k : Fin 1024) :
    val_main_v20 (F := Ideal) x g sh sc (ix3 p r k)
      = Cert.Spec.modRow (fun k => x (ix3 p r k)) (fun k => g (ix1 k)) (fun k => sh (ix2 p k)) (fun k => sc (ix2 p k)) k := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- The whole projection at an index. -/
theorem proj_apply (p : Fin 2) (r : Fin 8192) (j : Fin 3912) :
    val_main_v21 (F := Ideal) x g sh sc w (ix3 p r j) = Cert.Spec.promptProj x g sh sc w p r j := by
  unfold Cert.Spec.promptProj Cert.Spec.proj
  simp only [← rows_apply]
  pointwise [val_main_v21]

/-- The whole projection, its rows laid end to end, at an index. -/
theorem flat_apply (i : S16384x3912.Idx) (p : Fin 2) (r : Fin 8192) (j : Fin 3912) (h : 8192 * p.val + r.val = (i 0).val) (hj : j.val = (i 1).val) :
    val_main_v22 (F := Ideal) x g sh sc w i = Cert.Spec.promptProj x g sh sc w p r j := by
  rw [val_main_v22_apply, ← proj_apply]
  congr 1
  blk_ext

/-- A cut of the projection's columns at an index. -/
theorem out_apply {n off : ℕ} (hs : S16384x3912.Slices ![0, off] ⟨2, ![16384, n]⟩) (i : (⟨2, ![16384, n]⟩ : Shape).Idx) (p : Fin 2) (r : Fin 8192)
    (j : Fin 3912) (h : 8192 * p.val + r.val = (i 0).val) (hj : j.val = off + (i 1).val) :
    extractStridedSlice ⟨2, ![16384, n]⟩ ![0, off] (val_main_v22 (F := Ideal) x g sh sc w) hs i = Cert.Spec.promptProj x g sh sc w p r j :=
  (Cert.InProj.cut_apply _ hs i ⟨(i 0).val, (i 0).isLt⟩ j rfl hj).trans (flat_apply x g sh sc w _ p r j h rfl)

end Cert.Reference2Ideal.InProj

end
-- ==== Proof.InProj.PromptClaim.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.InProj.Prompt
public import proofs.«01_k».proof.Proof.InProj.PromptReference
public import Idealize.ShloMosaic.Adequacy
public import Idealize.ShloMosaic.Init
public import Idealize.ShloMosaic.Lib.Quiescent

/-! The claims of the input projection of the prompts. -/

@[expose] public section

noncomputable section

namespace Cert.Proof

open Idealize.ShloMosaic Idealize.ShloMosaic.TcCoe Idealize.SL.Sem

/-- The reference terminates, keeps its arguments and leaves no signal. -/
theorem quiescent_Reference2Ideal : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- On equal arguments, an array that holds the specified projection columns from `off` on is the reference's cut there. -/
theorem cut2_eq (m : (ℓ : Loc Cert.Kernel2Ideal.nD Cert.Kernel2Ideal.τ Cert.Kernel2Ideal.sig) → Buf (Elt Ideal) ℓ) (c : Dev Cert.Kernel2Ideal.nD)
    (x : FVec Ideal Cert.Reference2Ideal.S2x8192x1024 .f32) (g : FVec Ideal Cert.Reference2Ideal.S1024 .f32) (sh sc : FVec Ideal Cert.Reference2Ideal.S2x1024 .f32)
    (w : FVec Ideal Cert.Reference2Ideal.S1024x3912 .f32) (hx : x = m ((c : Thread Cert.Kernel2Ideal.nD Cert.Kernel2Ideal.τ).loc Cert.Kernel2Ideal.main_arg0))
    (hg : g = m ((c : Thread Cert.Kernel2Ideal.nD Cert.Kernel2Ideal.τ).loc Cert.Kernel2Ideal.main_arg1))
    (hsh : sh = m ((c : Thread Cert.Kernel2Ideal.nD Cert.Kernel2Ideal.τ).loc Cert.Kernel2Ideal.main_arg2))
    (hsc : sc = m ((c : Thread Cert.Kernel2Ideal.nD Cert.Kernel2Ideal.τ).loc Cert.Kernel2Ideal.main_arg3))
    (hw : w = m ((c : Thread Cert.Kernel2Ideal.nD Cert.Kernel2Ideal.τ).loc Cert.Kernel2Ideal.main_arg4)) (n off : ℕ) (hn : off + n ≤ 3912)
    (hs : Cert.Reference2Ideal.S16384x3912.Slices ![0, off] ⟨2, ![16384, n]⟩) (A : (⟨2, ![16384, n]⟩ : Shape).Idx → EReal)
    (hA : ∀ (i : (⟨2, ![16384, n]⟩ : Shape).Idx) (p : Fin 2) (r : Fin 8192) (b : Fin n) (j : Fin 3912), 8192 * p.val + r.val = (i 0).val → b.val = (i 1).val →
      j.val = off + b.val → A i = Cert.Kernel2Ideal.InProj.spec m c p r j) :
    extractStridedSlice ⟨2, ![16384, n]⟩ ![0, off] (Cert.Reference2Ideal.Read.val_main_v22 (F := Ideal) x g sh sc w) hs = A := by
  subst hx hg hsh hsc hw
  funext i
  have hb : off + (i 1).val < 3912 := Nat.lt_of_lt_of_le (Nat.add_lt_add_left (i 1).isLt off) hn
  have hi : 8192 * ((i 0).val / 8192) + (i 0).val % 8192 = (i 0).val := Nat.div_add_mod _ _
  exact (Cert.Reference2Ideal.InProj.out_apply _ _ _ _ _ hs i ⟨(i 0).val / 8192, Nat.div_lt_of_lt_mul (i 0).isLt⟩ ⟨(i 0).val % 8192, Nat.mod_lt _ (by decide)⟩
    ⟨off + (i 1).val, hb⟩ hi rfl).trans (hA i ⟨(i 0).val / 8192, Nat.div_lt_of_lt_mul (i 0).isLt⟩ ⟨(i 0).val % 8192, Nat.mod_lt _ (by decide)⟩ (i 1) _ hi rfl rfl).symm

/-- Kernel and reference compute the same projections over the extended reals. -/
theorem algebraic_Kernel2Ideal_Reference2Ideal : Cert.algebraic_Kernel2Ideal_Reference2Ideal := by
  intro m ρ m' ρ' _ hagree
  refine ⟨_, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨a0, a1, a2, a3, a4⟩ := hagree c
  have cut := cut2_eq m c _ _ _ _ _ a0 a1 a2 a3 a4
  have e0 := cut 1792 0 (by decide) Cert.Reference2Ideal.Gen.slices_S16384x3912_S16384x1792_0_0 _ (Cert.Kernel2Ideal.InProj.out10 m c)
  have e1 := cut 512 1792 (by decide) Cert.Reference2Ideal.Gen.slices_S16384x3912_S16384x512_0_1792 _ (Cert.Kernel2Ideal.InProj.out11 m c)
  have e2 := cut 512 2304 (by decide) Cert.Reference2Ideal.Gen.slices_S16384x3912_S16384x512_0_2304 _ (Cert.Kernel2Ideal.InProj.out12 m c)
  have e3 := cut 512 2816 (by decide) Cert.Reference2Ideal.Gen.slices_S16384x3912_S16384x512_0_2816 _ (Cert.Kernel2Ideal.InProj.out13 m c)
  have e4 := cut 512 3328 (by decide) Cert.Reference2Ideal.Gen.slices_S16384x3912_S16384x512_0_3328 _ (Cert.Kernel2Ideal.InProj.out14 m c)
  have e5 := cut 64 3840 (by decide) Cert.Reference2Ideal.Gen.slices_S16384x3912_S16384x64_0_3840 _ (Cert.Kernel2Ideal.InProj.out15 m c)
  have e6 := cut 8 3904 (by decide) Cert.Reference2Ideal.Gen.slices_S16384x3912_S16384x8_0_3904 _ (Cert.Kernel2Ideal.InProj.out16 m c)
  clear cut a0 a1 a2 a3 a4
  obtain ⟨h0, h1, h2, h3, h4, h5, h6, hk⟩ := h c
  exact ⟨(h0.trans (Cert.Reference2Ideal.Read.val_main_v23_eq ..)).trans e0,
    (h1.trans (Cert.Reference2Ideal.Read.val_main_v30_eq ..)).trans e1,
    (h2.trans (Cert.Reference2Ideal.Read.val_main_v25_eq ..)).trans e2,
    (h3.trans (Cert.Reference2Ideal.Read.val_main_v26_eq ..)).trans e3,
    (h4.trans (Cert.Reference2Ideal.Read.val_main_v31_eq ..)).trans e4,
    (h5.trans (Cert.Reference2Ideal.Read.val_main_v28_eq ..)).trans e5,
    (h6.trans (Cert.Reference2Ideal.Read.val_main_v29_eq ..)).trans e6, hk⟩

end Cert.Proof

end
-- ==== Proof.InProj.Sample.lean ====
module

public import proofs.«01_k».proof.Proof.Gen.Kernel3Ideal.Value
public import proofs.«01_k».proof.Proof.InProj.Spec
public import proofs.«01_k».proof.Proof.InProj.Layout
public import Idealize.ShloMosaic.Lib.Pipeline.ValueKit
public import Idealize.ShloMosaic.Lib.Pipeline.ReadBack
public import Idealize.ShloMosaic.Lib.Pointwise
public import Idealize.ShloMosaic.PureOps.Ideal.Laws

/-! The input projection of the samples, its seven results at an index: one grid point writes every row. -/

@[expose] public section

set_option maxRecDepth 16384

noncomputable section

namespace Cert.Kernel3Ideal.InProj

open Idealize.ShloMosaic Idealize.ShloMosaic.TcCoe Idealize.SL.Sem
open Cert.Kernel3Ideal Cert.Kernel3Ideal.Gen Cert.Kernel3Ideal.Value Cert.InProj

/-- The block every window reads or writes. -/
theorem idx : ∀ t : Fin cfg0.N,
    win0_0.index t = ![0, 0] ∧ win0_1.index t = ![0, 0] ∧ win0_2.index t = ![0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

/-- The point writes each of the results back. -/
theorem flush : ∀ t : Fin cfg0.N,
    (cfg0.win 10).flush t = true ∧ (cfg0.win 11).flush t = true ∧ (cfg0.win 12).flush t = true ∧ (cfg0.win 13).flush t = true
    ∧ (cfg0.win 14).flush t = true ∧ (cfg0.win 15).flush t = true ∧ (cfg0.win 16).flush t = true :=
  (by decide +kernel : ∀ t : Fin grid0.N, _)

/-- The only point. -/
def point : Fin cfg0.N := ⟨0, by decide⟩

/-- A modulation row of each sample, with a leading axis of one, at an index. -/
theorem cast_mod (x : FVec Ideal S128x1024 .f32) (a : Fin 1) (a' : Fin 128) (b : Fin 1024) :
    shapeCast S1x128x1024 x shapeCasts_S128x1024_S1x128x1024 (ix3 a a' b) = x (ix2 a' b) :=
  shapeCast_apply x shapeCasts_S128x1024_S1x128x1024 (ix3 a a' b) (ix2 a' b) (by
    rewrite [Shape.rowMajor_val_three, Shape.rowMajor_val_two]
    show a'.val * 1024 + b.val = (a.val * 128 + a'.val) * 1024 + b.val
    omega)

/-- The normalized rows at an index. -/
theorem pay7_apply (x : Vec Ideal S128x1024 .f32) (g : Vec Ideal S1x1024 .f32) (sh sc : Vec Ideal S1x128x1024 .f32)
    (a : Fin 128) (b : Fin 1024) :
    k0_pay7 (F := Ideal) x g sh sc (ix2 a b)
      = Cert.Spec.modRow (fun k => x (ix2 a k)) (fun k => g (ix2 0 k)) (fun k => sh (ix3 0 a k)) (fun k => sc (ix3 0 a k)) b := by
  pointwise [k0_pay7]
  rfl

section
variable (x : Vec Ideal S128x1024 .f32) (g : Vec Ideal S1x1024 .f32) (sh sc : Vec Ideal S1x128x1024 .f32)
  (h : FVec Ideal S128x1024 .bf16) (a : Fin 128)

/-- The first product at an index. -/
theorem pay8_apply (w : Vec Ideal S1024x1792 .bf16) (b : Fin 1792) :
    k0_pay8 (F := Ideal) x g sh sc w (ix2 a b) = ∑ k, k0_pay7 (F := Ideal) x g sh sc (ix2 a k) * w (ix2 k b) := by
  pointwise [k0_pay8]

/-- The second product at an index. -/
theorem pay9_apply (w : Vec Ideal S1024x512 .bf16) (b : Fin 512) :
    k0_pay9 (F := Ideal) x g sh sc w (ix2 a b) = ∑ k, k0_pay7 (F := Ideal) x g sh sc (ix2 a k) * w (ix2 k b) := by
  pointwise [k0_pay9]

/-- The third product at an index. -/
theorem pay1_apply (w : Vec Ideal S1024x512 .bf16) (b : Fin 512) :
    k0_pay1 (F := Ideal) h w (ix2 a b) = ∑ k, h (ix2 a k) * w (ix2 k b) := by
  pointwise [k0_pay1]

/-- The fourth product at an index. -/
theorem pay2_apply (w : Vec Ideal S1024x512 .bf16) (b : Fin 512) :
    k0_pay2 (F := Ideal) h w (ix2 a b) = ∑ k, h (ix2 a k) * w (ix2 k b) := by
  pointwise [k0_pay2]

/-- The fifth product at an index. -/
theorem pay3_apply (w : Vec Ideal S1024x512 .bf16) (b : Fin 512) :
    k0_pay3 (F := Ideal) h w (ix2 a b) = ∑ k, h (ix2 a k) * w (ix2 k b) := by
  pointwise [k0_pay3]

/-- The first 64 columns of the last product at an index. -/
theorem pay5_apply (w : Vec Ideal S1024x128 .bf16) (b : Fin 64) :
    k0_pay5 (F := Ideal) h w (ix2 a b) = ∑ k, h (ix2 a k) * w (ix2 k ⟨b.val, by omega⟩) := by
  pointwise [k0_pay5, k0_pay4]

/-- The next 8 columns of the last product at an index. -/
theorem pay6_apply (w : Vec Ideal S1024x128 .bf16) (b : Fin 8) :
    k0_pay6 (F := Ideal) h w (ix2 a b) = ∑ k, h (ix2 a k) * w (ix2 k ⟨64 + b.val, by omega⟩) := by
  pointwise [k0_pay6, k0_pay4]

end

variable (m : (ℓ : Loc nD τ sig) → Buf (Elt Ideal) ℓ) (c : Dev nD) (t : Fin cfg0.N)

/-- The rows. -/
theorem read_x (a : Fin 128) (b : Fin 1024) : iblk (F := Ideal) m c 0 t (ix2 a b) = m ((c : Thread nD τ).loc main_arg0) (ix3 a 0 b) := by
  show V m c main_v0 (((cfg0.win 0).blk t).view.emb (ix2 a b)) = _
  have e : V (F := Ideal) m c main_v0 = shapeCast S128x1024 (m ((c : Thread nD τ).loc main_arg0)) shapeCasts_S128x1x1024_S128x1024 := by
    unfold V
    entry_read
    rfl
  rw [e]
  pointwise
  blk_ext [iblk, idx t]

/-- The gain of the norm. -/
theorem read_norm (a : Fin 1) (b : Fin 1024) : iblk (F := Ideal) m c 1 t (ix2 a b) = m ((c : Thread nD τ).loc main_arg1) (ix1 b) := by
  show V m c main_v3 (((cfg0.win 1).blk t).view.emb (ix2 a b)) = _
  have e : V (F := Ideal) m c main_v3 = shapeCast S1x1024 (m ((c : Thread nD τ).loc main_arg1)) shapeCasts_S1024_S1x1024 := by
    unfold V
    entry_read
    rfl
  rw [e]
  pointwise
  blk_ext [iblk, idx t]

/-- The shift of a sample. -/
theorem read_shift (a : Fin 1) (a' : Fin 128) (b : Fin 1024) : iblk (F := Ideal) m c 2 t (ix3 a a' b) = m ((c : Thread nD τ).loc main_arg2) (ix2 a' b) := by
  show V m c main_v1 (((cfg0.win 2).blk t).view.emb (ix3 a a' b)) = _
  have e : V (F := Ideal) m c main_v1 = shapeCast S1x128x1024 (m ((c : Thread nD τ).loc main_arg2)) shapeCasts_S128x1024_S1x128x1024 := by
    unfold V
    entry_read
    rfl
  rw [e, show ((cfg0.win 2).blk t).view.emb (ix3 a a' b) = ix3 a a' b from by blk_ext [idx t]]
  exact cast_mod _ a a' b

/-- Its scale. -/
theorem read_scale (a : Fin 1) (a' : Fin 128) (b : Fin 1024) : iblk (F := Ideal) m c 3 t (ix3 a a' b) = m ((c : Thread nD τ).loc main_arg3) (ix2 a' b) := by
  show V m c main_v2 (((cfg0.win 3).blk t).view.emb (ix3 a a' b)) = _
  have e : V (F := Ideal) m c main_v2 = shapeCast S1x128x1024 (m ((c : Thread nD τ).loc main_arg3)) shapeCasts_S128x1024_S1x128x1024 := by
    unfold V
    entry_read
    rfl
  rw [e, show ((cfg0.win 3).blk t).view.emb (ix3 a a' b) = ix3 a a' b from by blk_ext [idx t]]
  exact cast_mod _ a a' b

/-- The first five weights behind the operands: columns from 0, 1792, 2304, 2816 and 3328. -/
theorem V_w :
    V (F := Ideal) m c main_v5 = (truncf (F := Ideal) .bf16 (extractStridedSlice S1024x1792 ![0, 0]
      (m ((c : Thread nD τ).loc main_arg4) : FVec Ideal S1024x3912 .f32) slices_S1024x3912_S1024x1792_0_0) bitsLt_bf16_f32 : FVec Ideal S1024x1792 .bf16)
    ∧ V (F := Ideal) m c main_v7 = (truncf (F := Ideal) .bf16 (extractStridedSlice S1024x512 ![0, 1792]
      (m ((c : Thread nD τ).loc main_arg4) : FVec Ideal S1024x3912 .f32) slices_S1024x3912_S1024x512_0_1792) bitsLt_bf16_f32 : FVec Ideal S1024x512 .bf16)
    ∧ V (F := Ideal) m c main_v9 = (truncf (F := Ideal) .bf16 (extractStridedSlice S1024x512 ![0, 2304]
      (m ((c : Thread nD τ).loc main_arg4) : FVec Ideal S1024x3912 .f32) slices_S1024x3912_S1024x512_0_2304) bitsLt_bf16_f32 : FVec Ideal S1024x512 .bf16)
    ∧ V (F := Ideal) m c main_v11 = (truncf (F := Ideal) .bf16 (extractStridedSlice S1024x512 ![0, 2816]
      (m ((c : Thread nD τ).loc main_arg4) : FVec Ideal S1024x3912 .f32) slices_S1024x3912_S1024x512_0_2816) bitsLt_bf16_f32 : FVec Ideal S1024x512 .bf16)
    ∧ V (F := Ideal) m c main_v13 = (truncf (F := Ideal) .bf16 (extractStridedSlice S1024x512 ![0, 3328]
      (m ((c : Thread nD τ).loc main_arg4) : FVec Ideal S1024x3912 .f32) slices_S1024x3912_S1024x512_0_3328) bitsLt_bf16_f32 : FVec Ideal S1024x512 .bf16) := by
  refine ⟨?_, ?_, ?_, ?_, ?_⟩ <;>
  · unfold V
    simp only [hostOps0, hostOps0_1, hostOps0_2, List.flatten_cons, List.flatten_nil, List.append_nil, List.cons_append, List.nil_append]
    entry_read
    rfl

/-- The first five weights, as a point reads them. -/
theorem read_w (k : Fin 1024) (j : Fin 3912) :
    (∀ b : Fin 1792, j.val = 0 + b.val → iblk (F := Ideal) m c 4 t (ix2 k b) = m ((c : Thread nD τ).loc main_arg4) (ix2 k j))
    ∧ (∀ b : Fin 512, j.val = 1792 + b.val → iblk (F := Ideal) m c 5 t (ix2 k b) = m ((c : Thread nD τ).loc main_arg4) (ix2 k j))
    ∧ (∀ b : Fin 512, j.val = 2304 + b.val → iblk (F := Ideal) m c 6 t (ix2 k b) = m ((c : Thread nD τ).loc main_arg4) (ix2 k j))
    ∧ (∀ b : Fin 512, j.val = 2816 + b.val → iblk (F := Ideal) m c 7 t (ix2 k b) = m ((c : Thread nD τ).loc main_arg4) (ix2 k j))
    ∧ (∀ b : Fin 512, j.val = 3328 + b.val → iblk (F := Ideal) m c 8 t (ix2 k b) = m ((c : Thread nD τ).loc main_arg4) (ix2 k j)) := by
  refine ⟨?_, ?_, ?_, ?_, ?_⟩ <;> intro b h
  · show V m c main_v5 (((cfg0.win 4).blk t).view.emb (ix2 k b)) = _
    rw [(V_w m c).1, show ((cfg0.win 4).blk t).view.emb (ix2 k b) = ix2 k b from by blk_ext [idx t]]
    exact cut_apply _ slices_S1024x3912_S1024x1792_0_0 (ix2 k b) k j rfl h
  · show V m c main_v7 (((cfg0.win 5).blk t).view.emb (ix2 k b)) = _
    rw [(V_w m c).2.1, show ((cfg0.win 5).blk t).view.emb (ix2 k b) = ix2 k b from by blk_ext [idx t]]
    exact cut_apply _ slices_S1024x3912_S1024x512_0_1792 (ix2 k b) k j rfl h
  · show V m c main_v9 (((cfg0.win 6).blk t).view.emb (ix2 k b)) = _
    rw [(V_w m c).2.2.1, show ((cfg0.win 6).blk t).view.emb (ix2 k b) = ix2 k b from by blk_ext [idx t]]
    exact cut_apply _ slices_S1024x3912_S1024x512_0_2304 (ix2 k b) k j rfl h
  · show V m c main_v11 (((cfg0.win 7).blk t).view.emb (ix2 k b)) = _
    rw [(V_w m c).2.2.2.1, show ((cfg0.win 7).blk t).view.emb (ix2 k b) = ix2 k b from by blk_ext [idx t]]
    exact cut_apply _ slices_S1024x3912_S1024x512_0_2816 (ix2 k b) k j rfl h
  · show V m c main_v13 (((cfg0.win 8).blk t).view.emb (ix2 k b)) = _
    rw [(V_w m c).2.2.2.2, show ((cfg0.win 8).blk t).view.emb (ix2 k b) = ix2 k b from by blk_ext [idx t]]
    exact cut_apply _ slices_S1024x3912_S1024x512_0_3328 (ix2 k b) k j rfl h

/-- The last weights: columns from 3840. -/
theorem read_w9 (k : Fin 1024) (b : Fin 128) (hb : b.val < 72) (j : Fin 3912) (h : j.val = 3840 + b.val) :
    iblk (F := Ideal) m c 9 t (ix2 k b) = m ((c : Thread nD τ).loc main_arg4) (ix2 k j) := by
  show V m c main_v16 (((cfg0.win 9).blk t).view.emb (ix2 k b)) = _
  have e : V (F := Ideal) m c main_v16 = (truncf (F := Ideal) .bf16 (pad S1024x128 ![0, 0] ![0, 56] ![0, 0]
      (extractStridedSlice S1024x72 ![0, 3840] (m ((c : Thread nD τ).loc main_arg4) : FVec Ideal S1024x3912 .f32) slices_S1024x3912_S1024x72_0_3840)
      (sitofp (F := Ideal) .f32 (constantI S_ 32 0#32)) pads_S1024x72_S1024x128_000_0560 h_S_) bitsLt_bf16_f32 : FVec Ideal S1024x128 .bf16) := by
    unfold V
    simp only [hostOps0, hostOps0_1, hostOps0_2, List.flatten_cons, List.flatten_nil, List.append_nil, List.cons_append, List.nil_append]
    entry_read
    rfl
  rw [e, show ((cfg0.win 9).blk t).view.emb (ix2 k b) = ix2 k b from by blk_ext [idx t]]
  exact (pad_apply _ _ k b hb pads_S1024x72_S1024x128_000_0560 h_S_).trans (cut_apply _ slices_S1024x3912_S1024x72_0_3840 (ix2 k ⟨b.val, hb⟩) k j rfl h)

/-- The normalized rows of a point. -/
theorem rows_apply (a : Fin 128) (k : Fin 1024) :
    k0_pay7 (F := Ideal) (iblk m c 0 t) (iblk m c 1 t) (iblk m c 2 t) (iblk m c 3 t) (ix2 a k)
      = Cert.Spec.modRow (fun k => m ((c : Thread nD τ).loc main_arg0) (ix3 a 0 k)) (fun k => m ((c : Thread nD τ).loc main_arg1) (ix1 k))
          (fun k => m ((c : Thread nD τ).loc main_arg2) (ix2 a k)) (fun k => m ((c : Thread nD τ).loc main_arg3) (ix2 a k)) k := by
  refine (pay7_apply _ _ _ _ a k).trans ?_
  simp only [read_x, read_norm, read_shift, read_scale]

/-- The projection's columns over the arguments that memory `m` holds. -/
def spec (a : Fin 128) (j : Fin 3912) : EReal :=
  Cert.Spec.sampleProj (m ((c : Thread nD τ).loc main_arg0)) (m ((c : Thread nD τ).loc main_arg1)) (m ((c : Thread nD τ).loc main_arg2))
    (m ((c : Thread nD τ).loc main_arg3)) (m ((c : Thread nD τ).loc main_arg4)) a j

/-- A product of the normalized rows and a column of the weights is a column of the projection. -/
theorem sum_apply (a : Fin 128) (j : Fin 3912) (w : Fin 1024 → EReal)
    (hw : ∀ k, w k = m ((c : Thread nD τ).loc main_arg4) (ix2 k j)) :
    (∑ k, k0_pay7 (F := Ideal) (iblk m c 0 t) (iblk m c 1 t) (iblk m c 2 t) (iblk m c 3 t) (ix2 a k) * w k) = spec m c a j := by
  unfold spec Cert.Spec.sampleProj Cert.Spec.proj
  exact Finset.sum_congr rfl fun k _ => by rw [rows_apply m c t a, hw]

/-- The first result at an index. -/
theorem out10 (i : S128x1792.Idx) (a : Fin 128) (b : Fin 1792) (j : Fin 3912) (ha : a.val = (i 0).val)
    (hb : b.val = (i 1).val) (hj : j.val = 0 + b.val) : (dats (F := Ideal) m 0 c).arrAt 10 cfg0.N i = spec m c a j := by
  have hi : i = ((cfg0.win 10).blk point).view.emb (ix2 a b) := by
    blk_ext [idx point]
  have e := congrFun (blocks10 (F := Ideal) m c point (by simp only [flush point])) (ix2 a b)
  rw [flushed10] at e
  refine (congrArg ((dats (F := Ideal) m 0 c).arrAt 10 cfg0.N) hi).trans (e.trans ?_)
  unfold out0_10
  show View.canon _ (ix2 a b) = _
  frame_out
  refine (pay8_apply _ _ _ _ a _ b).trans ?_
  exact sum_apply m c point a j _ fun k => (read_w m c point k j).1 b hj

/-- The queries at an index. -/
theorem out11 (i : S128x512.Idx) (a : Fin 128) (b : Fin 512) (j : Fin 3912) (ha : a.val = (i 0).val)
    (hb : b.val = (i 1).val) (hj : j.val = 1792 + b.val) : (dats (F := Ideal) m 0 c).arrAt 11 cfg0.N i = spec m c a j := by
  have hi : i = ((cfg0.win 11).blk point).view.emb (ix2 a b) := by
    blk_ext [idx point]
  have e := congrFun (blocks11 (F := Ideal) m c point (by simp only [flush point])) (ix2 a b)
  rw [flushed11] at e
  refine (congrArg ((dats (F := Ideal) m 0 c).arrAt 11 cfg0.N) hi).trans (e.trans ?_)
  unfold out0_11
  show View.canon _ (ix2 a b) = _
  frame_out
  refine (pay9_apply _ _ _ _ a _ b).trans ?_
  exact sum_apply m c point a j _ fun k => (read_w m c point k j).2.1 b hj

/-- The keys at an index. -/
theorem out12 (i : S128x512.Idx) (a : Fin 128) (b : Fin 512) (j : Fin 3912) (ha : a.val = (i 0).val)
    (hb : b.val = (i 1).val) (hj : j.val = 2304 + b.val) : (dats (F := Ideal) m 0 c).arrAt 12 cfg0.N i = spec m c a j := by
  have hi : i = ((cfg0.win 12).blk point).view.emb (ix2 a b) := by
    blk_ext [idx point]
  have e := congrFun (blocks12 (F := Ideal) m c point (by simp only [flush point])) (ix2 a b)
  rw [flushed12] at e
  refine (congrArg ((dats (F := Ideal) m 0 c).arrAt 12 cfg0.N) hi).trans (e.trans ?_)
  unfold out0_12 k0_pay10
  show View.canon _ (ix2 a b) = _
  frame_out
  refine (pay1_apply _ a _ b).trans ?_
  exact sum_apply m c point a j _ fun k => (read_w m c point k j).2.2.1 b hj

/-- The values at an index. -/
theorem out13 (i : S128x512.Idx) (a : Fin 128) (b : Fin 512) (j : Fin 3912) (ha : a.val = (i 0).val)
    (hb : b.val = (i 1).val) (hj : j.val = 2816 + b.val) : (dats (F := Ideal) m 0 c).arrAt 13 cfg0.N i = spec m c a j := by
  have hi : i = ((cfg0.win 13).blk point).view.emb (ix2 a b) := by
    blk_ext [idx point]
  have e := congrFun (blocks13 (F := Ideal) m c point (by simp only [flush point])) (ix2 a b)
  rw [flushed13] at e
  refine (congrArg ((dats (F := Ideal) m 0 c).arrAt 13 cfg0.N) hi).trans (e.trans ?_)
  unfold out0_13 k0_pay10
  show View.canon _ (ix2 a b) = _
  frame_out
  refine (pay2_apply _ a _ b).trans ?_
  exact sum_apply m c point a j _ fun k => (read_w m c point k j).2.2.2.1 b hj

/-- The index queries at an index. -/
theorem out14 (i : S128x512.Idx) (a : Fin 128) (b : Fin 512) (j : Fin 3912) (ha : a.val = (i 0).val)
    (hb : b.val = (i 1).val) (hj : j.val = 3328 + b.val) : (dats (F := Ideal) m 0 c).arrAt 14 cfg0.N i = spec m c a j := by
  have hi : i = ((cfg0.win 14).blk point).view.emb (ix2 a b) := by
    blk_ext [idx point]
  have e := congrFun (blocks14 (F := Ideal) m c point (by simp only [flush point])) (ix2 a b)
  rw [flushed14] at e
  refine (congrArg ((dats (F := Ideal) m 0 c).arrAt 14 cfg0.N) hi).trans (e.trans ?_)
  unfold out0_14 k0_pay10
  show View.canon _ (ix2 a b) = _
  frame_out
  refine (pay3_apply _ a _ b).trans ?_
  exact sum_apply m c point a j _ fun k => (read_w m c point k j).2.2.2.2 b hj

/-- The index keys at an index. -/
theorem out15 (i : S128x64.Idx) (a : Fin 128) (b : Fin 64) (j : Fin 3912) (ha : a.val = (i 0).val)
    (hb : b.val = (i 1).val) (hj : j.val = 3840 + b.val) : (dats (F := Ideal) m 0 c).arrAt 15 cfg0.N i = spec m c a j := by
  have hi : i = ((cfg0.win 15).blk point).view.emb (ix2 a b) := by
    blk_ext [idx point]
  have e := congrFun (blocks15 (F := Ideal) m c point (by simp only [flush point])) (ix2 a b)
  rw [flushed15] at e
  refine (congrArg ((dats (F := Ideal) m 0 c).arrAt 15 cfg0.N) hi).trans (e.trans ?_)
  unfold out0_15 k0_pay10
  show View.canon _ (ix2 a b) = _
  frame_out
  refine (pay5_apply _ a _ b).trans ?_
  exact sum_apply m c point a j _ fun k => read_w9 m c point k ⟨b.val, by omega⟩ (by show b.val < 72; omega) j hj

/-- The index weights at an index. -/
theorem out16 (i : S128x8.Idx) (a : Fin 128) (b : Fin 8) (j : Fin 3912) (ha : a.val = (i 0).val)
    (hb : b.val = (i 1).val) (hj : j.val = 3904 + b.val) : (dats (F := Ideal) m 0 c).arrAt 16 cfg0.N i = spec m c a j := by
  have hi : i = ((cfg0.win 16).blk point).view.emb (ix2 a b) := by
    blk_ext [idx point]
  have e := congrFun (blocks16 (F := Ideal) m c point (by simp only [flush point])) (ix2 a b)
  rw [flushed16] at e
  refine (congrArg ((dats (F := Ideal) m 0 c).arrAt 16 cfg0.N) hi).trans (e.trans ?_)
  unfold out0_16 k0_pay10
  show View.canon _ (ix2 a b) = _
  frame_out
  refine (pay6_apply _ a _ b).trans ?_
  exact sum_apply m c point a j _ fun k => read_w9 m c point k ⟨64 + b.val, by omega⟩ (by show 64 + b.val < 72; omega) j (by show _ = 3840 + (64 + b.val); omega)

end Cert.Kernel3Ideal.InProj

end
-- ==== Proof.InProj.SampleReference.lean ====
module

public import proofs.«01_k».proof.Proof.InProj.Spec
public import proofs.«01_k».proof.Proof.InProj.Layout
public import proofs.«01_k».proof.Proof.Gen.Reference3Ideal.Read
public import Idealize.ShloMosaic.Lib.Pipeline.ValueKit
public import Idealize.ShloMosaic.Lib.Pointwise

/-! The reference's results of the input projection of the samples at an index. -/

@[expose] public section

set_option maxRecDepth 16384

noncomputable section

namespace Cert.Reference3Ideal.InProj

open Idealize.ShloMosaic Idealize.ShloMosaic.TcCoe Idealize.SL.Sem
open Cert.Reference3Ideal Cert.Reference3Ideal.Gen Cert.Reference3Ideal.Read

variable (x : FVec Ideal S128x1x1024 .f32) (g : FVec Ideal S1024 .f32) (sh sc : FVec Ideal S128x1024 .f32) (w : FVec Ideal S1024x3912 .f32)

/-- The normalized rows at an index. -/
theorem rows_apply (a : Fin 128) (k : Fin 1024) :
    val_main_v18 (F := Ideal) x g sh sc (ix3 a 0 k)
      = Cert.Spec.modRow (fun k => x (ix3 a 0 k)) (fun k => g (ix1 k)) (fun k => sh (ix2 a k)) (fun k => sc (ix2 a k)) k := by
  pointwise [val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- The whole projection at an index. -/
theorem proj_apply (a : Fin 128) (j : Fin 3912) :
    val_main_v19 (F := Ideal) x g sh sc w (ix3 a 0 j) = Cert.Spec.sampleProj x g sh sc w a j := by
  unfold Cert.Spec.sampleProj Cert.Spec.proj
  simp only [← rows_apply]
  pointwise [val_main_v19]

/-- The whole projection, its rows laid end to end, at an index. -/
theorem flat_apply (i : S128x3912.Idx) (a : Fin 128) (j : Fin 3912) (h : a.val = (i 0).val) (hj : j.val = (i 1).val) :
    val_main_v20 (F := Ideal) x g sh sc w i = Cert.Spec.sampleProj x g sh sc w a j := by
  rw [val_main_v20_apply, ← proj_apply]
  congr 1
  blk_ext

/-- A cut of the projection's columns at an index. -/
theorem out_apply {n off : ℕ} (hs : S128x3912.Slices ![0, off] ⟨2, ![128, n]⟩) (i : (⟨2, ![128, n]⟩ : Shape).Idx) (a : Fin 128)
    (j : Fin 3912) (h : a.val = (i 0).val) (hj : j.val = off + (i 1).val) :
    extractStridedSlice ⟨2, ![128, n]⟩ ![0, off] (val_main_v20 (F := Ideal) x g sh sc w) hs i = Cert.Spec.sampleProj x g sh sc w a j :=
  (Cert.InProj.cut_apply _ hs i ⟨(i 0).val, (i 0).isLt⟩ j rfl hj).trans (flat_apply x g sh sc w _ a j h rfl)

end Cert.Reference3Ideal.InProj

end
-- ==== Proof.InProj.SampleClaim.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.InProj.Sample
public import proofs.«01_k».proof.Proof.InProj.SampleReference
public import Idealize.ShloMosaic.Adequacy
public import Idealize.ShloMosaic.Init
public import Idealize.ShloMosaic.Lib.Quiescent

/-! The claims of the input projection of the samples. -/

@[expose] public section

noncomputable section

namespace Cert.Proof

open Idealize.ShloMosaic Idealize.ShloMosaic.TcCoe Idealize.SL.Sem

/-- The reference terminates, keeps its arguments and leaves no signal. -/
theorem quiescent_Reference3Ideal : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- On equal arguments, an array that holds the specified projection columns from `off` on is the reference's cut there. -/
theorem cut3_eq (m : (ℓ : Loc Cert.Kernel3Ideal.nD Cert.Kernel3Ideal.τ Cert.Kernel3Ideal.sig) → Buf (Elt Ideal) ℓ) (c : Dev Cert.Kernel3Ideal.nD)
    (x : FVec Ideal Cert.Reference3Ideal.S128x1x1024 .f32) (g : FVec Ideal Cert.Reference3Ideal.S1024 .f32) (sh sc : FVec Ideal Cert.Reference3Ideal.S128x1024 .f32)
    (w : FVec Ideal Cert.Reference3Ideal.S1024x3912 .f32) (hx : x = m ((c : Thread Cert.Kernel3Ideal.nD Cert.Kernel3Ideal.τ).loc Cert.Kernel3Ideal.main_arg0))
    (hg : g = m ((c : Thread Cert.Kernel3Ideal.nD Cert.Kernel3Ideal.τ).loc Cert.Kernel3Ideal.main_arg1))
    (hsh : sh = m ((c : Thread Cert.Kernel3Ideal.nD Cert.Kernel3Ideal.τ).loc Cert.Kernel3Ideal.main_arg2))
    (hsc : sc = m ((c : Thread Cert.Kernel3Ideal.nD Cert.Kernel3Ideal.τ).loc Cert.Kernel3Ideal.main_arg3))
    (hw : w = m ((c : Thread Cert.Kernel3Ideal.nD Cert.Kernel3Ideal.τ).loc Cert.Kernel3Ideal.main_arg4)) (n off : ℕ) (hn : off + n ≤ 3912)
    (hs : Cert.Reference3Ideal.S128x3912.Slices ![0, off] ⟨2, ![128, n]⟩) (A : (⟨2, ![128, n]⟩ : Shape).Idx → EReal)
    (hA : ∀ (i : (⟨2, ![128, n]⟩ : Shape).Idx) (a : Fin 128) (b : Fin n) (j : Fin 3912), a.val = (i 0).val → b.val = (i 1).val →
      j.val = off + b.val → A i = Cert.Kernel3Ideal.InProj.spec m c a j) :
    extractStridedSlice ⟨2, ![128, n]⟩ ![0, off] (Cert.Reference3Ideal.Read.val_main_v20 (F := Ideal) x g sh sc w) hs = A := by
  subst hx hg hsh hsc hw
  funext i
  have hb : off + (i 1).val < 3912 := Nat.lt_of_lt_of_le (Nat.add_lt_add_left (i 1).isLt off) hn
  exact (Cert.Reference3Ideal.InProj.out_apply _ _ _ _ _ hs i (i 0)
    ⟨off + (i 1).val, hb⟩ rfl rfl).trans (hA i (i 0) (i 1) _ rfl rfl rfl).symm

/-- Kernel and reference compute the same projections over the extended reals. -/
theorem algebraic_Kernel3Ideal_Reference3Ideal : Cert.algebraic_Kernel3Ideal_Reference3Ideal := by
  intro m ρ m' ρ' _ hagree
  refine ⟨_, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨a0, a1, a2, a3, a4⟩ := hagree c
  have cut := cut3_eq m c _ _ _ _ _ a0 a1 a2 a3 a4
  have e0 := cut 1792 0 (by decide) Cert.Reference3Ideal.Gen.slices_S128x3912_S128x1792_0_0 _ (Cert.Kernel3Ideal.InProj.out10 m c)
  have e1 := cut 512 1792 (by decide) Cert.Reference3Ideal.Gen.slices_S128x3912_S128x512_0_1792 _ (Cert.Kernel3Ideal.InProj.out11 m c)
  have e2 := cut 512 2304 (by decide) Cert.Reference3Ideal.Gen.slices_S128x3912_S128x512_0_2304 _ (Cert.Kernel3Ideal.InProj.out12 m c)
  have e3 := cut 512 2816 (by decide) Cert.Reference3Ideal.Gen.slices_S128x3912_S128x512_0_2816 _ (Cert.Kernel3Ideal.InProj.out13 m c)
  have e4 := cut 512 3328 (by decide) Cert.Reference3Ideal.Gen.slices_S128x3912_S128x512_0_3328 _ (Cert.Kernel3Ideal.InProj.out14 m c)
  have e5 := cut 64 3840 (by decide) Cert.Reference3Ideal.Gen.slices_S128x3912_S128x64_0_3840 _ (Cert.Kernel3Ideal.InProj.out15 m c)
  have e6 := cut 8 3904 (by decide) Cert.Reference3Ideal.Gen.slices_S128x3912_S128x8_0_3904 _ (Cert.Kernel3Ideal.InProj.out16 m c)
  clear cut a0 a1 a2 a3 a4
  obtain ⟨h0, h1, h2, h3, h4, h5, h6, hk⟩ := h c
  exact ⟨(h0.trans (Cert.Reference3Ideal.Read.val_main_v21_eq ..)).trans e0,
    (h1.trans (Cert.Reference3Ideal.Read.val_main_v28_eq ..)).trans e1,
    (h2.trans (Cert.Reference3Ideal.Read.val_main_v23_eq ..)).trans e2,
    (h3.trans (Cert.Reference3Ideal.Read.val_main_v24_eq ..)).trans e3,
    (h4.trans (Cert.Reference3Ideal.Read.val_main_v29_eq ..)).trans e4,
    (h5.trans (Cert.Reference3Ideal.Read.val_main_v26_eq ..)).trans e5,
    (h6.trans (Cert.Reference3Ideal.Read.val_main_v27_eq ..)).trans e6, hk⟩

end Cert.Proof

end
-- ==== Proof.Dense.Spec.lean ====
module

public import proofs.«01_k».proof.Proof.Moe.Spec

/-! The dense feed-forward layer, at one token and one column. -/

@[expose] public section

noncomputable section

namespace Cert.Spec

open Idealize.ShloMosaic

/-- The hidden column `q` of the layer at token `r` of prompt `p`, over the argument arrays. -/
def denseCol (x : FVec Ideal ⟨3, ![2, 8192, 1024]⟩ .f32) (g : FVec Ideal ⟨1, ![1024]⟩ .f32) (sh sc : FVec Ideal ⟨2, ![2, 1024]⟩ .f32)
    (w13 : FVec Ideal ⟨2, ![1024, 5632]⟩ .f32) (p : Fin 2) (r : Fin 8192) (q : Fin 2816) : EReal :=
  hid (modRow (fun k => x (ix3 p r k)) (fun k => g (ix1 k)) (fun k => sh (ix2 p k)) (fun k => sc (ix2 p k)))
    (fun k => w13 (ix2 k ⟨q.val, by omega⟩)) (fun k => w13 (ix2 k ⟨2816 + q.val, by omega⟩))

/-- Column `b` of the layer at token `r` of prompt `p`, over the argument arrays. -/
def denseOut (x : FVec Ideal ⟨3, ![2, 8192, 1024]⟩ .f32) (g : FVec Ideal ⟨1, ![1024]⟩ .f32) (sh sc ga : FVec Ideal ⟨2, ![2, 1024]⟩ .f32)
    (w13 : FVec Ideal ⟨2, ![1024, 5632]⟩ .f32) (w2 : FVec Ideal ⟨2, ![2816, 1024]⟩ .f32) (p : Fin 2) (r : Fin 8192) (b : Fin 1024) : EReal :=
  x (ix3 p r b) + ga (ix2 p b) * ∑ q : Fin 2816, denseCol x g sh sc w13 p r q * w2 (ix2 q b)

end Cert.Spec

end
-- ==== Proof.Dense.Blocks.lean ====
module

public import proofs.«01_k».proof.Proof.Gen.Kernel4Ideal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import Idealize.ShloMosaic.PureOps.Ideal.Laws
public import proofs.«01_k».proof.Proof.Dense.Spec

/-! What each grid point of the dense feed-forward call leaves behind.

The grid has 176 points: 16 row tiles of 11 points each, one per block of 256 hidden columns. The first point of a row
tile writes the normalized rows, which the other 10 points only read; every point adds one product to the accumulator;
the last point writes the tile of the result. -/

@[expose] public section

set_option maxRecDepth 16384

noncomputable section

namespace Cert.Kernel4Ideal.Dense

open Idealize.ShloMosaic Idealize.ShloMosaic.TcCoe Idealize.SL.Sem
open Cert.Kernel4Ideal Cert.Kernel4Ideal.Gen Cert.Kernel4Ideal.Value

variable {F : FTy → Type} [FloatOps F]
variable (m : (ℓ : Loc nD τ sig) → Buf (Elt F) ℓ)

/-- The normalized rows as the point `t` computes them from its blocks. -/
def rowsAt (c : Dev nD) (t : Fin cfg0.N) : FVec F S1024x1024 .bf16 :=
  k0_pay1 (iblk m c 0 t) (iblk m c 1 t) (iblk m c 2 t) (iblk m c 3 t)

/-- The first point of a row tile writes the normalized rows. -/
theorem rows_first (c : Dev nD) (t : Fin cfg0.N) (h0 : t.val % 11 = 0) :
    (outsAt0 m c t.val t.isLt).2.1 = rowsAt m c t := by
  rw [outsAt0_A m c t h0 (by omega)]
  dsimp only
  frame_out
  rfl

/-- The other points of a row tile leave the normalized rows as they found them. -/
theorem rows_kept (c : Dev nD) (t : Fin cfg0.N) (h0 : ¬t.val % 11 = 0) :
    (outsAt0 m c t.val t.isLt).2.1
      = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

/-- The first point of a row tile starts the accumulator from zero and adds its product. -/
theorem acc_first (c : Dev nD) (t : Fin cfg0.N) (h0 : t.val % 11 = 0) :
    (outsAt0 m c t.val t.isLt).2.2
      = k0_pay3 (rowsAt m c t) (iblk m c 7 t) (iblk m c 8 t) k0_pay2 (iblk m c 9 t) := by
  rw [outsAt0_A m c t h0 (by omega)]
  dsimp only
  frame_out
  rfl

/-- The other points add their product to the accumulator they found. -/
theorem acc_step (c : Dev nD) (t : Fin cfg0.N) (h0 : ¬t.val % 11 = 0) :
    (outsAt0 m c t.val t.isLt).2.2
      = k0_pay3 (outsAt0 m c (t.val - 1) (Nat.lt_of_le_of_lt (Nat.sub_le _ _) t.isLt)).2.1 (iblk m c 7 t) (iblk m c 8 t)
          (outsAt0 m c (t.val - 1) (Nat.lt_of_le_of_lt (Nat.sub_le _ _) t.isLt)).2.2 (iblk m c 9 t) := by
  by_cases h1 : t.val % 11 = 10
  · rw [outsAt0_C m c t h0 h1]
    dsimp only
    frame_out
    simp only [read_unread_whole]
  · rw [outsAt0_B m c t h0 h1]
    dsimp only
    frame_out
    simp only [read_unread_whole]

/-- The last point of a row tile writes the result from the accumulator as it leaves it. -/
theorem out_last (c : Dev nD) (t : Fin cfg0.N) (h1 : t.val % 11 = 10) :
    (outsAt0 m c t.val t.isLt).1 = k0_pay4 (iblk m c 0 t) (iblk m c 4 t) (outsAt0 m c t.val t.isLt).2.2 := by
  rw [acc_step m c t (by omega), outsAt0_C m c t (by omega) h1]
  dsimp only
  frame_out
  simp only [read_unread_whole]

/-- The first point of the row tile of `t`. -/
def firstOf (t : Fin cfg0.N) : Fin cfg0.N := ⟨11 * (t.val / 11), Pipeline.run_start_lt t⟩

/-- The first point of a row tile is its own first point. -/
theorem firstOf_eq (t : Fin cfg0.N) (h0 : t.val % 11 = 0) : firstOf t = t := Fin.ext (by simp only [firstOf]; omega)

/-- Every point finds the rows its row tile's first point wrote. -/
theorem rows_held (c : Dev nD) (t : Fin cfg0.N) :
    (outsAt0 m c t.val t.isLt).2.1 = rowsAt m c (firstOf t) :=
  Pipeline.eq_of_write_hold (fun n h => (outsAt0 m c n h).2.1) 11 (rowsAt m c) (rows_first m c) (rows_kept m c) t

/-- `acc_first` over the rows of the row tile. -/
theorem acc_first' (c : Dev nD) (t : Fin cfg0.N) (h0 : t.val % 11 = 0) :
    (outsAt0 m c t.val t.isLt).2.2
      = k0_pay3 (rowsAt m c (firstOf t)) (iblk m c 7 t) (iblk m c 8 t) k0_pay2 (iblk m c 9 t) := by
  rw [acc_first m c t h0, firstOf_eq t h0]

/-- `acc_step` over the rows of the row tile. -/
theorem acc_step' (c : Dev nD) (t : Fin cfg0.N) (h0 : ¬t.val % 11 = 0) :
    (outsAt0 m c t.val t.isLt).2.2
      = k0_pay3 (rowsAt m c (firstOf t)) (iblk m c 7 t) (iblk m c 8 t)
          (outsAt0 m c (t.val - 1) (Nat.lt_of_le_of_lt (Nat.sub_le _ _) t.isLt)).2.2 (iblk m c 9 t) := by
  rw [acc_step m c t h0, ← rows_kept m c t h0, rows_held]

/-- One block of 256 hidden columns, gated and multiplied into the accumulator, at an index. -/
theorem pay3_apply (h : Vec Ideal S1024x1024 .bf16) (u w : Vec Ideal S1x1024x256 .bf16) (acc : Vec Ideal S1024x1024 .f32)
    (w2 : Vec Ideal S1x256x1024 .bf16) (j : S1024x1024.Idx) :
    k0_pay3 (F := Ideal) h u w acc w2 j
      = acc j + ∑ k : Fin 256, Cert.Spec.hid (fun q => h (ix2 (j 0) q)) (fun q => u (ix3 0 q k)) (fun q => w (ix3 0 q k)) * w2 (ix3 0 k (j 1)) := by
  pointwise [k0_pay3]
  rfl

/-- The accumulator starts from zero. -/
theorem pay2_apply (j : S1024x1024.Idx) : k0_pay2 (F := Ideal) j = 0 := by
  pointwise [k0_pay2]

/-- The normalized rows at an index. -/
theorem pay1_apply (x : Vec Ideal S1024x1024 .f32) (g : Vec Ideal S1x1024 .f32) (sh sc : Vec Ideal S1x1x1024 .f32) (a b : Fin 1024) :
    k0_pay1 (F := Ideal) x g sh sc (ix2 a b)
      = Cert.Spec.modRow (fun k => x (ix2 a k)) (fun k => g (ix2 0 k)) (fun k => sh (ix3 0 0 k)) (fun k => sc (ix3 0 0 k)) b := by
  pointwise [k0_pay1]
  rfl

/-- The finished rows at an index. -/
theorem pay4_apply (x : Vec Ideal S1024x1024 .f32) (ga : Vec Ideal S1x1x1024 .f32) (acc : Vec Ideal S1024x1024 .f32) (a b : Fin 1024) :
    k0_pay4 (F := Ideal) x ga acc (ix2 a b) = x (ix2 a b) + ga (ix3 0 0 b) * acc (ix2 a b) := by
  pointwise [k0_pay4]

/-- The product point `t` adds, at an index of the row tile. -/
def term (m : (ℓ : Loc nD τ sig) → Buf (Elt Ideal) ℓ) (c : Dev nD) (t : Fin cfg0.N) (j : S1024x1024.Idx) : EReal :=
  ∑ k : Fin 256, Cert.Spec.hid (fun q => rowsAt (F := Ideal) m c (firstOf t) (ix2 (j 0) q)) (fun q => iblk (F := Ideal) m c 7 t (ix3 0 q k))
    (fun q => iblk (F := Ideal) m c 8 t (ix3 0 q k)) * iblk (F := Ideal) m c 9 t (ix3 0 k (j 1))

/-- At the last point of a row tile the accumulator holds the sum of the 11 products. -/
theorem acc_last (m : (ℓ : Loc nD τ sig) → Buf (Elt Ideal) ℓ) (c : Dev nD) (t : Fin cfg0.N) (ht : t.val % 11 = 10)
    (j : S1024x1024.Idx) :
    (outsAt0 (F := Ideal) m c t.val t.isLt).2.2 j
      = ∑ s : Fin 11, term m c ⟨11 * (t.val / 11) + s.val, Pipeline.run_point_lt_of_flush t ht s⟩ j := by
  rw [Pipeline.eq_sum_fin_of_reset_step_apply_of_flush (fun n h => (outsAt0 (F := Ideal) m c n h).2.2) 11
    (fun _ => (0 : EReal)) (term m c)
    (fun t h j => by rw [acc_first' m c t h, pay3_apply, pay2_apply]; rfl)
    (fun t h j => by rw [acc_step' m c t h, pay3_apply]; rfl) t ht j, zero_add]

end Cert.Kernel4Ideal.Dense

end
-- ==== Proof.Dense.Reads.lean ====
module

public import proofs.«01_k».proof.Proof.Dense.Blocks

/-! Every block a grid point of the dense feed-forward call reads, at an index, as an entry of an argument. -/

@[expose] public section

set_option maxRecDepth 16384

noncomputable section

namespace Cert.Kernel4Ideal.Dense

open Idealize.ShloMosaic Idealize.ShloMosaic.TcCoe Idealize.SL.Sem
open Cert.Kernel4Ideal Cert.Kernel4Ideal.Gen Cert.Kernel4Ideal.Value

/-- The block every window reads at every point. -/
theorem idx : ∀ t : Fin cfg0.N,
    win0_0.index t = ![t.val / 11, 0] ∧ win0_1.index t = ![0, 0] ∧ win0_2.index t = ![t.val / 88, 0, 0]
    ∧ win0_3.index t = ![t.val / 88, 0, 0] ∧ win0_4.index t = ![t.val / 88, 0, 0] ∧ win0_7.index t = ![0, 0, t.val % 11]
    ∧ win0_8.index t = ![0, 0, t.val % 11 + 11] ∧ win0_9.index t = ![0, t.val % 11, 0]
    ∧ t.val / 11 < 16 ∧ t.val / 88 < 2 :=
  (by decide +kernel : ∀ t : Fin grid0.N, _)

/-- The rows of the two prompts laid end to end, at an index. -/
theorem cast_rows (x : FVec Ideal S2x8192x1024 .f32) (R : Fin 16384) (b : Fin 1024) (p : Fin 2) (r : Fin 8192)
    (h : 8192 * p.val + r.val = R.val) :
    shapeCast S16384x1024 x shapeCasts_S2x8192x1024_S16384x1024 (ix2 R b) = x (ix3 p r b) := by
  pointwise
  congr 1
  blk_ext

/-- A row per prompt with an axis of one inserted, at an index. -/
theorem cast_mod (x : FVec Ideal S2x1024 .f32) (p : Fin 2) (a : Fin 1) (b : Fin 1024) :
    shapeCast S2x1x1024 x shapeCasts_S2x1024_S2x1x1024 (ix3 p a b) = x (ix2 p b) := by
  pointwise

/-- A gain as a one-row array, at an index. -/
theorem cast_gain (x : FVec Ideal S1024 .f32) (a : Fin 1) (b : Fin 1024) :
    shapeCast S1x1024 x shapeCasts_S1024_S1x1024 (ix2 a b) = x (ix1 b) := by
  pointwise

/-- The first matrix with a leading axis of one, at an index. -/
theorem lead_w13 (x : FVec Ideal S1024x5632 .bf16) (a : Fin 1) (k : Fin 1024) (q : Fin 5632) :
    broadcastInDim S1x1024x5632 ![1, 2] bcast_S1024x5632_S1x1024x5632_1_2 x (ix3 a k q) = x (ix2 k q) := by
  pointwise

/-- The second matrix with a leading axis of one, at an index. -/
theorem lead_w2 (x : FVec Ideal S2816x1024 .bf16) (a : Fin 1) (q : Fin 2816) (b : Fin 1024) :
    broadcastInDim S1x2816x1024 ![1, 2] bcast_S2816x1024_S1x2816x1024_1_2 x (ix3 a q b) = x (ix2 q b) := by
  pointwise

variable (m : (ℓ : Loc nD τ sig) → Buf (Elt Ideal) ℓ) (c : Dev nD) (t : Fin cfg0.N)

/-- The residual rows that a step reads. -/
theorem read_x (a b : Fin 1024) (p : Fin 2) (r : Fin 8192) (h : 8192 * p.val + r.val = 1024 * (t.val / 11) + a.val) :
    iblk (F := Ideal) m c 0 t (ix2 a b) = m ((c : Thread nD τ).loc main_arg0) (ix3 p r b) := by
  show V m c main_v0 (((cfg0.win 0).blk t).view.emb (ix2 a b)) = _
  have e : V (F := Ideal) m c main_v0
      = shapeCast S16384x1024 (m ((c : Thread nD τ).loc main_arg0)) shapeCasts_S2x8192x1024_S16384x1024 := by
    unfold V
    entry_read
    rfl
  have ht : 1024 * (t.val / 11) + a.val < 16384 := by
    obtain ⟨_, _, _, _, _, _, _, _, h11, _⟩ := idx t
    omega
  rw [e, show ((cfg0.win 0).blk t).view.emb (ix2 a b) = ix2 ⟨1024 * (t.val / 11) + a.val, ht⟩ b from by blk_ext [idx t]]
  exact cast_rows _ _ b p r h

/-- The gain of the norm, as a step reads it. -/
theorem read_norm (a : Fin 1) (b : Fin 1024) :
    iblk (F := Ideal) m c 1 t (ix2 a b) = m ((c : Thread nD τ).loc main_arg1) (ix1 b) := by
  show V m c main_v4 (((cfg0.win 1).blk t).view.emb (ix2 a b)) = _
  have e : V (F := Ideal) m c main_v4 = shapeCast S1x1024 (m ((c : Thread nD τ).loc main_arg1)) shapeCasts_S1024_S1x1024 := by
    unfold V
    entry_read
    rfl
  rw [e, show ((cfg0.win 1).blk t).view.emb (ix2 a b) = ix2 a b from by blk_ext [idx t]]
  exact cast_gain _ a b

/-- The modulation's shift row of the prompt the step belongs to. -/
theorem read_shift (a a' : Fin 1) (b : Fin 1024) (p : Fin 2) (h : p.val = t.val / 88) :
    iblk (F := Ideal) m c 2 t (ix3 a a' b) = m ((c : Thread nD τ).loc main_arg2) (ix2 p b) := by
  show V m c main_v1 (((cfg0.win 2).blk t).view.emb (ix3 a a' b)) = _
  have e : V (F := Ideal) m c main_v1 = shapeCast S2x1x1024 (m ((c : Thread nD τ).loc main_arg2)) shapeCasts_S2x1024_S2x1x1024 := by
    unfold V
    entry_read
    rfl
  rw [e, show ((cfg0.win 2).blk t).view.emb (ix3 a a' b) = ix3 p a' b from by blk_ext [idx t]]
  exact cast_mod _ p a' b

/-- The modulation's scale row of that prompt. -/
theorem read_scale (a a' : Fin 1) (b : Fin 1024) (p : Fin 2) (h : p.val = t.val / 88) :
    iblk (F := Ideal) m c 3 t (ix3 a a' b) = m ((c : Thread nD τ).loc main_arg3) (ix2 p b) := by
  show V m c main_v2 (((cfg0.win 3).blk t).view.emb (ix3 a a' b)) = _
  have e : V (F := Ideal) m c main_v2 = shapeCast S2x1x1024 (m ((c : Thread nD τ).loc main_arg3)) shapeCasts_S2x1024_S2x1x1024 := by
    unfold V
    entry_read
    rfl
  rw [e, show ((cfg0.win 3).blk t).view.emb (ix3 a a' b) = ix3 p a' b from by blk_ext [idx t]]
  exact cast_mod _ p a' b

/-- The modulation's gate row of that prompt. -/
theorem read_gate (a a' : Fin 1) (b : Fin 1024) (p : Fin 2) (h : p.val = t.val / 88) :
    iblk (F := Ideal) m c 4 t (ix3 a a' b) = m ((c : Thread nD τ).loc main_arg4) (ix2 p b) := by
  show V m c main_v3 (((cfg0.win 4).blk t).view.emb (ix3 a a' b)) = _
  have e : V (F := Ideal) m c main_v3 = shapeCast S2x1x1024 (m ((c : Thread nD τ).loc main_arg4)) shapeCasts_S2x1024_S2x1x1024 := by
    unfold V
    entry_read
    rfl
  rw [e, show ((cfg0.win 4).blk t).view.emb (ix3 a a' b) = ix3 p a' b from by blk_ext [idx t]]
  exact cast_mod _ p a' b

/-- The first matrix behind both of its operands. -/
theorem V_w13 : V (F := Ideal) m c main_v6
    = broadcastInDim S1x1024x5632 ![1, 2] bcast_S1024x5632_S1x1024x5632_1_2
        (truncf (F := Ideal) .bf16 (m ((c : Thread nD τ).loc main_arg5) : FVec Ideal S1024x5632 .f32) bitsLt_bf16_f32) := by
  unfold V
  entry_read
  rfl

/-- The block of the first matrix's left half that a step reads. -/
theorem read_w1 (a : Fin 1) (b : Fin 1024) (k : Fin 256) (q : Fin 5632) (hq : q.val = 256 * (t.val % 11) + k.val) :
    iblk (F := Ideal) m c 7 t (ix3 a b k) = m ((c : Thread nD τ).loc main_arg5) (ix2 b q) := by
  show V m c main_v6 (((cfg0.win 7).blk t).view.emb (ix3 a b k)) = _
  rw [V_w13, show ((cfg0.win 7).blk t).view.emb (ix3 a b k) = ix3 a b q from by blk_ext [idx t]]
  exact lead_w13 _ a b q

/-- The block of its right half. -/
theorem read_w3 (a : Fin 1) (b : Fin 1024) (k : Fin 256) (q : Fin 5632) (hq : q.val = 2816 + (256 * (t.val % 11) + k.val)) :
    iblk (F := Ideal) m c 8 t (ix3 a b k) = m ((c : Thread nD τ).loc main_arg5) (ix2 b q) := by
  show V m c main_v6 (((cfg0.win 8).blk t).view.emb (ix3 a b k)) = _
  rw [V_w13, show ((cfg0.win 8).blk t).view.emb (ix3 a b k) = ix3 a b q from by blk_ext [idx t]]
  exact lead_w13 _ a b q

/-- The block of the second matrix. -/
theorem read_w2 (a : Fin 1) (k : Fin 256) (b : Fin 1024) (q : Fin 2816) (hq : q.val = 256 * (t.val % 11) + k.val) :
    iblk (F := Ideal) m c 9 t (ix3 a k b) = m ((c : Thread nD τ).loc main_arg6) (ix2 q b) := by
  show V m c main_v8 (((cfg0.win 9).blk t).view.emb (ix3 a k b)) = _
  have e : V (F := Ideal) m c main_v8
      = broadcastInDim S1x2816x1024 ![1, 2] bcast_S2816x1024_S1x2816x1024_1_2
          (truncf (F := Ideal) .bf16 (m ((c : Thread nD τ).loc main_arg6) : FVec Ideal S2816x1024 .f32) bitsLt_bf16_f32) := by
    unfold V
    entry_read
    rfl
  rw [e, show ((cfg0.win 9).blk t).view.emb (ix3 a k b) = ix3 a q b from by blk_ext [idx t]]
  exact lead_w2 _ a q b

end Cert.Kernel4Ideal.Dense

end
-- ==== Proof.Dense.Kernel.lean ====
module

public import proofs.«01_k».proof.Proof.Dense.Reads

/-! The dense feed-forward kernel's result at an index: the layer on one token. -/

@[expose] public section

set_option maxRecDepth 16384

noncomputable section

namespace Cert.Kernel4Ideal.Dense

open Idealize.ShloMosaic Idealize.ShloMosaic.TcCoe Idealize.SL.Sem
open Cert.Kernel4Ideal Cert.Kernel4Ideal.Gen Cert.Kernel4Ideal.Value Cert.Spec

variable (m : (ℓ : Loc nD τ sig) → Buf (Elt Ideal) ℓ) (c : Dev nD) (t : Fin cfg0.N) (p : Fin 2) (r : Fin 8192)

/-- A hidden column over the arrays the kernel is launched with. -/
def col (q : Fin 2816) : EReal :=
  denseCol (m ((c : Thread nD τ).loc main_arg0)) (m ((c : Thread nD τ).loc main_arg1)) (m ((c : Thread nD τ).loc main_arg2))
    (m ((c : Thread nD τ).loc main_arg3)) (m ((c : Thread nD τ).loc main_arg5)) p r q

/-- A column of the layer over those arrays. -/
def spec (b : Fin 1024) : EReal :=
  denseOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) p r b

/-- A row tile's normalized rows. -/
theorem rowsAt_apply (a b : Fin 1024) (h : 8192 * p.val + r.val = 1024 * (t.val / 11) + a.val) :
    rowsAt (F := Ideal) m c t (ix2 a b)
      = modRow (fun k => m ((c : Thread nD τ).loc main_arg0) (ix3 p r k)) (fun k => m ((c : Thread nD τ).loc main_arg1) (ix1 k))
          (fun k => m ((c : Thread nD τ).loc main_arg2) (ix2 p k)) (fun k => m ((c : Thread nD τ).loc main_arg3) (ix2 p k)) b := by
  have hp : p.val = t.val / 88 := by omega
  unfold rowsAt
  rw [pay1_apply]
  simp only [read_x m c t _ _ p r h, read_norm, read_shift m c t _ _ _ p hp, read_scale m c t _ _ _ p hp]

/-- The product a point adds. -/
theorem term_apply (a b : Fin 1024) (h : 8192 * p.val + r.val = 1024 * (t.val / 11) + a.val) (f : Fin 11) (hf : f.val = t.val % 11) :
    term m c t (ix2 a b)
      = ∑ k : Fin 256, col m c p r ⟨256 * f.val + k.val, by omega⟩
          * m ((c : Thread nD τ).loc main_arg6) (ix2 (⟨256 * f.val + k.val, by omega⟩ : Fin 2816) b) := by
  have h' : 8192 * p.val + r.val = 1024 * ((firstOf t).val / 11) + a.val := by
    rw [h]
    simp only [firstOf]
    omega
  unfold term
  refine Finset.sum_congr rfl fun k _ => congr (congrArg _ ?_) ?_
  · refine congr (congr (congrArg hid (funext fun k' => ?_)) (funext fun k' => ?_)) (funext fun k' => ?_)
    · exact rowsAt_apply m c (firstOf t) p r a k' h'
    · exact read_w1 m c t 0 k' k _ (by simp only [hf])
    · exact read_w3 m c t 0 k' k _ (by simp only [hf])
  · exact read_w2 m c t 0 k b _ (by simp only [hf])

/-- At a row tile's last point the accumulator holds the whole product. -/
theorem acc_apply (ht : t.val % 11 = 10) (a b : Fin 1024) (h : 8192 * p.val + r.val = 1024 * (t.val / 11) + a.val) :
    (outsAt0 (F := Ideal) m c t.val t.isLt).2.2 (ix2 a b)
      = ∑ q : Fin 2816, col m c p r q * m ((c : Thread nD τ).loc main_arg6) (ix2 q b) := by
  rw [acc_last m c t ht]
  refine Eq.trans ?_ (sum_blocks 11 256 _).symm
  refine Finset.sum_congr rfl fun f _ => term_apply m c _ p r a b ?_ f ?_
  · show _ = 1024 * ((11 * (t.val / 11) + f.val) / 11) + a.val
    rw [h]
    omega
  · show f.val = (11 * (t.val / 11) + f.val) % 11
    omega

/-- The result a row tile's last point writes. -/
theorem out_apply (ht : t.val % 11 = 10) (a b : Fin 1024) (h : 8192 * p.val + r.val = 1024 * (t.val / 11) + a.val) :
    (outsAt0 (F := Ideal) m c t.val t.isLt).1 (ix2 a b) = spec m c p r b := by
  have hp : p.val = t.val / 88 := by omega
  rw [out_last m c t ht, pay4_apply, read_x m c t _ _ p r h, read_gate m c t _ _ _ p hp, acc_apply m c t p r ht a _ h]
  rfl

/-- THE KERNEL'S RESULT AT AN INDEX: row `8192 p + r` is the layer at token `r` of prompt `p`. -/
theorem result_apply (i : S16384x1024.Idx) (b : Fin 1024) (h : 8192 * p.val + r.val = (i 0).val) (hb : b.val = (i 1).val) :
    G11 (F := Ideal) m c i = spec m c p r b := by
  have h0 : (i 0).val < 16384 := (i 0).isLt
  have h1 : (i 1).val < 1024 := (i 1).isLt
  have hN : pt11Of i < cfg0.N := by
    refine lt_of_lt_of_eq ?_ N_0.symm
    dsimp only [pt11Of, run11Of]
    omega
  unfold G11
  rw [dif_pos hN, ← outsAt0_sweep m c (pt11Of i) hN]
  have hl : loc11Of i = ix2 (⟨(i 0).val % 1024, Nat.mod_lt _ (by decide)⟩ : Fin 1024) b := by
    funext a
    match a with
    | ⟨0, _⟩ => rfl
    | ⟨1, _⟩ => exact Fin.ext ((Nat.mod_eq_of_lt h1).trans hb.symm)
  rw [hl]
  refine out_apply m c ⟨pt11Of i, hN⟩ p r ?_ _ _ ?_
  · dsimp only [pt11Of]
    omega
  · dsimp only [pt11Of, run11Of]
    omega

end Cert.Kernel4Ideal.Dense

end
-- ==== Proof.Dense.Reference.lean ====
module

public import proofs.«01_k».proof.Proof.Dense.Spec
public import proofs.«01_k».proof.Proof.Gen.Reference4Ideal.Read
public import Idealize.ShloMosaic.Lib.Pipeline.ValueKit
public import Idealize.ShloMosaic.Lib.Pointwise

/-! The reference's result of the dense feed-forward layer at an index. -/

@[expose] public section

set_option maxRecDepth 16384

noncomputable section

namespace Cert.Reference4Ideal.Dense

open Idealize.ShloMosaic Idealize.ShloMosaic.TcCoe Idealize.SL.Sem
open Cert.Reference4Ideal Cert.Reference4Ideal.Gen Cert.Reference4Ideal.Read

variable (x : FVec Ideal S2x8192x1024 .f32) (g : FVec Ideal S1024 .f32) (sh sc ga : FVec Ideal S2x1024 .f32)
  (w13 : FVec Ideal S1024x5632 .f32) (w2 : FVec Ideal S2816x1024 .f32)

/-- The normalized rows at an index. -/
theorem rows_apply (p : Fin 2) (r : Fin 8192) (k : Fin 1024) :
    val_main_v20 (F := Ideal) x g sh sc (ix3 p r k)
      = Cert.Spec.modRow (fun k => x (ix3 p r k)) (fun k => g (ix1 k)) (fun k => sh (ix2 p k)) (fun k => sc (ix2 p k)) k := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- The product of the rows with the first matrix at an index. -/
theorem first_apply (p : Fin 2) (r : Fin 8192) (j : Fin 5632) :
    val_main_v22 (F := Ideal) x g sh sc w13 (ix3 p r j)
      = ∑ k : Fin 1024, Cert.Spec.modRow (fun k => x (ix3 p r k)) (fun k => g (ix1 k)) (fun k => sh (ix2 p k)) (fun k => sc (ix2 p k)) k
          * w13 (ix2 k j) := by
  simp only [← rows_apply]
  pointwise [val_main_v22]

/-- A gated hidden column at an index. -/
theorem col_apply (p : Fin 2) (r : Fin 8192) (q : Fin 2816) :
    val_main_v26 (F := Ideal) x g sh sc w13 (ix3 p r q) = Cert.Spec.denseCol x g sh sc w13 p r q := by
  have e1 : val_main_v23 (F := Ideal) x g sh sc w13 (ix3 p r q) = _ :=
    (by pointwise [val_main_v23] : _ = val_main_v22 (F := Ideal) x g sh sc w13 (ix3 p r ⟨q.val, by omega⟩)).trans (first_apply ..)
  have e2 : val_main_v24 (F := Ideal) x g sh sc w13 (ix3 p r q) = _ :=
    (by pointwise [val_main_v24] : _ = val_main_v22 (F := Ideal) x g sh sc w13 (ix3 p r ⟨2816 + q.val, by omega⟩)).trans (first_apply ..)
  unfold Cert.Spec.denseCol Cert.Spec.hid
  rw [← e1, ← e2]
  pointwise [val_main_v26, val_main_v25, val_main_call0_v5, val_main_call0_v4, val_main_call0_v3, val_main_call0_v2,
    val_main_call0_v1, val_main_call0_v0, val_main_call0_cst, val_main_call0_cst_0]
  unfold Ideal.logistic
  rfl

/-- The result before its rows are laid end to end. -/
theorem out_apply (p : Fin 2) (r : Fin 8192) (b : Fin 1024) :
    val_main_v30 (F := Ideal) x g sh sc ga w13 w2 (ix3 p r b) = Cert.Spec.denseOut x g sh sc ga w13 w2 p r b := by
  unfold Cert.Spec.denseOut
  simp only [← col_apply]
  pointwise [val_main_v30, val_main_v29, val_main_v28, val_main_v27, val_main_v21]

/-- The reference's result at an index. -/
theorem result_apply (i : S16384x1024.Idx) (p : Fin 2) (r : Fin 8192) (b : Fin 1024) (h : 8192 * p.val + r.val = (i 0).val) (hb : b.val = (i 1).val) :
    val_main_v31 (F := Ideal) x g sh sc ga w13 w2 i = Cert.Spec.denseOut x g sh sc ga w13 w2 p r b := by
  rw [val_main_v31_apply, ← out_apply]
  congr 1
  blk_ext

end Cert.Reference4Ideal.Dense

end
-- ==== Proof.Dense.Claim.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Dense.Kernel
public import proofs.«01_k».proof.Proof.Dense.Reference
public import Idealize.ShloMosaic.Adequacy
public import Idealize.ShloMosaic.Init
public import Idealize.ShloMosaic.Lib.Quiescent

/-! The claims of the dense feed-forward layer. -/

@[expose] public section

noncomputable section

namespace Cert.Proof

open Idealize.ShloMosaic Idealize.ShloMosaic.TcCoe Idealize.SL.Sem

/-- The reference terminates, keeps its arguments and leaves no signal. -/
theorem quiescent_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- On equal arguments the reference's result is the array the kernel leaves. -/
theorem result4_eq (m : (ℓ : Loc Cert.Kernel4Ideal.nD Cert.Kernel4Ideal.τ Cert.Kernel4Ideal.sig) → Buf (Elt Ideal) ℓ) (c : Dev Cert.Kernel4Ideal.nD)
    (x0 : FVec Ideal Cert.Reference4Ideal.S2x8192x1024 .f32) (h0 : x0 = m ((c : Thread Cert.Kernel4Ideal.nD Cert.Kernel4Ideal.τ).loc Cert.Kernel4Ideal.main_arg0))
    (x1 : FVec Ideal Cert.Reference4Ideal.S1024 .f32) (h1 : x1 = m ((c : Thread Cert.Kernel4Ideal.nD Cert.Kernel4Ideal.τ).loc Cert.Kernel4Ideal.main_arg1))
    (x2 : FVec Ideal Cert.Reference4Ideal.S2x1024 .f32) (h2 : x2 = m ((c : Thread Cert.Kernel4Ideal.nD Cert.Kernel4Ideal.τ).loc Cert.Kernel4Ideal.main_arg2))
    (x3 : FVec Ideal Cert.Reference4Ideal.S2x1024 .f32) (h3 : x3 = m ((c : Thread Cert.Kernel4Ideal.nD Cert.Kernel4Ideal.τ).loc Cert.Kernel4Ideal.main_arg3))
    (x4 : FVec Ideal Cert.Reference4Ideal.S2x1024 .f32) (h4 : x4 = m ((c : Thread Cert.Kernel4Ideal.nD Cert.Kernel4Ideal.τ).loc Cert.Kernel4Ideal.main_arg4))
    (x5 : FVec Ideal Cert.Reference4Ideal.S1024x5632 .f32) (h5 : x5 = m ((c : Thread Cert.Kernel4Ideal.nD Cert.Kernel4Ideal.τ).loc Cert.Kernel4Ideal.main_arg5))
    (x6 : FVec Ideal Cert.Reference4Ideal.S2816x1024 .f32) (h6 : x6 = m ((c : Thread Cert.Kernel4Ideal.nD Cert.Kernel4Ideal.τ).loc Cert.Kernel4Ideal.main_arg6))
    (i : Cert.Reference4Ideal.S16384x1024.Idx) :
    Cert.Reference4Ideal.Read.val_main_v31 (F := Ideal) x0 x1 x2 x3 x4 x5 x6 i = Cert.Kernel4Ideal.Value.G11 (F := Ideal) m c i := by
  have hi : 8192 * ((i 0).val / 8192) + (i 0).val % 8192 = (i 0).val := Nat.div_add_mod _ _
  subst h0 h1 h2 h3 h4 h5 h6
  exact (Cert.Reference4Ideal.Dense.result_apply _ _ _ _ _ _ _ i ⟨(i 0).val / 8192, Nat.div_lt_of_lt_mul (i 0).isLt⟩ ⟨(i 0).val % 8192, Nat.mod_lt _ (by decide)⟩ (i 1) hi rfl).trans
    (Cert.Kernel4Ideal.Dense.result_apply m c ⟨(i 0).val / 8192, Nat.div_lt_of_lt_mul (i 0).isLt⟩ ⟨(i 0).val % 8192, Nat.mod_lt _ (by decide)⟩ i (i 1) hi rfl).symm

/-- Kernel and reference compute one result over the extended reals. -/
theorem algebraic_Kernel4Ideal_Reference4Ideal : Cert.algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  obtain ⟨a0, a1, a2, a3, a4, a5, a6⟩ := hagree c
  exact ((h c).1.trans (Cert.Reference4Ideal.Read.val_main_v31_eq ..)).trans (funext fun i => result4_eq m c _ a0 _ a1 _ a2 _ a3 _ a4 _ a5 _ a6 i)

end Cert.Proof

end
-- ==== Proof.Glu.Spec.lean ====
module

public import Idealize.ShloMosaic.Lib.IdealHost
public import Idealize.ShloMosaic.Lib.Pointwise.Index

/-! The gated output projection of the odd layer, at one token and one column. -/

@[expose] public section

noncomputable section

namespace Cert.Spec

open Idealize.ShloMosaic

/-- The residual plus the gate times a product gated by the logistic of another product. -/
def gluRow (y wl wr : Fin 1024 → EReal) (x ga : EReal) : EReal :=
  x + ga * ((∑ k, y k * wl k) * Ideal.logistic (∑ k, y k * wr k))

/-- The result of the gated output projection at token `r` of prompt `p`, column `b`, over the argument arrays. -/
def gluOut (y : FVec Ideal ⟨3, ![2, 8192, 1024]⟩ .bf16) (x : FVec Ideal ⟨3, ![2, 8192, 1024]⟩ .f32)
    (ga : FVec Ideal ⟨2, ![2, 1024]⟩ .f32) (w : FVec Ideal ⟨2, ![1024, 2048]⟩ .f32) (p : Fin 2) (r : Fin 8192) (b : Fin 1024) : EReal :=
  gluRow (fun k => y (ix3 p r k)) (fun k => w (ix2 k ⟨b.val, by omega⟩)) (fun k => w (ix2 k ⟨1024 + b.val, by omega⟩))
    (x (ix3 p r b)) (ga (ix2 p b))

end Cert.Spec

end
-- ==== Proof.Glu.Kernel.lean ====
module

public import proofs.«01_k».proof.Proof.Gen.Kernel5Ideal.Value
public import proofs.«01_k».proof.Proof.Glu.Spec
public import Idealize.ShloMosaic.Lib.Pipeline.ValueKit
public import Idealize.ShloMosaic.Lib.Pipeline.ReadBack
public import Idealize.ShloMosaic.Lib.Pointwise
public import Idealize.ShloMosaic.PureOps.Ideal.Laws

/-! The gated output projection's result at an index: each of the 64 grid points writes 256 rows. -/

@[expose] public section

set_option maxRecDepth 16384

noncomputable section

namespace Cert.Kernel5Ideal.Glu

open Idealize.ShloMosaic Idealize.ShloMosaic.TcCoe Idealize.SL.Sem
open Cert.Kernel5Ideal Cert.Kernel5Ideal.Gen Cert.Kernel5Ideal.Value

/-- The block every window reads or writes at every point. -/
theorem idx : ∀ t : Fin cfg0.N,
    win0_0.index t = ![t.val, 0] ∧ win0_1.index t = ![t.val, 0] ∧ win0_2.index t = ![t.val / 32, 0, 0]
    ∧ win0_3.index t = ![0, 0] ∧ win0_4.index t = ![0, 0] ∧ win0_5.index t = ![t.val, 0]
    ∧ (cfg0.win 5).flush t = true ∧ t.val < 64 :=
  (by decide +kernel : ∀ t : Fin grid0.N, _)

/-- The rows of the two prompts laid end to end, at an index. -/
theorem cast_rows {φ : FTy} (x : FVec Ideal S2x8192x1024 φ) (R : Fin 16384) (b : Fin 1024) (p : Fin 2) (r : Fin 8192)
    (h : 8192 * p.val + r.val = R.val) :
    shapeCast S16384x1024 x shapeCasts_S2x8192x1024_S16384x1024 (ix2 R b) = x (ix3 p r b) := by
  pointwise
  congr 1
  blk_ext

/-- The body's value at a position of its rows. -/
theorem pay1_apply (y : Vec Ideal S256x1024 .bf16) (wl wr : Vec Ideal S1024x1024 .bf16) (x : Vec Ideal S256x1024 .f32)
    (ga : Vec Ideal S1x1x1024 .f32) (a : Fin 256) (b : Fin 1024) :
    k0_pay1 (F := Ideal) y wl wr x ga (ix2 a b)
      = Cert.Spec.gluRow (fun k => y (ix2 a k)) (fun k => wl (ix2 k b)) (fun k => wr (ix2 k b)) (x (ix2 a b)) (ga (ix3 0 0 b)) := by
  pointwise [k0_pay1]
  rfl

variable (m : (ℓ : Loc nD τ sig) → Buf (Elt Ideal) ℓ) (c : Dev nD) (t : Fin cfg0.N)

/-- The gelu'd rows that a point reads. -/
theorem read_y (a : Fin 256) (b : Fin 1024) (p : Fin 2) (r : Fin 8192) (h : 8192 * p.val + r.val = 256 * t.val + a.val) :
    iblk (F := Ideal) m c 0 t (ix2 a b) = m ((c : Thread nD τ).loc main_arg0) (ix3 p r b) := by
  show V m c main_v0 (((cfg0.win 0).blk t).view.emb (ix2 a b)) = _
  have ht : 256 * t.val + a.val < 16384 := by
    have := (idx t).2.2.2.2.2.2.2
    omega
  have e : V (F := Ideal) m c main_v0 = shapeCast S16384x1024 (m ((c : Thread nD τ).loc main_arg0)) shapeCasts_S2x8192x1024_S16384x1024 := by
    unfold V
    entry_read
    rfl
  rw [e, show ((cfg0.win 0).blk t).view.emb (ix2 a b) = ix2 ⟨256 * t.val + a.val, ht⟩ b from by blk_ext [idx t]]
  exact cast_rows (φ := .bf16) _ _ b p r h

/-- The residual rows that a point reads. -/
theorem read_x (a : Fin 256) (b : Fin 1024) (p : Fin 2) (r : Fin 8192) (h : 8192 * p.val + r.val = 256 * t.val + a.val) :
    iblk (F := Ideal) m c 1 t (ix2 a b) = m ((c : Thread nD τ).loc main_arg1) (ix3 p r b) := by
  show V m c main_v1 (((cfg0.win 1).blk t).view.emb (ix2 a b)) = _
  have ht : 256 * t.val + a.val < 16384 := by
    have := (idx t).2.2.2.2.2.2.2
    omega
  have e : V (F := Ideal) m c main_v1 = shapeCast S16384x1024 (m ((c : Thread nD τ).loc main_arg1)) shapeCasts_S2x8192x1024_S16384x1024 := by
    unfold V
    entry_read
    rfl
  rw [e, show ((cfg0.win 1).blk t).view.emb (ix2 a b) = ix2 ⟨256 * t.val + a.val, ht⟩ b from by blk_ext [idx t]]
  exact cast_rows (φ := .f32) _ _ b p r h

/-- The gate row of the prompt that a point belongs to. -/
theorem read_gate (a a' : Fin 1) (b : Fin 1024) (p : Fin 2) (h : p.val = t.val / 32) :
    iblk (F := Ideal) m c 2 t (ix3 a a' b) = m ((c : Thread nD τ).loc main_arg2) (ix2 p b) := by
  show V m c main_v2 (((cfg0.win 2).blk t).view.emb (ix3 a a' b)) = _
  have e : V (F := Ideal) m c main_v2 = shapeCast S2x1x1024 (m ((c : Thread nD τ).loc main_arg2)) shapeCasts_S2x1024_S2x1x1024 := by
    unfold V
    entry_read
    rfl
  rw [e]
  pointwise
  blk_ext [iblk, idx t]

/-- The left half of the projection. -/
theorem read_wl (k b : Fin 1024) (q : Fin 2048) (h : q.val = b.val) :
    iblk (F := Ideal) m c 3 t (ix2 k b) = m ((c : Thread nD τ).loc main_arg3) (ix2 k q) := by
  blk_simp [iblk, idx t]
  entry_read
  pointwise
  blk_ext [iblk, V, idx t]

/-- Its right half. -/
theorem read_wr (k b : Fin 1024) (q : Fin 2048) (h : q.val = 1024 + b.val) :
    iblk (F := Ideal) m c 4 t (ix2 k b) = m ((c : Thread nD τ).loc main_arg3) (ix2 k q) := by
  blk_simp [iblk, idx t]
  entry_read
  pointwise
  blk_ext [iblk, V, idx t]

/-- The rows that a point writes. -/
theorem block_apply (a : Fin 256) (b : Fin 1024) (p : Fin 2) (r : Fin 8192) (h : 8192 * p.val + r.val = 256 * t.val + a.val) :
    ((cfg0.win 5).blk t).view.read (Elt Ideal) ((dats (F := Ideal) m 0 c).arrAt 5 cfg0.N) (ix2 a b)
      = Cert.Spec.gluOut (m ((c : Thread nD τ).loc main_arg0)) (m ((c : Thread nD τ).loc main_arg1))
          (m ((c : Thread nD τ).loc main_arg2)) (m ((c : Thread nD τ).loc main_arg3)) p r b := by
  have hp : p.val = t.val / 32 := by omega
  have hb := congrFun (blocks5 (F := Ideal) m c t (idx t).2.2.2.2.2.2.1) (ix2 a b)
  rw [flushed5] at hb
  refine hb.trans ?_
  unfold out0_5
  show View.canon _ (ix2 a b) = _
  frame_out
  refine (pay1_apply _ _ _ _ _ a b).trans ?_
  unfold Cert.Spec.gluOut
  simp only [read_y m c t a _ p r h, read_x m c t a _ p r h, read_gate m c t 0 0 b p hp, read_wl m c t _ b ⟨b.val, by omega⟩ rfl,
    read_wr m c t _ b ⟨1024 + b.val, by omega⟩ rfl]

/-- The kernel's result at an index. -/
theorem result_apply (i : S16384x1024.Idx) (p : Fin 2) (r : Fin 8192) (b : Fin 1024) (h : 8192 * p.val + r.val = (i 0).val)
    (hb : b.val = (i 1).val) :
    (dats (F := Ideal) m 0 c).arrAt 5 cfg0.N i
      = Cert.Spec.gluOut (m ((c : Thread nD τ).loc main_arg0)) (m ((c : Thread nD τ).loc main_arg1))
          (m ((c : Thread nD τ).loc main_arg2)) (m ((c : Thread nD τ).loc main_arg3)) p r b := by
  have h0 : (i 0).val < 16384 := (i 0).isLt
  obtain ⟨t, ht⟩ : ∃ t : Fin cfg0.N, t.val = (i 0).val / 256 :=
    ⟨⟨(i 0).val / 256, lt_of_lt_of_eq (by omega : (i 0).val / 256 < 64) (by decide)⟩, rfl⟩
  obtain ⟨a, ha⟩ : ∃ a : Fin 256, a.val = (i 0).val % 256 := ⟨⟨(i 0).val % 256, Nat.mod_lt _ (by decide)⟩, rfl⟩
  rw [← block_apply m c t a b p r (by omega)]
  have hi : i = ((cfg0.win 5).blk t).view.emb (ix2 a b) := by
    blk_ext [idx t]
  exact congrArg ((dats (F := Ideal) m 0 c).arrAt 5 cfg0.N) hi

end Cert.Kernel5Ideal.Glu

end
-- ==== Proof.Glu.Reference.lean ====
module

public import proofs.«01_k».proof.Proof.Glu.Spec
public import proofs.«01_k».proof.Proof.Gen.Reference5Ideal.Read
public import Idealize.ShloMosaic.Lib.Pipeline.ValueKit
public import Idealize.ShloMosaic.Lib.Pointwise

/-! The reference's result of the gated output projection at an index. -/

@[expose] public section

set_option maxRecDepth 16384

noncomputable section

namespace Cert.Reference5Ideal.Glu

open Idealize.ShloMosaic Idealize.ShloMosaic.TcCoe Idealize.SL.Sem
open Cert.Reference5Ideal Cert.Reference5Ideal.Gen Cert.Reference5Ideal.Read

/-- The result before its rows are laid end to end. -/
theorem rows_apply (y : FVec Ideal S2x8192x1024 .bf16) (x : FVec Ideal S2x8192x1024 .f32) (ga : FVec Ideal S2x1024 .f32)
    (w : FVec Ideal S1024x2048 .f32) (p : Fin 2) (r : Fin 8192) (b : Fin 1024) :
    val_main_v14 (F := Ideal) y x ga w (ix3 p r b) = Cert.Spec.gluOut y x ga w p r b := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  unfold Cert.Spec.gluOut Cert.Spec.gluRow Ideal.logistic
  rfl

/-- The reference's result at an index. -/
theorem result_apply (y : FVec Ideal S2x8192x1024 .bf16) (x : FVec Ideal S2x8192x1024 .f32) (ga : FVec Ideal S2x1024 .f32)
    (w : FVec Ideal S1024x2048 .f32) (i : S16384x1024.Idx) (p : Fin 2) (r : Fin 8192) (b : Fin 1024)
    (h : 8192 * p.val + r.val = (i 0).val) (hb : b.val = (i 1).val) :
    val_main_v15 (F := Ideal) y x ga w i = Cert.Spec.gluOut y x ga w p r b := by
  rw [val_main_v15_apply, ← rows_apply]
  congr 1
  blk_ext

end Cert.Reference5Ideal.Glu

end
-- ==== Proof.Glu.Claim.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Glu.Kernel
public import proofs.«01_k».proof.Proof.Glu.Reference
public import Idealize.ShloMosaic.Adequacy
public import Idealize.ShloMosaic.Init
public import Idealize.ShloMosaic.Lib.Quiescent

/-! The claims of the gated output projection. -/

@[expose] public section

noncomputable section

namespace Cert.Proof

open Idealize.ShloMosaic Idealize.ShloMosaic.TcCoe Idealize.SL.Sem

/-- The reference terminates, keeps its arguments and leaves no signal. -/
theorem quiescent_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- On equal arguments the reference's result is the array the kernel leaves. -/
theorem result5_eq (m : (ℓ : Loc Cert.Kernel5Ideal.nD Cert.Kernel5Ideal.τ Cert.Kernel5Ideal.sig) → Buf (Elt Ideal) ℓ) (c : Dev Cert.Kernel5Ideal.nD)
    (x0 : FVec Ideal Cert.Reference5Ideal.S2x8192x1024 .bf16) (h0 : x0 = m ((c : Thread Cert.Kernel5Ideal.nD Cert.Kernel5Ideal.τ).loc Cert.Kernel5Ideal.main_arg0))
    (x1 : FVec Ideal Cert.Reference5Ideal.S2x8192x1024 .f32) (h1 : x1 = m ((c : Thread Cert.Kernel5Ideal.nD Cert.Kernel5Ideal.τ).loc Cert.Kernel5Ideal.main_arg1))
    (x2 : FVec Ideal Cert.Reference5Ideal.S2x1024 .f32) (h2 : x2 = m ((c : Thread Cert.Kernel5Ideal.nD Cert.Kernel5Ideal.τ).loc Cert.Kernel5Ideal.main_arg2))
    (x3 : FVec Ideal Cert.Reference5Ideal.S1024x2048 .f32) (h3 : x3 = m ((c : Thread Cert.Kernel5Ideal.nD Cert.Kernel5Ideal.τ).loc Cert.Kernel5Ideal.main_arg3))
    (i : Cert.Reference5Ideal.S16384x1024.Idx) :
    Cert.Reference5Ideal.Read.val_main_v15 (F := Ideal) x0 x1 x2 x3 i = (Cert.Kernel5Ideal.Gen.dats (F := Ideal) m 0 c).arrAt 5 Cert.Kernel5Ideal.cfg0.N i := by
  have hi : 8192 * ((i 0).val / 8192) + (i 0).val % 8192 = (i 0).val := Nat.div_add_mod _ _
  subst h0 h1 h2 h3
  exact (Cert.Reference5Ideal.Glu.result_apply _ _ _ _ i ⟨(i 0).val / 8192, Nat.div_lt_of_lt_mul (i 0).isLt⟩ ⟨(i 0).val % 8192, Nat.mod_lt _ (by decide)⟩ (i 1) hi rfl).trans
    (Cert.Kernel5Ideal.Glu.result_apply m c i ⟨(i 0).val / 8192, Nat.div_lt_of_lt_mul (i 0).isLt⟩ ⟨(i 0).val % 8192, Nat.mod_lt _ (by decide)⟩ (i 1) hi rfl).symm

/-- Kernel and reference compute one result over the extended reals. -/
theorem algebraic_Kernel5Ideal_Reference5Ideal : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨a0, a1, a2, a3⟩ := hagree c
  exact ((h c).1.trans (Cert.Reference5Ideal.Read.val_main_v15_eq ..)).trans (funext fun i => result5_eq m c _ a0 _ a1 _ a2 _ a3 i)

end Cert.Proof

end
-- ==== Proof.MoeSample.Blocks.lean ====
module

public import proofs.«01_k».proof.Proof.Gen.Kernel6Ideal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import Idealize.ShloMosaic.PureOps.Ideal.Laws

/-! What each grid point of the routed feed-forward call of the samples leaves behind.

The grid has 56 points: 8 experts of 7 blocks of hidden columns. The first point writes the normalized rows and the dense
gate, which the other 55 points only read; every point adds one product to the accumulator; the last point writes the
result. -/

@[expose] public section

set_option maxRecDepth 16384

noncomputable section

namespace Cert.Kernel6Ideal.Moe

open Idealize.ShloMosaic Idealize.ShloMosaic.TcCoe Idealize.SL.Sem
open Cert.Kernel6Ideal Cert.Kernel6Ideal.Gen Cert.Kernel6Ideal.Value

variable {F : FTy → Type} [FloatOps F]
variable (m : (ℓ : Loc nD τ sig) → Buf (Elt F) ℓ)

/-- The normalized rows as the point `t` computes them from its blocks. -/
def rowsAt (c : Dev nD) (t : Fin cfg0.N) : FVec F S128x1024 .bf16 :=
  k0_pay4 (iblk m c 0 t) (iblk m c 1 t) (iblk m c 2 t) (iblk m c 3 t)

/-- The dense gate (one lane per expert) as a function of the rows' products with the padded router and of the bias. -/
def gateOf (P : FVec F S128x128 .f32) (B : Vec F S1x128 .f32) : FVec F S128x128 .f32 :=
  k0_pay18 (k0_pay15 P B) (k0_pay16 P B) (k0_pay17 P B) (Scalar.ofBits .f32 0x00000000#32)

/-- The dense gate as the point `t` computes it from its blocks. -/
def gatesAt (c : Dev nD) (t : Fin cfg0.N) : FVec F S128x128 .f32 :=
  gateOf (k0_pay6 (iblk m c 0 t) (iblk m c 1 t) (iblk m c 2 t) (iblk m c 3 t) (iblk m c 5 t)) (iblk m c 6 t)

/-- The gated hidden columns at point `t`, from the rows and the gate found there. -/
def hiddenAt (c : Dev nD) (t : Fin cfg0.N) (h : FVec F S128x1024 .bf16) (g : FVec F S128x128 .f32) :
    FVec F S128x512 .bf16 :=
  k0_pay19 (grid0.coords t) h (iblk m c 7 t) (iblk m c 8 t) g

/-- The first point writes the normalized rows. -/
theorem rows_first (c : Dev nD) (t : Fin cfg0.N) (h0 : t.val % 56 = 0) :
    (outsAt0 m c t.val t.isLt).2.1 = rowsAt m c t := by
  rw [outsAt0_A m c t h0 (by omega)]
  dsimp only
  frame_out
  rfl

/-- The other points leave the normalized rows as they found them. -/
theorem rows_kept (c : Dev nD) (t : Fin cfg0.N) (h0 : ¬t.val % 56 = 0) :
    (outsAt0 m c t.val t.isLt).2.1
      = (outsAt0 m c (t.val - 1) (Nat.lt_of_le_of_lt (Nat.sub_le _ _) t.isLt)).2.1 := by
  by_cases h1 : t.val % 56 = 55
  · rw [outsAt0_C m c t h0 h1]
    rfl
  · rw [outsAt0_B m c t h0 h1]
    rfl

/-- The first point writes the dense gate. -/
theorem gates_first (c : Dev nD) (t : Fin cfg0.N) (h0 : t.val % 56 = 0) :
    (outsAt0 m c t.val t.isLt).2.2.2 = gatesAt m c t := by
  rw [outsAt0_A m c t h0 (by omega)]
  dsimp only
  frame_out
  rfl

/-- The other points leave the dense gate as they found it. -/
theorem gates_kept (c : Dev nD) (t : Fin cfg0.N) (h0 : ¬t.val % 56 = 0) :
    (outsAt0 m c t.val t.isLt).2.2.2
      = (outsAt0 m c (t.val - 1) (Nat.lt_of_le_of_lt (Nat.sub_le _ _) t.isLt)).2.2.2 := by
  by_cases h1 : t.val % 56 = 55
  · rw [outsAt0_C m c t h0 h1]
    rfl
  · rw [outsAt0_B m c t h0 h1]
    rfl

/-- The first point starts the accumulator from zero and adds its product. -/
theorem acc_first (c : Dev nD) (t : Fin cfg0.N) (h0 : t.val % 56 = 0) :
    (outsAt0 m c t.val t.isLt).2.2.1
      = k0_pay1 k0_pay5 (hiddenAt m c t (rowsAt m c t) (gatesAt m c t)) (k0_pay20 (iblk m c 9 t)) := by
  rw [outsAt0_A m c t h0 (by omega)]
  dsimp only
  frame_out
  rfl

/-- The other points add their product to the accumulator they found. -/
theorem acc_step (c : Dev nD) (t : Fin cfg0.N) (h0 : ¬t.val % 56 = 0) :
    (outsAt0 m c t.val t.isLt).2.2.1
      = k0_pay1 (outsAt0 m c (t.val - 1) (Nat.lt_of_le_of_lt (Nat.sub_le _ _) t.isLt)).2.2.1
          (hiddenAt m c t (outsAt0 m c (t.val - 1) (Nat.lt_of_le_of_lt (Nat.sub_le _ _) t.isLt)).2.1
            (outsAt0 m c (t.val - 1) (Nat.lt_of_le_of_lt (Nat.sub_le _ _) t.isLt)).2.2.2)
          (k0_pay20 (iblk m c 9 t)) := by
  by_cases h1 : t.val % 56 = 55
  · rw [outsAt0_C m c t h0 h1]
    dsimp only
    frame_out
    simp only [read_unread_whole]
    rfl
  · rw [outsAt0_B m c t h0 h1]
    dsimp only
    frame_out
    simp only [read_unread_whole]
    rfl

/-- The last point writes the result from the accumulator as it leaves it. -/
theorem out_last (c : Dev nD) (t : Fin cfg0.N) (h1 : t.val % 56 = 55) :
    (outsAt0 m c t.val t.isLt).1
      = k0_pay2 (iblk m c 0 t) (iblk m c 4 t) (outsAt0 m c t.val t.isLt).2.2.1 (iblk m c 10 t) := by
  rw [acc_step m c t (by omega), outsAt0_C m c t (by omega) h1]
  dsimp only
  frame_out
  simp only [read_unread_whole]
  rfl

/-- The first point. -/
def firstOf (t : Fin cfg0.N) : Fin cfg0.N := ⟨56 * (t.val / 56), Pipeline.run_start_lt t⟩

/-- The first point of the run is its own first point. -/
theorem firstOf_eq (t : Fin cfg0.N) (h0 : t.val % 56 = 0) : firstOf t = t := Fin.ext (by simp only [firstOf]; omega)

/-- Every point finds the rows the first point wrote. -/
theorem rows_held (c : Dev nD) (t : Fin cfg0.N) :
    (outsAt0 m c t.val t.isLt).2.1 = rowsAt m c (firstOf t) :=
  Pipeline.eq_of_write_hold (fun n h => (outsAt0 m c n h).2.1) 56 (rowsAt m c) (rows_first m c) (rows_kept m c) t

/-- Every point finds the gate the first point wrote. -/
theorem gates_held (c : Dev nD) (t : Fin cfg0.N) :
    (outsAt0 m c t.val t.isLt).2.2.2 = gatesAt m c (firstOf t) :=
  Pipeline.eq_of_write_hold (fun n h => (outsAt0 m c n h).2.2.2) 56 (gatesAt m c) (gates_first m c) (gates_kept m c) t

/-- The gated hidden columns of point `t`. -/
def hidden (c : Dev nD) (t : Fin cfg0.N) : FVec F S128x512 .bf16 :=
  hiddenAt m c t (rowsAt m c (firstOf t)) (gatesAt m c (firstOf t))

/-- `acc_first` read at a position of the accumulator. -/
theorem acc_first' (c : Dev nD) (t : Fin cfg0.N) (h0 : t.val % 56 = 0) :
    (outsAt0 m c t.val t.isLt).2.2.1 = k0_pay1 k0_pay5 (hidden m c t) (k0_pay20 (iblk m c 9 t)) := by
  rw [acc_first m c t h0, hidden, firstOf_eq t h0]

/-- `acc_step` read at a position of the accumulator. -/
theorem acc_step' (c : Dev nD) (t : Fin cfg0.N) (h0 : ¬t.val % 56 = 0) :
    (outsAt0 m c t.val t.isLt).2.2.1
      = k0_pay1 (outsAt0 m c (t.val - 1) (Nat.lt_of_le_of_lt (Nat.sub_le _ _) t.isLt)).2.2.1 (hidden m c t)
          (k0_pay20 (iblk m c 9 t)) := by
  rw [acc_step m c t h0, ← rows_kept m c t h0, ← gates_kept m c t h0, rows_held, gates_held]
  rfl

/-- A matrix product added to an accumulator, at an index. -/
theorem pay1_apply (a : Vec Ideal S128x1024 .f32) (u : FVec Ideal S128x512 .bf16) (w : FVec Ideal S512x1024 .bf16)
    (j : S128x1024.Idx) :
    k0_pay1 (F := Ideal) a u w j = a j + ∑ k : Fin 512, u (ix2 (j 0) k) * w (ix2 k (j 1)) := by
  pointwise [k0_pay1]

/-- What the kernel writes before the first block of an expert: zero. -/
theorem pay5_apply (j : S128x1024.Idx) : k0_pay5 (F := Ideal) j = 0 := by
  pointwise [k0_pay5]

/-- The product point `t` adds, at an index. -/
def term (m : (ℓ : Loc nD τ sig) → Buf (Elt Ideal) ℓ) (c : Dev nD) (t : Fin cfg0.N) (j : S128x1024.Idx) : EReal :=
  ∑ k : Fin 512, hidden (F := Ideal) m c t (ix2 (j 0) k) * k0_pay20 (F := Ideal) (iblk m c 9 t) (ix2 k (j 1))

/-- At the last point the accumulator holds the sum of the 56 products. -/
theorem acc_last (m : (ℓ : Loc nD τ sig) → Buf (Elt Ideal) ℓ) (c : Dev nD) (t : Fin cfg0.N) (ht : t.val % 56 = 55)
    (j : S128x1024.Idx) :
    (outsAt0 (F := Ideal) m c t.val t.isLt).2.2.1 j
      = ∑ s : Fin 56, term m c ⟨56 * (t.val / 56) + s.val, Pipeline.run_point_lt_of_flush t ht s⟩ j := by
  rw [Pipeline.eq_sum_fin_of_reset_step_apply_of_flush (fun n h => (outsAt0 (F := Ideal) m c n h).2.2.1) 56
    (fun _ => (0 : EReal)) (term m c)
    (fun t h j => by rw [acc_first' m c t h, pay1_apply, pay5_apply]; rfl)
    (fun t h j => by rw [acc_step' m c t h, pay1_apply]; rfl) t ht j, zero_add]

end Cert.Kernel6Ideal.Moe

end
-- ==== Proof.MoeSample.Reads.lean ====
module

public import proofs.«01_k».proof.Proof.MoeSample.Blocks
public import proofs.«01_k».proof.Proof.Moe.Reads

/-! Every block a grid point of the samples' call reads, at an index, as an entry of an argument. -/

@[expose] public section

set_option maxRecDepth 16384

noncomputable section

namespace Cert.Kernel6Ideal.Moe

open Idealize.ShloMosaic Idealize.ShloMosaic.TcCoe Idealize.SL.Sem
open Cert.Kernel6Ideal Cert.Kernel6Ideal.Gen Cert.Kernel6Ideal.Value
open Cert.KernelIdeal.Moe (pad_router pad_bias zero_word cast_bias)

/-- The block every window reads at every point. -/
theorem idx : ∀ t : Fin cfg0.N,
    win0_0.index t = ![0, 0] ∧ win0_1.index t = ![0, 0] ∧ win0_2.index t = ![0, 0, 0]
    ∧ win0_3.index t = ![0, 0, 0] ∧ win0_4.index t = ![0, 0, 0] ∧ win0_5.index t = ![0, 0]
    ∧ win0_6.index t = ![0, 0] ∧ win0_7.index t = ![t.val % 56 / 7, 0, t.val % 7]
    ∧ win0_8.index t = ![t.val % 56 / 7, 0, t.val % 7 + 7] ∧ win0_9.index t = ![t.val % 56 / 7, t.val % 7, 0]
    ∧ win0_10.index t = ![0, 0] ∧ (grid0.coords t 1).val = t.val % 56 / 7 :=
  (by decide +kernel : ∀ t : Fin grid0.N, _)

/-- A modulation row of each sample, with a leading axis of one, at an index. -/
theorem cast_mod (x : FVec Ideal S128x1024 .f32) (a : Fin 1) (a' : Fin 128) (b : Fin 1024) :
    shapeCast S1x128x1024 x shapeCasts_S128x1024_S1x128x1024 (ix3 a a' b) = x (ix2 a' b) :=
  shapeCast_apply x shapeCasts_S128x1024_S1x128x1024 (ix3 a a' b) (ix2 a' b) (by
    rewrite [Shape.rowMajor_val_three, Shape.rowMajor_val_two]
    show a'.val * 1024 + b.val = (a.val * 128 + a'.val) * 1024 + b.val
    omega)

variable (m : (ℓ : Loc nD τ sig) → Buf (Elt Ideal) ℓ) (c : Dev nD) (t : Fin cfg0.N)

/-- The arrays behind the operands that the host code prepares: the samples' rows, their shift, scale and gate rows, the
    gains of the two norms, the router and the bias padded to 128 lanes. -/
theorem V_host :
    (V (F := Ideal) m c main_v0 = shapeCast S128x1024 (m ((c : Thread nD τ).loc main_arg0)) shapeCasts_S128x1x1024_S128x1024)
    ∧ (V (F := Ideal) m c main_v1 = shapeCast S1x128x1024 (m ((c : Thread nD τ).loc main_arg2)) shapeCasts_S128x1024_S1x128x1024)
    ∧ (V (F := Ideal) m c main_v2 = shapeCast S1x128x1024 (m ((c : Thread nD τ).loc main_arg3)) shapeCasts_S128x1024_S1x128x1024)
    ∧ (V (F := Ideal) m c main_v3 = shapeCast S1x128x1024 (m ((c : Thread nD τ).loc main_arg4)) shapeCasts_S128x1024_S1x128x1024)
    ∧ (V (F := Ideal) m c main_v4 = shapeCast S1x1024 (m ((c : Thread nD τ).loc main_arg1)) shapeCasts_S1024_S1x1024)
    ∧ (V (F := Ideal) m c main_v11 = shapeCast S1x1024 (m ((c : Thread nD τ).loc main_arg9)) shapeCasts_S1024_S1x1024)
    ∧ (V (F := Ideal) m c main_v8 = (truncf (F := Ideal) .bf16 (pad S1024x128 ![0, 0] ![0, 120] ![0, 0] (m ((c : Thread nD τ).loc main_arg5) : FVec Ideal S1024x8 .f32) (sitofp (F := Ideal) .f32 (constantI S_ 32 0#32)) pads_S1024x8_S1024x128_000_01200 h_S_) bitsLt_bf16_f32 : FVec Ideal S1024x128 .bf16))
    ∧ (V (F := Ideal) m c main_v10 = (pad S1x128 ![0, 0] ![0, 120] ![0, 0] (shapeCast S1x8 (m ((c : Thread nD τ).loc main_arg6) : FVec Ideal S8 .f32) shapeCasts_S8_S1x8) (sitofp (F := Ideal) .f32 (constantI S_ 32 0#32)) pads_S1x8_S1x128_000_01200 h_S_ : FVec Ideal S1x128 .f32)) := by
  refine ⟨?_, ?_, ?_, ?_, ?_, ?_, ?_, ?_⟩ <;>
  · unfold V
    simp only [hostOps0, hostOps0_1, hostOps0_2, hostOps0_3, hostOps0_4, List.flatten_cons, List.flatten_nil,
      List.append_nil, List.cons_append, List.nil_append]
    entry_read
    rfl

/-- The residual rows that a step reads. -/
theorem read_x (a : Fin 128) (b : Fin 1024) :
    iblk (F := Ideal) m c 0 t (ix2 a b) = m ((c : Thread nD τ).loc main_arg0) (ix3 a 0 b) := by
  show V m c main_v0 (((cfg0.win 0).blk t).view.emb (ix2 a b)) = _
  rw [(V_host m c).1]
  pointwise
  blk_ext [iblk, idx t]

/-- The gain of the norm before the experts, as a step reads it. -/
theorem read_norm (a : Fin 1) (b : Fin 1024) :
    iblk (F := Ideal) m c 1 t (ix2 a b) = m ((c : Thread nD τ).loc main_arg1) (ix1 b) := by
  show V m c main_v4 (((cfg0.win 1).blk t).view.emb (ix2 a b)) = _
  rw [(V_host m c).2.2.2.2.1]
  pointwise
  blk_ext [iblk, idx t]

/-- A sample's shift row. -/
theorem read_shift (a : Fin 1) (a' : Fin 128) (b : Fin 1024) :
    iblk (F := Ideal) m c 2 t (ix3 a a' b) = m ((c : Thread nD τ).loc main_arg2) (ix2 a' b) := by
  show V m c main_v1 (((cfg0.win 2).blk t).view.emb (ix3 a a' b)) = _
  rw [(V_host m c).2.1, show ((cfg0.win 2).blk t).view.emb (ix3 a a' b) = ix3 a a' b from by blk_ext [idx t]]
  exact cast_mod _ a a' b

/-- Its scale row. -/
theorem read_scale (a : Fin 1) (a' : Fin 128) (b : Fin 1024) :
    iblk (F := Ideal) m c 3 t (ix3 a a' b) = m ((c : Thread nD τ).loc main_arg3) (ix2 a' b) := by
  show V m c main_v2 (((cfg0.win 3).blk t).view.emb (ix3 a a' b)) = _
  rw [(V_host m c).2.2.1, show ((cfg0.win 3).blk t).view.emb (ix3 a a' b) = ix3 a a' b from by blk_ext [idx t]]
  exact cast_mod _ a a' b

/-- Its gate row. -/
theorem read_mod_gate (a : Fin 1) (a' : Fin 128) (b : Fin 1024) :
    iblk (F := Ideal) m c 4 t (ix3 a a' b) = m ((c : Thread nD τ).loc main_arg4) (ix2 a' b) := by
  show V m c main_v3 (((cfg0.win 4).blk t).view.emb (ix3 a a' b)) = _
  rw [(V_host m c).2.2.2.1, show ((cfg0.win 4).blk t).view.emb (ix3 a a' b) = ix3 a a' b from by blk_ext [idx t]]
  exact cast_mod _ a a' b

/-- The padded router matrix: the router in its first eight columns, zero after them. -/
theorem entry_router (a : Fin 1024) (b : Fin 128) :
    V (F := Ideal) m c main_v8 (ix2 a b)
      = if h : b.val < 8 then m ((c : Thread nD τ).loc main_arg5) (ix2 a ⟨b.val, h⟩) else (0 : EReal) := by
  rw [(V_host m c).2.2.2.2.2.2.1]
  refine (pad_router _ _ a b).trans ?_
  split
  · rfl
  · exact zero_word _

/-- The padded router matrix, as a step reads it. -/
theorem read_router (a : Fin 1024) (b : Fin 128) :
    iblk (F := Ideal) m c 5 t (ix2 a b)
      = if h : b.val < 8 then m ((c : Thread nD τ).loc main_arg5) (ix2 a ⟨b.val, h⟩) else (0 : EReal) := by
  show V m c main_v8 (((cfg0.win 5).blk t).view.emb (ix2 a b)) = _
  rw [show ((cfg0.win 5).blk t).view.emb (ix2 a b) = ix2 a b from by blk_ext [idx t]]
  exact entry_router m c a b

/-- The padded bias: the bias in the first eight lanes, zero after them. -/
theorem entry_bias (a : Fin 1) (b : Fin 128) :
    V (F := Ideal) m c main_v10 (ix2 a b)
      = if h : b.val < 8 then m ((c : Thread nD τ).loc main_arg6) (ix1 ⟨b.val, h⟩) else (0 : EReal) := by
  rw [(V_host m c).2.2.2.2.2.2.2]
  refine (pad_bias _ _ a b).trans ?_
  split
  · exact cast_bias _ _ _
  · exact zero_word _

/-- The padded bias, as a step reads it. -/
theorem read_bias (a : Fin 1) (b : Fin 128) :
    iblk (F := Ideal) m c 6 t (ix2 a b)
      = if h : b.val < 8 then m ((c : Thread nD τ).loc main_arg6) (ix1 ⟨b.val, h⟩) else (0 : EReal) := by
  show V m c main_v10 (((cfg0.win 6).blk t).view.emb (ix2 a b)) = _
  rw [show ((cfg0.win 6).blk t).view.emb (ix2 a b) = ix2 a b from by blk_ext [idx t]]
  exact entry_bias m c a b

/-- The block of an expert's first matrix, left half, that a step reads. -/
theorem read_w1 (a : Fin 1) (b : Fin 1024) (k : Fin 512) (e : Fin 8) (q : Fin 7168) (he : e.val = t.val % 56 / 7)
    (hq : q.val = 512 * (t.val % 7) + k.val) :
    iblk (F := Ideal) m c 7 t (ix3 a b k) = m ((c : Thread nD τ).loc main_arg7) (ix3 e b q) := by
  blk_simp [iblk, idx t]
  entry_read
  pointwise
  blk_ext [iblk, V, idx t]

/-- The block of its right half. -/
theorem read_w3 (a : Fin 1) (b : Fin 1024) (k : Fin 512) (e : Fin 8) (q : Fin 7168) (he : e.val = t.val % 56 / 7)
    (hq : q.val = 512 * (t.val % 7) + k.val + 3584) :
    iblk (F := Ideal) m c 8 t (ix3 a b k) = m ((c : Thread nD τ).loc main_arg7) (ix3 e b q) := by
  blk_simp [iblk, idx t]
  entry_read
  pointwise
  blk_ext [iblk, V, idx t]

/-- The block of its second matrix. -/
theorem read_w2 (a : Fin 1) (k : Fin 512) (b : Fin 1024) (e : Fin 8) (q : Fin 3584) (he : e.val = t.val % 56 / 7)
    (hq : q.val = 512 * (t.val % 7) + k.val) :
    iblk (F := Ideal) m c 9 t (ix3 a k b) = m ((c : Thread nD τ).loc main_arg8) (ix3 e q b) := by
  blk_simp [iblk, idx t]
  entry_read
  pointwise
  blk_ext [iblk, V, idx t]

/-- The gain of the final norm, as a step reads it. -/
theorem read_final (a : Fin 1) (b : Fin 1024) :
    iblk (F := Ideal) m c 10 t (ix2 a b) = m ((c : Thread nD τ).loc main_arg9) (ix1 b) := by
  show V m c main_v11 (((cfg0.win 10).blk t).view.emb (ix2 a b)) = _
  rw [(V_host m c).2.2.2.2.2.1]
  pointwise
  blk_ext [iblk, idx t]

end Cert.Kernel6Ideal.Moe

end
-- ==== Proof.MoeSample.Payloads.lean ====
module

public import proofs.«01_k».proof.Proof.MoeSample.Reads
public import proofs.«01_k».proof.Proof.Moe.Payloads

/-! The values a grid point of the samples' call computes, at an index, in the terms of the layer on one token. -/

@[expose] public section

set_option maxRecDepth 16384

noncomputable section

namespace Cert.Kernel6Ideal.Moe

open Idealize.ShloMosaic Idealize.ShloMosaic.TcCoe Idealize.SL.Sem
open Cert.Kernel6Ideal Cert.Kernel6Ideal.Gen Cert.Kernel6Ideal.Value Cert.Spec Cert.Top2

/-- The normalized rows at an index. -/
theorem pay4_apply (x : Vec Ideal S128x1024 .f32) (g : Vec Ideal S1x1024 .f32) (sh sc : Vec Ideal S1x128x1024 .f32)
    (a : Fin 128) (b : Fin 1024) :
    k0_pay4 (F := Ideal) x g sh sc (ix2 a b)
      = modRow (fun k => x (ix2 a k)) (fun k => g (ix2 0 k)) (fun k => sh (ix3 0 a k)) (fun k => sc (ix3 0 a k)) b := by
  pointwise [k0_pay4, k0_pay3]
  rfl

/-- The rows' products with the padded router, at a lane. -/
theorem pay6_apply (x : Vec Ideal S128x1024 .f32) (g : Vec Ideal S1x1024 .f32) (sh sc : Vec Ideal S1x128x1024 .f32)
    (W : Vec Ideal S1024x128 .bf16) (a b : Fin 128) :
    k0_pay6 (F := Ideal) x g sh sc W (ix2 a b) = ∑ k, k0_pay4 (F := Ideal) x g sh sc (ix2 a k) * W (ix2 k b) := by
  pointwise [k0_pay6, k0_pay4]

/-- The finished rows at an index. -/
theorem pay2_apply (x : Vec Ideal S128x1024 .f32) (ga : Vec Ideal S1x128x1024 .f32) (acc : Vec Ideal S128x1024 .f32)
    (g : Vec Ideal S1x1024 .f32) (a : Fin 128) (b : Fin 1024) :
    k0_pay2 (F := Ideal) x ga acc g (ix2 a b)
      = finalRow (fun k => x (ix2 a k)) (fun k => ga (ix3 0 a k)) (fun k => acc (ix2 a k)) (fun k => g (ix2 0 k)) b := by
  pointwise [k0_pay2]
  rfl

/-- The gated hidden columns at an index: the hidden column times the expert's gate. -/
theorem pay19_apply (i : grid0.Coords) (h : Vec Ideal S128x1024 .bf16) (u w : Vec Ideal S1x1024x512 .bf16)
    (g : Vec Ideal S128x128 .f32) (a : Fin 128) (b : Fin 512) (e : Fin 128) (he : (i 1).val = e.val) :
    k0_pay19 (F := Ideal) i h u w g (ix2 a b)
      = hid (fun k => h (ix2 a k)) (fun k => u (ix3 0 k b)) (fun k => w (ix3 0 k b)) * g (ix2 a e) := by
  pointwise [k0_pay19]
  rw [he, Cert.KernelIdeal.Moe.lane_pick (fun x => g (ix2 a x)) e]
  rfl

/-- A block of an expert's second matrix without its leading axis. -/
theorem pay20_apply (u : Vec Ideal S1x512x1024 .bf16) (a : Fin 512) (b : Fin 1024) :
    k0_pay20 (F := Ideal) u (ix2 a b) = u (ix3 0 a b) := by
  pointwise [k0_pay20]

variable (P : FVec Ideal S128x128 .f32) (B : Vec Ideal S1x128 .f32)

/-- The masked logits at a lane. -/
theorem pay8_apply (a : Fin 128) (b : Fin 128) :
    k0_pay8 P B (ix2 a b) = if b.val < 8 then P (ix2 a b) + B (ix2 0 b) else (⊥ : EReal) := by
  pointwise [k0_pay8, k0_pay7]
  have e : (FloatOps.sitofp (F := Ideal) .f32 (BitVec.ofNat 32 b.val) < Ideal.ofBits .f32 0x41000000#32) ↔ b.val < 8 := by
    rw [lane_number, ofBits_eight, EReal.coe_lt_coe_iff]
    norm_cast
  rw [ofBits_bot]
  by_cases hb : b.val < 8
  · rw [if_pos (e.mpr hb), if_pos hb]
  · rw [if_neg (fun h => hb (e.mp h)), if_neg hb]

/-- A token's largest masked logit. -/
theorem pay9_apply (a : Fin 128) (b : Fin 1) :
    k0_pay9 P B (ix2 a b) = Finset.univ.fold max (⊥ : EReal) (fun k : Fin 128 => k0_pay8 P B (ix2 a k)) := by
  pointwise [k0_pay9]
  rw [ofBits_bot]

/-- The first lane that holds a token's largest masked logit. -/
theorem pay10_apply (a : Fin 128) (b : Fin 1) :
    k0_pay10 P B (ix2 a b)
      = Finset.univ.fold min (⊤ : EReal) (fun k : Fin 128 =>
          if k0_pay8 P B (ix2 a k) = k0_pay9 P B (ix2 a 0) then ((k.val : ℝ) : EReal) else ((128 : ℝ) : EReal)) := by
  pointwise [k0_pay10, k0_pay7]
  rw [ofBits_top, ofBits_lanes]
  simp only [lane_number]

/-- The masked logits with that lane taken out. -/
theorem pay11_apply (a : Fin 128) (b : Fin 128) :
    k0_pay11 P B (ix2 a b)
      = if ((b.val : ℝ) : EReal) = k0_pay10 P B (ix2 a 0) then ⊥ else k0_pay8 P B (ix2 a b) := by
  pointwise [k0_pay11, k0_pay7]
  rw [ofBits_bot, lane_number]

/-- The largest of what is left. -/
theorem pay12_apply (a : Fin 128) (b : Fin 1) :
    k0_pay12 P B (ix2 a b) = Finset.univ.fold max (⊥ : EReal) (fun k : Fin 128 => k0_pay11 P B (ix2 a k)) := by
  pointwise [k0_pay12]
  rw [ofBits_bot]

/-- The dense gate at a lane: the gate of the expert of that number, zero past the experts. -/
theorem gateOf_apply (a : Fin 128) (l : Fin 8 → EReal)
    (hl : ∀ (k : Fin 128) (hk : k.val < 8), P (ix2 a k) + B (ix2 0 k) = l ⟨k.val, hk⟩)
    (p q : Fin 8) (h : IsTop2 l p q) (y : ℝ) (hy : l p = y) (e : Fin 8) (e' : Fin 128) (he : e'.val = e.val) :
    gateOf P B (ix2 a e') = gate l p q e := by
  have hL : ∀ k : Fin 128, k0_pay8 P B (ix2 a k) = if hk : k.val < 8 then l ⟨k.val, hk⟩ else ⊥ := fun k => by
    rw [pay8_apply]
    by_cases hk : k.val < 8
    · rw [if_pos hk, dif_pos hk, hl k hk]
    · rw [if_neg hk, dif_neg hk]
  have key := lanes_gate l (fun k => k0_pay8 P B (ix2 a k)) (by omega) h hL y hy (fun k => ((k.val : ℝ) : EReal))
    (fun k k' hk => EReal.coe_lt_coe_iff.mpr (Nat.cast_lt.mpr hk)) ((128 : ℝ) : EReal)
    (fun k => EReal.coe_le_coe_iff.mpr (by exact_mod_cast k.isLt.le))
    (k0_pay9 P B (ix2 a 0)) (k0_pay10 P B (ix2 a 0)) (k0_pay12 P B (ix2 a 0)) _
    (fun k => k0_pay11 P B (ix2 a k)) (pay9_apply P B a 0) (pay10_apply P B a 0)
    (fun k => pay11_apply P B a k) (pay12_apply P B a 0) rfl e'
  rw [dif_pos (show e'.val < 8 by omega), show (⟨e'.val, by omega⟩ : Fin 8) = e from Fin.ext he] at key
  rw [← key]
  pointwise [gateOf, k0_pay18, k0_pay13, k0_pay14, k0_pay15, k0_pay16, k0_pay17, k0_pay7]
  simp only [lane_number, ofBits_top, ofBits_lanes]

end Cert.Kernel6Ideal.Moe

end
-- ==== Proof.MoeSample.Kernel.lean ====
module

public import proofs.«01_k».proof.Proof.MoeSample.Payloads

/-! The result of the samples' routed feed-forward call at an index: the layer on one token. -/

@[expose] public section

set_option maxRecDepth 16384

noncomputable section

namespace Cert.Kernel6Ideal.Moe

open Idealize.ShloMosaic Idealize.ShloMosaic.TcCoe Idealize.SL.Sem
open Cert.Kernel6Ideal Cert.Kernel6Ideal.Gen Cert.Kernel6Ideal.Value Cert.Spec Cert.Top2

variable (m : (ℓ : Loc nD τ sig) → Buf (Elt Ideal) ℓ) (c : Dev nD)

/-- The layer at a sample, over the arrays the kernel is launched with. -/
def tokAt (a : Fin 128) : Tok :=
  tok (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) a 0

variable (t : Fin cfg0.N) (a : Fin 128)

/-- The normalized rows. -/
theorem rowsAt_apply (b : Fin 1024) :
    rowsAt (F := Ideal) m c t (ix2 a b) = (tokAt m c a).h b := by
  unfold rowsAt
  rw [pay4_apply]
  simp only [read_x, read_norm, read_shift, read_scale]
  rfl

/-- The dense gate. -/
theorem gatesAt_apply
    (hT : (tokAt m c a).Finite) (e : Fin 8) (e' : Fin 128) (he : e'.val = e.val) :
    gatesAt (F := Ideal) m c t (ix2 a e') = (tokAt m c a).gate e := by
  obtain ⟨v, hv⟩ := hT
  unfold gatesAt
  refine gateOf_apply _ _ a (tokAt m c a).l (fun k hk => ?_) _ _ (tokAt m c a).isTop2 v hv e e' he
  have hrow : ∀ b, k0_pay4 (F := Ideal) (iblk m c 0 t) (iblk m c 1 t) (iblk m c 2 t) (iblk m c 3 t) (ix2 a b)
      = (tokAt m c a).h b := fun b => rowsAt_apply m c t a b
  have hW : ∀ q, iblk (F := Ideal) m c 5 t (ix2 q k) = (tokAt m c a).W q ⟨k.val, hk⟩ := fun q => by
    rw [read_router, dif_pos hk]
    rfl
  have hB : iblk (F := Ideal) m c 6 t (ix2 0 k) = (tokAt m c a).B ⟨k.val, hk⟩ := by
    rw [read_bias, dif_pos hk]
    rfl
  rw [pay6_apply, hB]
  simp only [hrow, hW]
  rfl

/-- The gated hidden columns of a point. -/
theorem hidden_apply (k : Fin 512)
    (hT : (tokAt m c a).Finite) (e : Fin 8) (q : Fin 3584) (he : e.val = t.val % 56 / 7)
    (hq : q.val = 512 * (t.val % 7) + k.val) :
    hidden (F := Ideal) m c t (ix2 a k) = (tokAt m c a).col e q * (tokAt m c a).gate e := by
  have hi : (grid0.coords t 1).val = (⟨e.val, by omega⟩ : Fin 128).val := by
    obtain ⟨_, _, _, _, _, _, _, _, _, _, _, h1⟩ := idx t
    rw [h1, he]
  unfold hidden hiddenAt
  rw [pay19_apply _ _ _ _ _ a k _ hi, gatesAt_apply m c (firstOf t) a hT e _ rfl]
  refine congrArg (· * (tokAt m c a).gate e) ?_
  refine congr (congr (congrArg hid (funext fun k' => ?_)) (funext fun k' => ?_)) (funext fun k' => ?_)
  · exact rowsAt_apply m c (firstOf t) a k'
  · exact read_w1 m c t 0 k' k e ⟨q.val, by omega⟩ he hq
  · exact read_w3 m c t 0 k' k e ⟨q.val + 3584, by omega⟩ he (by show q.val + 3584 = _; omega)

/-- The product a point adds. -/
theorem term_apply (b : Fin 1024)
    (hT : (tokAt m c a).Finite) (e : Fin 8) (f : Fin 7) (he : e.val = t.val % 56 / 7) (hf : f.val = t.val % 7) :
    term m c t (ix2 a b)
      = ∑ k : Fin 512, (tokAt m c a).gate e * ((tokAt m c a).col e ⟨512 * f.val + k.val, by omega⟩
          * (tokAt m c a).w2 e ⟨512 * f.val + k.val, by omega⟩ b) := by
  unfold term
  refine Finset.sum_congr rfl fun k _ => ?_
  have hq : (⟨512 * f.val + k.val, by omega⟩ : Fin 3584).val = 512 * (t.val % 7) + k.val := by rw [← hf]
  show hidden (F := Ideal) m c t (ix2 a k) * k0_pay20 (F := Ideal) (iblk m c 9 t) (ix2 k b) = _
  rw [hidden_apply m c t a k hT e _ he hq, pay20_apply, read_w2 m c t 0 k b e _ he hq]
  rw [mul_comm ((tokAt m c a).col e _), mul_assoc]
  rfl

/-- At the last point the accumulator holds the gated sum of the experts. -/
theorem acc_apply (ht : t.val % 56 = 55) (b : Fin 1024)
    (hT : (tokAt m c a).Finite) :
    (outsAt0 (F := Ideal) m c t.val t.isLt).2.2.1 (ix2 a b) = (tokAt m c a).y b := by
  rw [acc_last m c t ht]
  refine (sum_blocks 8 7 _).trans ?_
  unfold Tok.y
  refine Finset.sum_congr rfl fun e _ => ?_
  obtain ⟨g, hg, hge⟩ := (tokAt m c a).gate_real hT e
  rw [hge, mul_sum g hg]
  refine Eq.trans ?_ (sum_blocks 7 512 _).symm
  refine Finset.sum_congr rfl fun f _ => ?_
  rw [← hge]
  refine term_apply m c _ a b hT e f ?_ ?_
  · show e.val = (56 * (t.val / 56) + (7 * e.val + f.val)) % 56 / 7
    omega
  · show f.val = (56 * (t.val / 56) + (7 * e.val + f.val)) % 7
    omega

/-- The result the last point writes. -/
theorem out_apply (ht : t.val % 56 = 55) (b : Fin 1024)
    (hT : (tokAt m c a).Finite) :
    (outsAt0 (F := Ideal) m c t.val t.isLt).1 (ix2 a b) = (tokAt m c a).out b := by
  rw [out_last m c t ht, pay2_apply]
  simp only [read_x, read_mod_gate, read_final, acc_apply m c t a ht _ hT]
  rfl

/-- THE KERNEL'S RESULT AT AN INDEX: row `a` is the layer at sample `a`. -/
theorem result_apply (i : S128x1024.Idx) (h : a.val = (i 0).val) (hT : (tokAt m c a).Finite) :
    G11 (F := Ideal) m c i = (tokAt m c a).out (i 1) := by
  have h0 : (i 0).val < 128 := (i 0).isLt
  have h1 : (i 1).val < 1024 := (i 1).isLt
  have hN : pt11Of i < cfg0.N := by
    refine lt_of_lt_of_eq ?_ N_0.symm
    dsimp only [pt11Of, run11Of]
    omega
  unfold G11
  rw [dif_pos hN, ← outsAt0_sweep m c (pt11Of i) hN]
  have hl : loc11Of i = ix2 a (⟨(i 1).val, h1⟩ : Fin 1024) := by
    funext k
    match k with
    | ⟨0, _⟩ => exact Fin.ext ((Nat.mod_eq_of_lt h0).trans h.symm)
    | ⟨1, _⟩ => exact Fin.ext (Nat.mod_eq_of_lt h1)
  rw [hl]
  refine out_apply m c ⟨pt11Of i, hN⟩ a ?_ _ hT
  dsimp only [pt11Of]
  omega

end Cert.Kernel6Ideal.Moe

end
-- ==== Proof.MoeSample.Reference.lean ====
module

public import proofs.«01_k».proof.Proof.Moe.Reference
public import proofs.«01_k».proof.Proof.Gen.Reference6Ideal.Read
public import Idealize.ShloMosaic.Lib.Pointwise

/-! The reference's result for the samples at an index: the layer on one token. -/

@[expose] public section

set_option maxRecDepth 16384

noncomputable section

namespace Cert.Reference6Ideal.Moe

open Idealize.ShloMosaic Idealize.ShloMosaic.TcCoe Idealize.SL.Sem
open Cert.Reference6Ideal Cert.Reference6Ideal.Gen Cert.Reference6Ideal.Read Cert.Spec Cert.Top2
open Cert.ReferenceIdeal.Moe (at1 at2 at3 one_eq zero_eq)

variable (x0 : FVec Ideal S128x1x1024 .f32) (x1 : FVec Ideal S1024 .f32) (x2 x3 x4 : FVec Ideal S128x1024 .f32)
  (x5 : FVec Ideal S1024x8 .f32) (x6 : FVec Ideal S8 .f32) (x7 : FVec Ideal S8x1024x7168 .f32)
  (x8 : FVec Ideal S8x3584x1024 .f32) (x9 : FVec Ideal S1024 .f32)

/-- An array with a middle axis of one, at an index. -/
theorem atMid {n l : Nat} (x : (⟨3, ![n, 1, l]⟩ : Shape).Idx → EReal) (i : (⟨3, ![n, 1, l]⟩ : Shape).Idx) :
    x i = x (ix3 (i 0) 0 (i 2)) :=
  (at3 x i).trans (congrArg (fun k : Fin 1 => x (ix3 (i 0) k (i 2))) (Subsingleton.elim _ _))

/-- The first norm's factor of a token. -/
theorem rms_at (i : S128x1x1.Idx) :
    val_main_v7 (F := Ideal) x0 i = rms fun k => x0 (ix3 ⟨(i 0).val, (i 0).isLt⟩ 0 k) := by
  rw [val_main_v7_apply, val_main_v6_apply, val_main_v4_apply, val_main_v2_apply, val_main_v1_apply, val_main_cst_apply,
    zero_eq, zero_add]
  simp only [val_main_v0_apply, atMid x0 (idx_main_v1 _ _)]
  rfl

/-- The normalized rows at an index. -/
theorem h_at (i : S128x1x1024.Idx) :
    val_main_v18 (F := Ideal) x0 x1 x2 x3 i = (tok x0 x1 x2 x3 x4 x5 x6 x7 x8 x9 (i 0) 0).h (i 2) := by
  rw [val_main_v18_apply, val_main_v16_apply, val_main_v12_apply, val_main_v9_apply, val_main_v8_apply, rms_at,
    val_main_v11_apply, val_main_v10_apply, val_main_v15_apply, val_main_v14_apply,
    val_main_cst_2_apply, one_eq, val_main_v17_apply, val_main_v13_apply,
    at1 x1, at2 x2, at2 x3, atMid x0 i]
  rfl

/-- The logits at an index. -/
theorem logits_at (i : S128x1x8.Idx) :
    val_main_v23 (F := Ideal) x0 x1 x2 x3 x5 x6 i = (tok x0 x1 x2 x3 x4 x5 x6 x7 x8 x9 (i 0) 0).l (i 2) := by
  rw [val_main_v23_apply, val_main_v20_apply, val_main_v22_apply, val_main_v21_apply, at1 x6]
  simp only [h_at x0 x1 x2 x3 x4 x5 x6 x7 x8 x9, at2 x5 (ridx_main_v20 _ _)]
  rfl

/-- The order in which the reference's `top_k` ranks the experts of a token. -/
theorem order_eq (i : S128x1x8.Idx) :
    (fun k k' : Fin 8 => FloatOps.cmpfTotal (F := Ideal) (φ := .f32) .gt (val_main_v23 (F := Ideal) x0 x1 x2 x3 x5 x6 (i.along 2 k))
        (val_main_v23 (F := Ideal) x0 x1 x2 x3 x5 x6 (i.along 2 k')) == 1#1)
      = fun k k' => decide ((tok x0 x1 x2 x3 x4 x5 x6 x7 x8 x9 (i 0) 0).l k' < (tok x0 x1 x2 x3 x4 x5 x6 x7 x8 x9 (i 0) 0).l k) := by
  funext k k'
  have e : ∀ q : Fin 8, val_main_v23 (F := Ideal) x0 x1 x2 x3 x5 x6 (i.along 2 q) = (tok x0 x1 x2 x3 x4 x5 x6 x7 x8 x9 (i 0) 0).l q := fun q =>
    (logits_at x0 x1 x2 x3 x4 x5 x6 x7 x8 x9 (i.along 2 q)).trans rfl
  rw [e, e, Ideal.cmpfTotal_def]
  simp only [Ideal.cmp, CmpDirection.ordered]
  by_cases h : (tok x0 x1 x2 x3 x4 x5 x6 x7 x8 x9 (i 0) 0).l k' < (tok x0 x1 x2 x3 x4 x5 x6 x7 x8 x9 (i 0) 0).l k <;> simp [h]

/-- The place in the row of logits that the result's place `i` is read from. -/
def place (i : S128x1x2.Idx) : S128x1x8.Idx := ix3 (i 0) (i 1) ⟨(i 2).val, lt_trans (i 2).isLt (by decide)⟩

/-- The place is the one that `top_k` cuts out of the sorted row. -/
theorem place_eq (i : S128x1x2.Idx) : (fun a => ⟨0 + (i (a.cast sliceFits_S128x1x8_S128x1x2.1.symm)).val,
      Nat.lt_of_lt_of_le (Nat.add_lt_add_left (i _).isLt _) (sliceFits_S128x1x8_S128x1x2.2 a)⟩ : S128x1x8.Idx) = place i := by
  funext a
  match a with
  | ⟨0, _⟩ => exact Fin.ext (Nat.zero_add _)
  | ⟨1, _⟩ => exact Fin.ext (Nat.zero_add _)
  | ⟨2, _⟩ => exact Fin.ext (Nat.zero_add _)

/-- The two largest logits. -/
theorem values_at (i : S128x1x2.Idx) :
    val_main_values (F := Ideal) x0 x1 x2 x3 x5 x6 i
      = (tok x0 x1 x2 x3 x4 x5 x6 x7 x8 x9 (i 0) 0).l ((tok x0 x1 x2 x3 x4 x5 x6 x7 x8 x9 (i 0) 0).ranked ⟨(i 2).val, lt_trans (i 2).isLt (by decide)⟩) := by
  have h : val_main_values (F := Ideal) x0 x1 x2 x3 x5 x6 i
      = val_main_v23 (F := Ideal) x0 x1 x2 x3 x5 x6 ((place i).along 2 (sortedFrom
          (fun k k' : Fin 8 => FloatOps.cmpfTotal (F := Ideal) (φ := .f32) .gt (val_main_v23 (F := Ideal) x0 x1 x2 x3 x5 x6 ((place i).along 2 k))
            (val_main_v23 (F := Ideal) x0 x1 x2 x3 x5 x6 ((place i).along 2 k')) == 1#1) (place i 2))) := by
    rw [← place_eq i]
    rfl
  rw [h, order_eq x0 x1 x2 x3 x4 x5 x6 x7 x8 x9, logits_at x0 x1 x2 x3 x4 x5 x6 x7 x8 x9]
  rfl

/-- The experts of the two largest logits. -/
theorem indices_at (i : S128x1x2.Idx) :
    val_main_indices (F := Ideal) x0 x1 x2 x3 x5 x6 i
      = BitVec.ofNat 32 ((tok x0 x1 x2 x3 x4 x5 x6 x7 x8 x9 (i 0) 0).ranked ⟨(i 2).val, lt_trans (i 2).isLt (by decide)⟩).val := by
  have h : val_main_indices (F := Ideal) x0 x1 x2 x3 x5 x6 i
      = BitVec.ofNat 32 (sortedFrom
          (fun k k' : Fin 8 => FloatOps.cmpfTotal (F := Ideal) (φ := .f32) .gt (val_main_v23 (F := Ideal) x0 x1 x2 x3 x5 x6 ((place i).along 2 k))
            (val_main_v23 (F := Ideal) x0 x1 x2 x3 x5 x6 ((place i).along 2 k')) == 1#1) (place i 2)).val := by
    rw [← place_eq i]
    rfl
  rw [h, order_eq x0 x1 x2 x3 x4 x5 x6 x7 x8 x9]
  rfl

/-- A maximum over the two places of a row. -/
theorem row_max (y : FVec Ideal S128x1x2 .f32) (i : S128x1.Idx) :
    Host.reduce FloatOps.maximumf y (constant S_ .f32 0xFF800000#32) reducesTo_S128x1x2_S128x1_d2 h_S_ i
      = Finset.univ.fold (max : EReal → EReal → EReal) ⊥ (fun k : Fin 2 => y (ix3 (i 0) 0 k)) := by
  rw [← ofBits_bot]
  pointwise

/-- The largest logit. -/
theorem top_at (i : S128x1.Idx) :
    val_main_v24 (F := Ideal) x0 x1 x2 x3 x5 x6 i = (tok x0 x1 x2 x3 x4 x5 x6 x7 x8 x9 (i 0) 0).l (tok x0 x1 x2 x3 x4 x5 x6 x7 x8 x9 (i 0) 0).i1 := by
  have h : val_main_v24 (F := Ideal) x0 x1 x2 x3 x5 x6 i
      = Finset.univ.fold (max : EReal → EReal → EReal) ⊥ (fun k : Fin 2 => val_main_values (F := Ideal) x0 x1 x2 x3 x5 x6 (ix3 (i 0) 0 k)) := by
    exact row_max _ i
  rw [h]
  refine fold_max_eq _ _ (fun k => ?_) 0 ?_
  · rw [values_at x0 x1 x2 x3 x4 x5 x6 x7 x8 x9]
    exact (tok x0 x1 x2 x3 x4 x5 x6 x7 x8 x9 (i 0) 0).isTop2.le_fst _
  · rw [values_at x0 x1 x2 x3 x4 x5 x6 x7 x8 x9]
    rfl

/-- The exponentials of the two largest logits over the largest. -/
theorem exp_at (i : S128x1x2.Idx) :
    val_main_v30 (F := Ideal) x0 x1 x2 x3 x5 x6 i
      = Ideal.exp ((tok x0 x1 x2 x3 x4 x5 x6 x7 x8 x9 (i 0) 0).l ((tok x0 x1 x2 x3 x4 x5 x6 x7 x8 x9 (i 0) 0).ranked ⟨(i 2).val, lt_trans (i 2).isLt (by decide)⟩)
          - (tok x0 x1 x2 x3 x4 x5 x6 x7 x8 x9 (i 0) 0).l (tok x0 x1 x2 x3 x4 x5 x6 x7 x8 x9 (i 0) 0).i1) := by
  rw [val_main_v30_apply, val_main_v29_apply, val_main_v28_apply, val_main_v27_apply, val_main_v26_apply, top_at x0 x1 x2 x3 x4 x5 x6 x7 x8 x9,
    val_main_v25_apply, val_main_cst_4_apply, values_at x0 x1 x2 x3 x4 x5 x6 x7 x8 x9]
  have e : FloatOps.maximumf (F := Ideal) (φ := .f32) (FloatOps.ofBits .f32 0xFF800000#32)
      ((tok x0 x1 x2 x3 x4 x5 x6 x7 x8 x9 (i 0) 0).l (tok x0 x1 x2 x3 x4 x5 x6 x7 x8 x9 (i 0) 0).i1) = (tok x0 x1 x2 x3 x4 x5 x6 x7 x8 x9 (i 0) 0).l (tok x0 x1 x2 x3 x4 x5 x6 x7 x8 x9 (i 0) 0).i1 := by
    show max (Ideal.ofBits .f32 0xFF800000#32) _ = _
    rw [ofBits_bot]
    exact max_bot_left _
  exact congrArg (fun v => Ideal.exp ((tok x0 x1 x2 x3 x4 x5 x6 x7 x8 x9 (i 0) 0).l ((tok x0 x1 x2 x3 x4 x5 x6 x7 x8 x9 (i 0) 0).ranked ⟨(i 2).val, lt_trans (i 2).isLt (by decide)⟩) - v)) e

/-- A token's one-hot row: one at the expert, zero at the others. -/
theorem hot_at (i : S128x1x2x8.Idx) :
    val_main_v35 (F := Ideal) x0 x1 x2 x3 x5 x6 i
      = if (i 3).val = ((tok x0 x1 x2 x3 x4 x5 x6 x7 x8 x9 (i 0) 0).ranked ⟨(i 2).val, lt_trans (i 2).isLt (by decide)⟩).val then (1 : EReal) else 0 := by
  rw [val_main_v35_apply, val_main_call0_v4_apply, val_main_call0_v2_apply, val_main_call0_v0_apply, val_main_call0_v3_apply,
    val_main_call0_v1_apply, indices_at x0 x1 x2 x3 x4 x5 x6 x7 x8 x9]
  show FloatOps.uitofp (F := Ideal) .f32 (IntOp.cmpi .eq
    (BitVec.ofNat 32 ((tok x0 x1 x2 x3 x4 x5 x6 x7 x8 x9 (i 0) 0).ranked ⟨(i 2).val, lt_trans (i 2).isLt (by decide)⟩).val) (BitVec.ofNat 32 (i 3).val)) = _
  generalize (tok x0 x1 x2 x3 x4 x5 x6 x7 x8 x9 (i 0) 0).ranked ⟨(i 2).val, lt_trans (i 2).isLt (by decide)⟩ = r
  have h3 : (i 3).val < 8 := (i 3).isLt
  have hr : r.val < 8 := r.isLt
  by_cases h : (i 3).val = r.val
  · rw [if_pos h, h]
    simp [IntOp.cmpi, FloatOps.uitofp]
  · have hne : BitVec.ofNat 32 r.val ≠ BitVec.ofNat 32 (i 3).val := by
      intro hb
      have := congrArg BitVec.toNat hb
      rw [BitVec.toNat_ofNat, BitVec.toNat_ofNat] at this
      omega
    rw [if_neg h]
    simp [IntOp.cmpi, FloatOps.uitofp, beq_eq_false_iff_ne.mpr hne]

/-- The gates at an index. -/
theorem gate_at (i : S128x1x8.Idx) (hT : (tok x0 x1 x2 x3 x4 x5 x6 x7 x8 x9 (i 0) 0).Finite) :
    val_main_v39 (F := Ideal) x0 x1 x2 x3 x5 x6 i = (tok x0 x1 x2 x3 x4 x5 x6 x7 x8 x9 (i 0) 0).gate (i 2) := by
  rw [val_main_v39_apply, val_main_cst_6_apply, zero_eq, zero_add, Fin.sum_univ_two]
  simp only [val_main_v38_apply, hot_at x0 x1 x2 x3 x4 x5 x6 x7 x8 x9, val_main_v37_apply, val_main_v36_apply, val_main_v34_apply, val_main_v33_apply,
    val_main_v32_apply, val_main_v31_apply, val_main_cst_5_apply, zero_eq, zero_add, Fin.sum_univ_two, exp_at x0 x1 x2 x3 x4 x5 x6 x7 x8 x9]
  exact Tok.softmax_gate (tok x0 x1 x2 x3 x4 x5 x6 x7 x8 x9 (i 0) 0) hT (i 2)

/-- The feed-forward network of one expert on all rows, as the reference writes it. -/
def swiglu (h : FVec Ideal S128x1x1024 .f32) (A : FVec Ideal S1024x7168 .f32) (B : FVec Ideal S3584x1024 .f32) :
    FVec Ideal S128x1x1024 .f32 :=
  let y : FVec Ideal S128x1x7168 .f32 := Host.dotGeneral dot_S128x1x1024_S1024x7168_S128x1x7168_2_0_01_1_n_n none h A
  let u : FVec Ideal S128x1x3584 .f32 := extractStridedSlice S128x1x3584 ![0, 0, 0] y slices_S128x1x7168_S128x1x3584_0_0_0
  let w : FVec Ideal S128x1x3584 .f32 := extractStridedSlice S128x1x3584 ![0, 0, 3584] y slices_S128x1x7168_S128x1x3584_0_0_3584
  let one : FVec Ideal S128x1x3584 .f32 := broadcastInDim S128x1x3584 ![] bcast_S_S128x1x3584 (constant S_ .f32 0x3F800000#32)
  Host.dotGeneral dot_S128x1x3584_S3584x1024_S128x1x1024_2_0_01_1_n_n none
    (mulf (mulf u (Host.divf one (addf one (Host.exp (Host.negf u))))) w) B

/-- One expert's network at an index. -/
theorem swiglu_apply (h : FVec Ideal S128x1x1024 .f32) (A : FVec Ideal S1024x7168 .f32) (B : FVec Ideal S3584x1024 .f32)
    (p : Fin 128) (b : Fin 1024) :
    swiglu h A B (ix3 p 0 b)
      = ∑ q : Fin 3584, hid (fun k => h (ix3 p 0 k)) (fun k => A (ix2 k ⟨q.val, by omega⟩)) (fun k => A (ix2 k ⟨q.val + 3584, by omega⟩))
          * B (ix2 q b) := by
  pointwise [swiglu]
  simp only [Nat.add_comm 3584]
  rfl

/-- The sheet of expert `e` in the first weights. -/
theorem sheet_w13 (x : FVec Ideal S8x1024x7168 .f32) (e : Fin 8) (hs : S8x1024x7168.Slices ![e.val, 0, 0] S1x1024x7168)
    (k : Fin 1024) (q : Fin 7168) :
    shapeCast S1024x7168 (extractStridedSlice S1x1024x7168 ![e.val, 0, 0] x hs) shapeCasts_S1x1024x7168_S1024x7168 (ix2 k q)
      = x (ix3 e k q) := by
  pointwise

/-- The sheet of expert `e` in the second weights. -/
theorem sheet_w2 (x : FVec Ideal S8x3584x1024 .f32) (e : Fin 8) (hs : S8x3584x1024.Slices ![e.val, 0, 0] S1x3584x1024)
    (q : Fin 3584) (b : Fin 1024) :
    shapeCast S3584x1024 (extractStridedSlice S1x3584x1024 ![e.val, 0, 0] x hs) shapeCasts_S1x3584x1024_S3584x1024 (ix2 q b)
      = x (ix3 e q b) := by
  pointwise

/-- Expert `e`'s gate at an index. -/
theorem sheet_gate (y : FVec Ideal S128x1x8 .f32) (e : Fin 8) (hs : S128x1x8.Slices ![0, 0, e.val] S128x1x1)
    (p : Fin 128) (b : Fin 1024) :
    broadcastInDim S128x1x1024 ![0, 1, 2] bcast_S128x1x1_S128x1x1024_0_1_2 (extractStridedSlice S128x1x1 ![0, 0, e.val] y hs) (ix3 p 0 b)
      = y (ix3 p 0 e) := by
  pointwise

/-- The gated result of expert `e` at an index. -/
theorem gated (e : Fin 8) (hg : S128x1x8.Slices ![0, 0, e.val] S128x1x1)
    (hA : S8x1024x7168.Slices ![e.val, 0, 0] S1x1024x7168) (hB : S8x3584x1024.Slices ![e.val, 0, 0] S1x3584x1024)
    (Y : FVec Ideal S128x1x1024 .f32) (hY : Y = mulf
      (broadcastInDim S128x1x1024 ![0, 1, 2] bcast_S128x1x1_S128x1x1024_0_1_2
        (extractStridedSlice S128x1x1 ![0, 0, e.val] (val_main_v39 (F := Ideal) x0 x1 x2 x3 x5 x6) hg))
      (swiglu (val_main_v18 (F := Ideal) x0 x1 x2 x3)
        (shapeCast S1024x7168 (extractStridedSlice S1x1024x7168 ![e.val, 0, 0] x7 hA) shapeCasts_S1x1024x7168_S1024x7168)
        (shapeCast S3584x1024 (extractStridedSlice S1x3584x1024 ![e.val, 0, 0] x8 hB) shapeCasts_S1x3584x1024_S3584x1024)))
    (p : Fin 128) (b : Fin 1024) (hT : (tok x0 x1 x2 x3 x4 x5 x6 x7 x8 x9 p 0).Finite) :
    Y (ix3 p 0 b) = (tok x0 x1 x2 x3 x4 x5 x6 x7 x8 x9 p 0).gate e * ∑ q, (tok x0 x1 x2 x3 x4 x5 x6 x7 x8 x9 p 0).col e q * (tok x0 x1 x2 x3 x4 x5 x6 x7 x8 x9 p 0).w2 e q b := by
  subst hY
  refine congrArg₂ (· * ·) ((sheet_gate _ e hg p b).trans (gate_at x0 x1 x2 x3 x4 x5 x6 x7 x8 x9 (ix3 p 0 e) hT))
    ((swiglu_apply _ _ _ p b).trans (Finset.sum_congr rfl fun q _ => congrArg₂ (· * ·) ?_ (sheet_w2 x8 e hB q b)))
  exact congr (congr (congrArg hid (funext fun k => h_at x0 x1 x2 x3 x4 x5 x6 x7 x8 x9 (ix3 p 0 k))) (funext fun k => sheet_w13 x7 e hA k _))
    (funext fun k => sheet_w13 x7 e hA k _)

/-- The gated sum of the experts at an index. -/
theorem experts_at (p : Fin 128) (b : Fin 1024) (hT : (tok x0 x1 x2 x3 x4 x5 x6 x7 x8 x9 p 0).Finite) :
    val_main_v152 (F := Ideal) x0 x1 x2 x3 x5 x6 x7 x8 (ix3 p 0 b) = (tok x0 x1 x2 x3 x4 x5 x6 x7 x8 x9 p 0).y b := by
  have g := fun e hg hA hB Y hY => gated x0 x1 x2 x3 x4 x5 x6 x7 x8 x9 e hg hA hB Y hY p b hT
  unfold Tok.y
  rw [Fin.sum_univ_eight, val_main_v152_apply, val_main_v138_apply, val_main_v124_apply, val_main_v110_apply, val_main_v96_apply, val_main_v82_apply, val_main_v68_apply, val_main_v54_apply,
    val_main_v40_apply, val_main_cst_7_apply, zero_eq]
  rw [g 0 slices_S128x1x8_S128x1x1_0_0_0 slices_S8x1024x7168_S1x1024x7168_0_0_0 slices_S8x3584x1024_S1x3584x1024_0_0_0 (val_main_v53 (F := Ideal) x0 x1 x2 x3 x5 x6 x7 x8) rfl,
    g 1 slices_S128x1x8_S128x1x1_0_0_1 slices_S8x1024x7168_S1x1024x7168_1_0_0 slices_S8x3584x1024_S1x3584x1024_1_0_0 (val_main_v67 (F := Ideal) x0 x1 x2 x3 x5 x6 x7 x8) rfl,
    g 2 slices_S128x1x8_S128x1x1_0_0_2 slices_S8x1024x7168_S1x1024x7168_2_0_0 slices_S8x3584x1024_S1x3584x1024_2_0_0 (val_main_v81 (F := Ideal) x0 x1 x2 x3 x5 x6 x7 x8) rfl,
    g 3 slices_S128x1x8_S128x1x1_0_0_3 slices_S8x1024x7168_S1x1024x7168_3_0_0 slices_S8x3584x1024_S1x3584x1024_3_0_0 (val_main_v95 (F := Ideal) x0 x1 x2 x3 x5 x6 x7 x8) rfl,
    g 4 slices_S128x1x8_S128x1x1_0_0_4 slices_S8x1024x7168_S1x1024x7168_4_0_0 slices_S8x3584x1024_S1x3584x1024_4_0_0 (val_main_v109 (F := Ideal) x0 x1 x2 x3 x5 x6 x7 x8) rfl,
    g 5 slices_S128x1x8_S128x1x1_0_0_5 slices_S8x1024x7168_S1x1024x7168_5_0_0 slices_S8x3584x1024_S1x3584x1024_5_0_0 (val_main_v123 (F := Ideal) x0 x1 x2 x3 x5 x6 x7 x8) rfl,
    g 6 slices_S128x1x8_S128x1x1_0_0_6 slices_S8x1024x7168_S1x1024x7168_6_0_0 slices_S8x3584x1024_S1x3584x1024_6_0_0 (val_main_v137 (F := Ideal) x0 x1 x2 x3 x5 x6 x7 x8) rfl,
    g 7 slices_S128x1x8_S128x1x1_0_0_7 slices_S8x1024x7168_S1x1024x7168_7_0_0 slices_S8x3584x1024_S1x3584x1024_7_0_0 (val_main_v151 (F := Ideal) x0 x1 x2 x3 x5 x6 x7 x8) rfl]
  exact congrArg (· + _ + _ + _ + _ + _ + _ + _) (zero_add _)

/-- The residual sum at an index. -/
theorem sum_at (i : S128x1x1024.Idx) (hT : (tok x0 x1 x2 x3 x4 x5 x6 x7 x8 x9 (i 0) 0).Finite) :
    val_main_v154 (F := Ideal) x0 x1 x2 x3 x4 x5 x6 x7 x8 i
      = (tok x0 x1 x2 x3 x4 x5 x6 x7 x8 x9 (i 0) 0).x (i 2) + (tok x0 x1 x2 x3 x4 x5 x6 x7 x8 x9 (i 0) 0).ga (i 2) * (tok x0 x1 x2 x3 x4 x5 x6 x7 x8 x9 (i 0) 0).y (i 2) := by
  rw [val_main_v154_apply, val_main_v153_apply, val_main_v19_apply, (atMid (val_main_v152 (F := Ideal) x0 x1 x2 x3 x5 x6 x7 x8) i).trans (experts_at x0 x1 x2 x3 x4 x5 x6 x7 x8 x9 (i 0) (i 2) hT),
    atMid x0 i, at2 x4]
  rfl

/-- The last norm's factor of a token. -/
theorem last_at (i : S128x1x1.Idx) (hT : (tok x0 x1 x2 x3 x4 x5 x6 x7 x8 x9 (i 0) 0).Finite) :
    val_main_v162 (F := Ideal) x0 x1 x2 x3 x4 x5 x6 x7 x8 i
      = rms fun k => (tok x0 x1 x2 x3 x4 x5 x6 x7 x8 x9 (i 0) 0).x k + (tok x0 x1 x2 x3 x4 x5 x6 x7 x8 x9 (i 0) 0).ga k * (tok x0 x1 x2 x3 x4 x5 x6 x7 x8 x9 (i 0) 0).y k := by
  rw [val_main_v162_apply, val_main_v161_apply, val_main_v159_apply, val_main_v157_apply, val_main_v156_apply,
    val_main_cst_8_apply, zero_eq, zero_add]
  have h : ∀ k : Fin 1024, val_main_v155 (F := Ideal) x0 x1 x2 x3 x4 x5 x6 x7 x8 (idx_main_v156 (idx_main_v157 i) k)
      = ((tok x0 x1 x2 x3 x4 x5 x6 x7 x8 x9 (i 0) 0).x k + (tok x0 x1 x2 x3 x4 x5 x6 x7 x8 x9 (i 0) 0).ga k * (tok x0 x1 x2 x3 x4 x5 x6 x7 x8 x9 (i 0) 0).y k)
        * ((tok x0 x1 x2 x3 x4 x5 x6 x7 x8 x9 (i 0) 0).x k + (tok x0 x1 x2 x3 x4 x5 x6 x7 x8 x9 (i 0) 0).ga k * (tok x0 x1 x2 x3 x4 x5 x6 x7 x8 x9 (i 0) 0).y k) := fun k => by
    rw [val_main_v155_apply, sum_at x0 x1 x2 x3 x4 x5 x6 x7 x8 x9 (idx_main_v156 (idx_main_v157 i) k) hT]
    rfl
  simp only [h]
  rfl

/-- The normalized sum at an index. -/
theorem rows_at (i : S128x1x1024.Idx) (hT : (tok x0 x1 x2 x3 x4 x5 x6 x7 x8 x9 (i 0) 0).Finite) :
    val_main_v167 (F := Ideal) x0 x1 x2 x3 x4 x5 x6 x7 x8 x9 i = (tok x0 x1 x2 x3 x4 x5 x6 x7 x8 x9 (i 0) 0).out (i 2) := by
  rw [val_main_v167_apply, val_main_v164_apply, val_main_v163_apply,
    last_at x0 x1 x2 x3 x4 x5 x6 x7 x8 x9 (idx_main_v163 i) hT, val_main_v166_apply, val_main_v165_apply, at1 x9, sum_at x0 x1 x2 x3 x4 x5 x6 x7 x8 x9 i hT]
  rfl

/-- THE REFERENCE'S RESULT AT AN INDEX: row `p` is the layer at sample `p`. -/
theorem result_apply (i : S128x1024.Idx) (p : Fin 128) (h : p.val = (i 0).val)
    (hT : (tok x0 x1 x2 x3 x4 x5 x6 x7 x8 x9 p 0).Finite) :
    val_main_v168 (F := Ideal) x0 x1 x2 x3 x4 x5 x6 x7 x8 x9 i = (tok x0 x1 x2 x3 x4 x5 x6 x7 x8 x9 p 0).out (i 1) := by
  have h1 : (i 1).val < 1024 := (i 1).isLt
  have e : idx_main_v168 i = ix3 p 0 ⟨(i 1).val, h1⟩ := by
    have hp := p.isLt
    funext a
    match a with
    | ⟨0, _⟩ => exact Fin.ext (by show ((i 0).val * 1024 + (i 1).val) / 1024 = p.val; omega)
    | ⟨1, _⟩ => exact Subsingleton.elim (α := Fin 1) _ _
    | ⟨2, _⟩ => exact Fin.ext (by show ((i 0).val * 1024 + (i 1).val) % 1024 = (i 1).val; omega)
  rw [val_main_v168_apply, e]
  exact (rows_at x0 x1 x2 x3 x4 x5 x6 x7 x8 x9 (ix3 p 0 ⟨(i 1).val, h1⟩) hT).trans rfl

end Cert.Reference6Ideal.Moe

end
-- ==== Proof.MoeSample.Routing.lean ====
module

public import proofs.«01_k».proof.Pre_finite_routing_sample
public import proofs.«01_k».proof.Proof.MoeSample.Reference
public import proofs.«01_k».proof.Proof.Moe.Routing
public import Idealize.ShloMosaic.Lib.ReduceAll

/-! What the samples' precondition says: each sample's largest logit is a real number. -/

@[expose] public section

set_option maxRecDepth 16384

noncomputable section

namespace Cert.Pre_finite_routing_sample.Moe

open Idealize.ShloMosaic Idealize.ShloMosaic.TcCoe Idealize.SL.Sem
open Cert.Pre_finite_routing_sample Cert.Reference6Ideal.Read Cert.Spec Cert.Top2

/-- The shape relations the precondition's operations take. -/
theorem facts : Cert.Pre_finite_routing_sample.Facts where
  reducesTo_S128x1x1024_S128x1_d2 := Cert.Reference6Ideal.Gen.reducesTo_S128x1x1024_S128x1_d2
  h_S_ := Cert.Reference6Ideal.Gen.h_S_
  bcast_S128x1_S128x1x1_0_1 := Cert.Reference6Ideal.Gen.bcast_S128x1_S128x1x1_0_1
  bcast_S_S128x1x1 := Cert.Reference6Ideal.Gen.bcast_S_S128x1x1
  bcast_S128x1x1_S128x1x1024_0_1_2 := Cert.Reference6Ideal.Gen.bcast_S128x1x1_S128x1x1024_0_1_2
  bcast_S1024_S1x1x1024_2 := Cert.Reference6Ideal.Gen.bcast_S1024_S1x1x1024_2
  bcast_S1x1x1024_S128x1x1024_0_1_2 := Cert.Reference6Ideal.Gen.bcast_S1x1x1024_S128x1x1024_0_1_2
  bcast_S128x1024_S128x1x1024_0_2 := Cert.Reference6Ideal.Gen.bcast_S128x1024_S128x1x1024_0_2
  bcast_S_S128x1x1024 := Cert.Reference6Ideal.Gen.bcast_S_S128x1x1024
  bcast_S8_S1x1x8_2 := Cert.Reference6Ideal.Gen.bcast_S8_S1x1x8_2
  bcast_S1x1x8_S128x1x8_0_1_2 := Cert.Reference6Ideal.Gen.bcast_S1x1x8_S128x1x8_0_1_2
  reducesTo_S128x1x8_S128x1_d2 := by decide
  bcast_S_S128x1 := Cert.Reference6Ideal.Gen.bcast_S_S128x1
  reducesTo_S128x1_S_d0_1 := by decide
  dot_S128x1x1024_S1024x8_S128x1x8_2_0_01_1_n_n_wf := Cert.Reference6Ideal.Gen.dot_S128x1x1024_S1024x8_S128x1x8_2_0_01_1_n_n_wf

variable [hF : Facts]

/-- A maximum over the eight places of a row. -/
theorem row_max (y : FVec Ideal S128x1x8 .f32) (i : S128x1.Idx) :
    Host.reduce FloatOps.maximumf y (constant S_ .f32 0xFF800000#32) hF.reducesTo_S128x1x8_S128x1_d2 hF.h_S_ i
      = Finset.univ.fold (max : EReal → EReal → EReal) ⊥ (fun k : Fin 8 => y (ix3 (i 0) 0 k)) := by
  rw [← ofBits_bot]
  pointwise

variable (x0 : FVec Ideal S128x1x1024 .f32) (x1 : FVec Ideal S1024 .f32) (x2 x3 x4 : FVec Ideal S128x1024 .f32)
  (x5 : FVec Ideal S1024x8 .f32) (x6 : FVec Ideal S8 .f32) (x7 : FVec Ideal S8x1024x7168 .f32)
  (x8 : FVec Ideal S8x3584x1024 .f32) (x9 : FVec Ideal S1024 .f32)

/-- Under the precondition each sample's largest logit is a real number. -/
theorem finite_of_pre (h : fn (F := Ideal) x0 x1 x2 x3 x4 x5 x6 x7 x8 x9 = fun _ => 1#1) (p : Fin 128) :
    (tok x0 x1 x2 x3 x4 x5 x6 x7 x8 x9 p 0).Finite := by
  have h0 := congrFun h (fun a => a.elim0)
  dsimp only [fn, fn_part1] at h0
  have h1 := Host.reduce_andi_all _ _ _ _ _ h0 (ix2 p 0)
  refine Cert.Pre_finite_routing.Moe.real_of_abs (hF := Cert.Pre_finite_routing.Moe.facts) _ ?_
  have e : Host.reduce (FloatOps.maximumf (F := Ideal) (φ := .f32)) (val_main_v23 (F := Ideal) x0 x1 x2 x3 x5 x6) (constant S_ .f32 0xFF800000#32)
      hF.reducesTo_S128x1x8_S128x1_d2 hF.h_S_ (ix2 p 0)
        = (tok x0 x1 x2 x3 x4 x5 x6 x7 x8 x9 p 0).l (tok x0 x1 x2 x3 x4 x5 x6 x7 x8 x9 p 0).i1 := by
    refine (row_max (val_main_v23 (F := Ideal) x0 x1 x2 x3 x5 x6) (ix2 p 0)).trans ?_
    have hl : ∀ k : Fin 8, val_main_v23 (F := Ideal) x0 x1 x2 x3 x5 x6 (ix3 p 0 k)
        = (tok x0 x1 x2 x3 x4 x5 x6 x7 x8 x9 p 0).l k :=
      fun k => Cert.Reference6Ideal.Moe.logits_at x0 x1 x2 x3 x4 x5 x6 x7 x8 x9 (ix3 p 0 k)
    refine fold_max_eq _ _ (fun k => (hl k).trans_le ?_) _ (hl _)
    exact (tok x0 x1 x2 x3 x4 x5 x6 x7 x8 x9 p 0).isTop2.le_fst k
  rw [← e]
  exact h1

end Cert.Pre_finite_routing_sample.Moe

end
-- ==== Proof.MoeSample.Claim.lean ====
module

public import proofs.«01_k».proof.Defs
public import proofs.«01_k».proof.Proof.Gen.Reference6Ideal.Run
public import proofs.«01_k».proof.Proof.MoeSample.Kernel
public import proofs.«01_k».proof.Proof.MoeSample.Routing
public import Idealize.ShloMosaic.Adequacy
public import Idealize.ShloMosaic.Init
public import Idealize.ShloMosaic.Lib.Quiescent

/-! The claims about the samples' routed feed-forward call. -/

@[expose] public section

noncomputable section

namespace Cert.Proof

open Idealize.ShloMosaic Idealize.SL.Sem

/-- The reference terminates, keeps its arguments and leaves no signal. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference compute one result over the extended reals, if each sample's largest router logit is finite. -/
theorem algebraic_Kernel6Ideal_Reference6Ideal :
    algebraic_Kernel6Ideal_Reference6Ideal_pre_finite_routing_sample (hPre_finite_routing_sample := Cert.Pre_finite_routing_sample.Moe.facts) := by
  intro m ρ m' ρ' hpre hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  refine ((h c).1.trans (Cert.Reference6Ideal.Read.val_main_v168_eq _)).trans ?_
  obtain ⟨a0, a1, a2, a3, a4, a5, a6, a7, a8, a9⟩ := hagree c
  funext i
  have hi : (⟨(i 0).val, (i 0).isLt⟩ : Fin 128).val = (i 0).val := rfl
  have hf := Cert.Pre_finite_routing_sample.Moe.finite_of_pre (hF := Cert.Pre_finite_routing_sample.Moe.facts) _ _ _ _ _ _ _ _ _ _ (hpre c)
    ⟨(i 0).val, (i 0).isLt⟩
  refine Eq.trans ?_ (Cert.Kernel6Ideal.Moe.result_apply m c ⟨(i 0).val, (i 0).isLt⟩ i hi hf).symm
  refine Eq.trans ?_ (Cert.Reference6Ideal.Moe.result_apply _ _ _ _ _ _ _ _ _ _ i _ hi hf)
  have e : ∀ (x0 y0 : FVec Ideal Cert.Reference6Ideal.S128x1x1024 .f32) (x1 y1 x9 y9 : FVec Ideal Cert.Reference6Ideal.S1024 .f32)
      (x2 y2 x3 y3 x4 y4 : FVec Ideal Cert.Reference6Ideal.S128x1024 .f32) (x5 y5 : FVec Ideal Cert.Reference6Ideal.S1024x8 .f32)
      (x6 y6 : FVec Ideal Cert.Reference6Ideal.S8 .f32) (x7 y7 : FVec Ideal Cert.Reference6Ideal.S8x1024x7168 .f32)
      (x8 y8 : FVec Ideal Cert.Reference6Ideal.S8x3584x1024 .f32), x0 = y0 → x1 = y1 → x2 = y2 → x3 = y3 → x4 = y4 → x5 = y5 →
      x6 = y6 → x7 = y7 → x8 = y8 → x9 = y9 → Cert.Reference6Ideal.Read.val_main_v168 (F := Ideal) x0 x1 x2 x3 x4 x5 x6 x7 x8 x9 i
        = Cert.Reference6Ideal.Read.val_main_v168 (F := Ideal) y0 y1 y2 y3 y4 y5 y6 y7 y8 y9 i := by
    intros
    subst_vars
    rfl
  exact e _ _ _ _ _ _ _ _ _ _ _ _ _ _ _ _ _ _ _ _ a0 a1 a2 a3 a4 a5 a6 a7 a8 a9

end Cert.Proof

end
-- ==== Proof.lean ====
/- The claims of the six programs, assembled. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Moe.Kernel
public import proofs.«01_k».proof.Proof.Moe.Reference
public import proofs.«01_k».proof.Proof.Moe.Routing
public import proofs.«01_k».proof.Proof.InProj.PromptClaim
public import proofs.«01_k».proof.Proof.InProj.SampleClaim
public import proofs.«01_k».proof.Proof.Dense.Claim
public import proofs.«01_k».proof.Proof.Glu.Claim
public import proofs.«01_k».proof.Proof.MoeSample.Claim
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, keeps its arguments and leaves no signal. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute one result over the extended reals, if each token's largest router logit is finite. -/
theorem algebraic_KernelIdeal_ReferenceIdeal :
    algebraic_KernelIdeal_ReferenceIdeal_pre_finite_routing (hPre_finite_routing := Cert.Pre_finite_routing.Moe.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v171_eq _)).trans ?_
  obtain ⟨a0, a1, a2, a3, a4, a5, a6, a7, a8, a9⟩ := hagree c
  funext i
  have h0 : (i 0).val < 16384 := (i 0).isLt
  have hi : 8192 * ((i 0).val / 8192) + (i 0).val % 8192 = (i 0).val := Nat.div_add_mod _ _
  have hf := Cert.Pre_finite_routing.Moe.finite_of_pre (hF := Cert.Pre_finite_routing.Moe.facts) _ _ _ _ _ _ _ _ _ _ (hpre c)
    ⟨(i 0).val / 8192, by omega⟩ ⟨(i 0).val % 8192, Nat.mod_lt _ (by decide)⟩
  refine Eq.trans ?_ (Cert.KernelIdeal.Moe.result_apply m c ⟨(i 0).val / 8192, by omega⟩ ⟨(i 0).val % 8192, Nat.mod_lt _ (by decide)⟩ i hi hf).symm
  refine Eq.trans ?_ (Cert.ReferenceIdeal.Moe.result_apply _ _ _ _ _ _ _ _ _ _ i _ _ hi hf)
  have e : ∀ (x0 y0 : FVec Ideal Cert.ReferenceIdeal.S2x8192x1024 .f32) (x1 y1 x9 y9 : FVec Ideal Cert.ReferenceIdeal.S1024 .f32)
      (x2 y2 x3 y3 x4 y4 : FVec Ideal Cert.ReferenceIdeal.S2x1024 .f32) (x5 y5 : FVec Ideal Cert.ReferenceIdeal.S1024x8 .f32)
      (x6 y6 : FVec Ideal Cert.ReferenceIdeal.S8 .f32) (x7 y7 : FVec Ideal Cert.ReferenceIdeal.S8x1024x7168 .f32)
      (x8 y8 : FVec Ideal Cert.ReferenceIdeal.S8x3584x1024 .f32), x0 = y0 → x1 = y1 → x2 = y2 → x3 = y3 → x4 = y4 → x5 = y5 →
      x6 = y6 → x7 = y7 → x8 = y8 → x9 = y9 → Cert.ReferenceIdeal.Read.val_main_v171 (F := Ideal) x0 x1 x2 x3 x4 x5 x6 x7 x8 x9 i
        = Cert.ReferenceIdeal.Read.val_main_v171 (F := Ideal) y0 y1 y2 y3 y4 y5 y6 y7 y8 y9 i := by
    intros
    subst_vars
    rfl
  exact e _ _ _ _ _ _ _ _ _ _ _ _ _ _ _ _ _ _ _ _ a0 a1 a2 a3 a4 a5 a6 a7 a8 a9

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_routing.Moe.facts, Cert.Pre_finite_routing_sample.Moe.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ,
  fun m ρ _ => Cert.Kernel6Ideal.Gen.frame m ρ, quiescent_Reference6Ideal, fun m ρ _ => quiescent_Reference6Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
